-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v145) = v0 c
          ∧ r.2.mem ((c.tc : Thread Cert.Reference4Ideal.nD Cert.Reference4Ideal.τ).loc Cert.Reference4Ideal.main_v146) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v77) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite5 : Cert.Pre_finite5.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite5.lean ====
abbrev S512x3456 : Shape := ⟨2, ![512, 3456]⟩
abbrev S1x32x128x2x64 : Shape := ⟨5, ![1, 32, 128, 2, 64]⟩
abbrev S1x8 : Shape := ⟨2, ![1, 8]⟩
abbrev S512x640 : Shape := ⟨2, ![512, 640]⟩
abbrev S_ : Shape := ⟨0, ![]⟩

class Facts : Prop where
  slices_S512x3456_S512x640_0_0 : S512x3456.Slices ![0, 0] S512x640
  bcast_S_S512x640 : S_.BroadcastsInDim S512x640 (![] : Fin 0 → Fin S512x640.rank)
  reducesTo_S512x640_S_d0_1 : S512x640.ReducesTo [0, 1] S_
  h_S_ : 0 < S_.numel
  bcast_S_S1x32x128x2x64 : S_.BroadcastsInDim S1x32x128x2x64 (![] : Fin 0 → Fin S1x32x128x2x64.rank)
  reducesTo_S1x32x128x2x64_S_d0_1_2_3_4 : S1x32x128x2x64.ReducesTo [0, 1, 2, 3, 4] S_
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S512x3456 .f32) (main_arg1 : FVec F S1x32x128x2x64 .f32) (main_arg2 : FVec F S1x32x128x2x64 .f32) (main_arg3 : FVec F S1x8 .f32) : IVec S_ 1 :=
  let main_v0 : FVec F S512x640 .f32 := (extractStridedSlice S512x640 ![0, 0] · slices_S512x3456_S512x640_0_0) main_arg0
  let main_v1 : FVec F S512x640 .f32 := Host.absf main_v0
  let main_cst : FVec F S_ .f32 := constant S_ .f32 0x7F800000#32
  let main_v2 : FVec F S512x640 .f32 := broadcastInDim S512x640 ![] bcast_S_S512x640 main_cst
  let main_v3 : IVec S512x640 1 := cmpf .olt main_v1 main_v2
  let main_c : IVec S_ 1 := constantI S_ 1 1#1
  let main_v4 : IVec S_ 1 := (fun x v => Host.reduce IntOp.andi x v reducesTo_S512x640_S_d0_1 h_S_) main_v3 main_c
  let main_v5 : FVec F S1x32x128x2x64 .f32 := Host.absf main_arg1
  let main_cst_0 : FVec F S_ .f32 := constant S_ .f32 0x7F800000#32
  let main_v6 : FVec F S1x32x128x2x64 .f32 := broadcastInDim S1x32x128x2x64 ![] bcast_S_S1x32x128x2x64 main_cst_0
  let main_v7 : IVec S1x32x128x2x64 1 := cmpf .olt main_v5 main_v6
  let main_c_1 : IVec S_ 1 := constantI S_ 1 1#1
  let main_v8 : IVec S_ 1 := (fun x v => Host.reduce IntOp.andi x v reducesTo_S1x32x128x2x64_S_d0_1_2_3_4 h_S_) main_v7 main_c_1
  let main_v9 : IVec S_ 1 := andi main_v4 main_v8
  let main_v10 : FVec F S1x8 .f32 := Host.absf main_arg3
  let main_cst_2 : FVec F S_ .f32 := constant S_ .f32 0x7F800000#32
  let main_v11 : FVec F S1x8 .f32 := broadcastInDim S1x8 ![] bcast_S_S1x8 main_cst_2
  let main_v12 : IVec S1x8 1 := cmpf .olt main_v10 main_v11
  let main_c_3 : IVec S_ 1 := constantI S_ 1 1#1
  let main_v13 : IVec S_ 1 := (fun x v => Host.reduce IntOp.andi x v reducesTo_S1x8_S_d0_1 h_S_) main_v12 main_c_3
  let main_v14 : IVec S_ 1 := andi main_v9 main_v13
  main_v14
-- ==== Kernel.lean ====
abbrev S8x2048x1024 : Shape := ⟨3, ![8, 2048, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x4x256x256 : Shape := ⟨4, ![1, 4, 256, 256]⟩
abbrev S16384x1024 : Shape := ⟨2, ![16384, 1024]⟩
abbrev S1024x1024 : Shape := ⟨2, ![1024, 1024]⟩
abbrev S512x1024 : Shape := ⟨2, ![512, 1024]⟩
abbrev S1024 : Shape := ⟨1, ![1024]⟩
abbrev S1024x2048 : Shape := ⟨2, ![1024, 2048]⟩
abbrev S4x256x256 : Shape := ⟨3, ![4, 256, 256]⟩
abbrev S_ : Shape := ⟨0, ![]⟩
abbrev S8x16x1024 : Shape := ⟨3, ![8, 16, 1024]⟩
abbrev S1024x512 : Shape := ⟨2, ![1024, 512]⟩
abbrev S1x16x1024 : Shape := ⟨3, ![1, 16, 1024]⟩
abbrev S1x1040x1024 : Shape := ⟨3, ![1, 1040, 1024]⟩
abbrev S1x16x1 : Shape := ⟨3, ![1, 16, 1]⟩
abbrev S1024x1 : Shape := ⟨2, ![1024, 1]⟩
abbrev S1x1040x256 : Shape := ⟨3, ![1, 1040, 256]⟩
abbrev S1040x256 : Shape := ⟨2, ![1040, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 30
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x2048, .f32⟩
  | .hbm, ⟨6, _⟩ => ⟨S1x4x256x256, .f32⟩
  | .hbm, ⟨7, _⟩ => ⟨S1x1024, .f32⟩
  | .hbm, ⟨8, _⟩ => ⟨S1x1024x1024, .f32⟩
  | .hbm, ⟨9, _⟩ => ⟨S16384x1024, .f32⟩
  | .hbm, ⟨10, _⟩ => ⟨S1024x1024, .f32⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S512x1024, .f32⟩
  | .hbm, ⟨15, _⟩ => ⟨S512x1024, .bf16⟩
  | .hbm, ⟨16, _⟩ => ⟨S1024, .f32⟩
  | .hbm, ⟨17, _⟩ => ⟨S1x1024, .f32⟩
  | .hbm, ⟨18, _⟩ => ⟨S1024x2048, .f32⟩
  | .hbm, ⟨19, _⟩ => ⟨S1024x2048, .bf16⟩
  | .hbm, ⟨20, _⟩ => ⟨S4x256x256, .f32⟩
  | .hbm, ⟨21, _⟩ => ⟨S4x256x256, .bf16⟩
  | .hbm, ⟨22, _⟩ => ⟨S1024, .f32⟩
  | .hbm, ⟨23, _⟩ => ⟨S1x1024, .f32⟩
  | .hbm, ⟨24, _⟩ => ⟨S1024x1024, .f32⟩
  | .hbm, ⟨25, _⟩ => ⟨S1024x1024, .bf16⟩
  | .hbm, ⟨26, _⟩ => ⟨S_, .f32⟩
  | .hbm, ⟨27, _⟩ => ⟨S8x16x1024, .f32⟩
  | .hbm, ⟨28, _⟩ => ⟨S16384x1024, .f32⟩
  | .hbm, ⟨29, _⟩ => ⟨S8x16x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x16x1024, .f32⟩
  | .local _ .vmem, ⟨9, _⟩ => ⟨S1x16x1024, .f32⟩
  | .local _ .vmem, ⟨10, _⟩ => ⟨S1x1024, .f32⟩
  | .local _ .vmem, ⟨11, _⟩ => ⟨S1024x2048, .bf16⟩
  | .local _ .vmem, ⟨12, _⟩ => ⟨S4x256x256, .bf16⟩
  | .local _ .vmem, ⟨13, _⟩ => ⟨S1x1024, .f32⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S1x16x1024, .f32⟩
  | .local _ .vmem, ⟨18, _⟩ => ⟨S1x16x1024, .f32⟩
  | .local _ .vmem, ⟨19, _⟩ => ⟨S1x1040x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8x2048x1024 : Shape := ⟨3, ![8, 2048, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x4x256x256 : Shape := ⟨4, ![1, 4, 256, 256]⟩
abbrev S8x2048x512 : Shape := ⟨3, ![8, 2048, 512]⟩
abbrev S1024x1024 : Shape := ⟨2, ![1024, 1024]⟩
abbrev S_ : Shape := ⟨0, ![]⟩
abbrev S8x15x1024 : Shape := ⟨3, ![8, 15, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1024x2048 : Shape := ⟨2, ![1024, 2048]⟩
abbrev S8x2048x2048 : Shape := ⟨3, ![8, 2048, 2048]⟩
abbrev S8x2063x1024 : Shape := ⟨3, ![8, 2063, 1024]⟩
abbrev S2063 : Shape := ⟨1, ![2063]⟩
abbrev S1x2063x1 : Shape := ⟨3, ![1, 2063, 1]⟩
abbrev S8x2048x256 : Shape := ⟨3, ![8, 2048, 256]⟩
abbrev S2048 : Shape := ⟨1, ![2048]⟩
abbrev S1x2048x1 : Shape := ⟨3, ![1, 2048, 1]⟩
abbrev S8x2048x4x256 : Shape := ⟨4, ![8, 2048, 4, 256]⟩
abbrev S4x256x256 : Shape := ⟨3, ![4, 256, 256]⟩
abbrev S4x256x8x2048 : Shape := ⟨4, ![4, 256, 8, 2048]⟩
abbrev S16384x1024 : Shape := ⟨2, ![16384, 1024]⟩
abbrev S8x16x1024 : Shape := ⟨3, ![8, 16, 1024]⟩

abbrev nBuf : Space → Nat
  | .hbm => 178
  | .vmem => 0
  | .smem => 0
  | _ => 0

abbrev hbmTy0_0 (i : Nat) : BufTy := match i % 128 with
  | 0 => ⟨S8x2048x1024, .f32⟩
  | 1 => ⟨S16384x512, .bf16⟩
  | 2 => ⟨S16384x512, .bf16⟩
  | 3 => ⟨S1x1024x1024, .f32⟩
  | 4 => ⟨S1x1024, .f32⟩
  | 5 => ⟨S1x1024x2048, .f32⟩
  | 6 => ⟨S1x4x256x256, .f32⟩
  | 7 => ⟨S1x1024, .f32⟩
  | 8 => ⟨S1x1024x1024, .f32⟩
  | 9 => ⟨S8x2048x512, .bf16⟩
  | 10 => ⟨S8x2048x512, .f32⟩
  | 11 => ⟨S8x2048x512, .bf16⟩
  | 12 => ⟨S8x2048x512, .f32⟩
  | 13 => ⟨S8x2048x1024, .f32⟩
  | 14 => ⟨S1024x1024, .f32⟩
  | 15 => ⟨S8x2048x1024, .f32⟩
  | 16 => ⟨S8x2048x1024, .f32⟩
  | 17 => ⟨S_, .f32⟩
  | 18 => ⟨S8x15x1024, .f32⟩
  | 19 => ⟨S1024, .f32⟩
  | 20 => ⟨S8x2048x1024, .f32⟩
  | 21 => ⟨S_, .f32⟩
  | 22 => ⟨S8x2048, .f32⟩
  | 23 => ⟨S8x2048x1, .f32⟩
  | 24 => ⟨S_, .f32⟩
  | 25 => ⟨S8x2048x1, .f32⟩
  | 26 => ⟨S8x2048x1, .f32⟩
  | 27 => ⟨S_, .f32⟩
  | 28 => ⟨S8x2048x1, .f32⟩
  | 29 => ⟨S8x2048x1, .f32⟩
  | 30 => ⟨S8x2048x1, .f32⟩
  | 31 => ⟨S8x2048x1024, .f32⟩
  | 32 => ⟨S8x2048x1024, .f32⟩
  | 33 => ⟨S1x1x1024, .f32⟩
  | 34 => ⟨S8x2048x1024, .f32⟩
  | 35 => ⟨S8x2048x1024, .f32⟩
  | 36 => ⟨S1024x2048, .f32⟩
  | 37 => ⟨S8x2048x2048, .f32⟩
  | 38 => ⟨S8x2048x1024, .f32⟩
  | 39 => ⟨S8x2048x1024, .f32⟩
  | 40 => ⟨S8x2063x1024, .f32⟩
  | 41 => ⟨S2063, .i32⟩
  | 42 => ⟨S_, .i32⟩
  | 43 => ⟨S2063, .i32⟩
  | 44 => ⟨S2063, .i32⟩
  | 45 => ⟨S_, .i32⟩
  | 46 => ⟨S2063, .i32⟩
  | 47 => ⟨S2063, .i1⟩
  | 48 => ⟨S2063, .f32⟩
  | 49 => ⟨S1x2063x1, .f32⟩
  | 50 => ⟨S8x2063x1024, .f32⟩
  | 51 => ⟨S8x2063x1024, .f32⟩
  | 52 => ⟨S8x2048x256, .f32⟩
  | 53 => ⟨S8x2048x256, .f32⟩
  | 54 => ⟨S8x2048x256, .f32⟩
  | 55 => ⟨S2048, .i32⟩
  | 56 => ⟨S_, .i32⟩
  | 57 => ⟨S2048, .i32⟩
  | 58 => ⟨S2048, .i32⟩
  | 59 => ⟨S_, .i32⟩
  | 60 => ⟨S2048, .i32⟩
  | 61 => ⟨S2048, .i32⟩
  | 62 => ⟨S2048, .f32⟩
  | 63 => ⟨S1x2048x1, .f32⟩
  | 64 => ⟨S8x2048x256, .f32⟩
  | 65 => ⟨S8x2048x256, .f32⟩
  | 66 => ⟨S8x2048x256, .f32⟩
  | 67 => ⟨S8x2048x256, .f32⟩
  | 68 => ⟨S8x2048x256, .f32⟩
  | 69 => ⟨S8x2048x256, .f32⟩
  | 70 => ⟨S8x2048x256, .f32⟩
  | 71 => ⟨S8x2048x256, .f32⟩
  | 72 => ⟨S8x2048x256, .f32⟩
  | 73 => ⟨S2048, .i32⟩
  | 74 => ⟨S_, .i32⟩
  | 75 => ⟨S2048, .i32⟩
  | 76 => ⟨S2048, .i32⟩
  | 77 => ⟨S_, .i32⟩
  | 78 => ⟨S2048, .i32⟩
  | 79 => ⟨S2048, .i32⟩
  | 80 => ⟨S2048, .f32⟩
  | 81 => ⟨S1x2048x1, .f32⟩
  | 82 => ⟨S8x2048x256, .f32⟩
  | 83 => ⟨S8x2048x256, .f32⟩
  | 84 => ⟨S8x2048x256, .f32⟩
  | 85 => ⟨S8x2048x256, .f32⟩
  | 86 => ⟨S8x2048x256, .f32⟩
  | 87 => ⟨S8x2048x256, .f32⟩
  | 88 => ⟨S8x2048x256, .f32⟩
  | 89 => ⟨S8x2048x256, .f32⟩
  | 90 => ⟨S8x2048x256, .f32⟩
  | 91 => ⟨S8x2048x256, .f32⟩
  | 92 => ⟨S8x2048x256, .f32⟩
  | 93 => ⟨S8x2048x256, .f32⟩
  | 94 => ⟨S8x2048x256, .f32⟩
  | 95 => ⟨S8x2048x256, .f32⟩
  | 96 => ⟨S8x2048x256, .f32⟩
  | 97 => ⟨S8x2048x256, .f32⟩
  | 98 => ⟨S8x2048x256, .f32⟩
  | 99 => ⟨S2048, .i32⟩
  | 100 => ⟨S_, .i32⟩
  | 101 => ⟨S2048, .i32⟩
  | 102 => ⟨S2048, .i32⟩
  | 103 => ⟨S_, .i32⟩
  | 104 => ⟨S2048, .i32⟩
  | 105 => ⟨S2048, .i32⟩
  | 106 => ⟨S2048, .f32⟩
  | 107 => ⟨S1x2048x1, .f32⟩
  | 108 => ⟨S8x2048x256, .f32⟩
  | 109 => ⟨S8x2048x256, .f32⟩
  | 110 => ⟨S8x2048x256, .f32⟩
  | 111 => ⟨S8x2048x256, .f32⟩
  | 112 => ⟨S8x2048x256, .f32⟩
  | 113 => ⟨S8x2048x256, .f32⟩
  | 114 => ⟨S8x2048x256, .f32⟩
  | 115 => ⟨S8x2048x256, .f32⟩
  | 116 => ⟨S8x2048x256, .f32⟩
  | 117 => ⟨S8x2048x256, .f32⟩
  | 118 => ⟨S8x2048x256, .f32⟩
  | 119 => ⟨S8x2048x256, .f32⟩
  | 120 => ⟨S8x2048x256, .f32⟩
  | 121 => ⟨S8x2048x256, .f32⟩
  | 122 => ⟨S8x2048x256, .f32⟩
  | 123 => ⟨S8x2048x256, .f32⟩
  | 124 => ⟨S8x2048x256, .f32⟩
  | 125 => ⟨S8x2048x256, .f32⟩
  | 126 => ⟨S8x2048x256, .f32⟩
  | 127 => ⟨S8x2048x256, .f32⟩
  | _ => ⟨S8x2048x1024, .f32⟩

abbrev hbmTy0_1 (i : Nat) : BufTy := match i % 128 with
  | 0 => ⟨S8x2048x256, .f32⟩
  | 1 => ⟨S8x2048x256, .f32⟩
  | 2 => ⟨S8x2048x256, .f32⟩
  | 3 => ⟨S8x2048x256, .f32⟩
  | 4 => ⟨S8x2048x256, .f32⟩
  | 5 => ⟨S8x2048x256, .f32⟩
  | 6 => ⟨S8x2048x256, .f32⟩
  | 7 => ⟨S8x2048x256, .f32⟩
  | 8 => ⟨S8x2048x256, .f32⟩
  | 9 => ⟨S8x2048x256, .f32⟩
  | 10 => ⟨S8x2048x256, .f32⟩
  | 11 => ⟨S8x2048x256, .f32⟩
  | 12 => ⟨S8x2048x256, .f32⟩
  | 13 => ⟨S2048, .i32⟩
  | 14 => ⟨S_, .i32⟩
  | 15 => ⟨S2048, .i32⟩
  | 16 => ⟨S2048, .i32⟩
  | 17 => ⟨S_, .i32⟩
  | 18 => ⟨S2048, .i32⟩
  | 19 => ⟨S2048, .i32⟩
  | 20 => ⟨S2048, .f32⟩
  | 21 => ⟨S1x2048x1, .f32⟩
  | 22 => ⟨S8x2048x256, .f32⟩
  | 23 => ⟨S8x2048x256, .f32⟩
  | 24 => ⟨S8x2048x1024, .f32⟩
  | 25 => ⟨S8x2048x1024, .f32⟩
  | 26 => ⟨S8x2048x4x256, .f32⟩
  | 27 => ⟨S4x256x256, .f32⟩
  | 28 => ⟨S4x256x8x2048, .f32⟩
  | 29 => ⟨S8x2048x4x256, .f32⟩
  | 30 => ⟨S8x2048x1024, .f32⟩
  | 31 => ⟨S1024, .f32⟩
  | 32 => ⟨S1x1x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S_, .f32⟩
  | 38 => ⟨S8x2048x1024, .f32⟩
  | 39 => ⟨S8x2048x1024, .f32⟩
  | 40 => ⟨S_, .f32⟩
  | 41 => ⟨S8x2048x1024, .f32⟩
  | 42 => ⟨S8x2048x1024, .f32⟩
  | 43 => ⟨S8x2048x1024, .f32⟩
  | 44 => ⟨S8x2048x1024, .f32⟩
  | 45 => ⟨S1024x1024, .f32⟩
  | 46 => ⟨S8x2048x1024, .f32⟩
  | 47 => ⟨S8x2048x1024, .f32⟩
  | 48 => ⟨S16384x1024, .f32⟩
  | 49 => ⟨S8x16x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_4 : Ref sig .tc := ⟨.hbm, 56, rfl⟩
abbrev main_v41 : Ref sig .tc := ⟨.hbm, 57, rfl⟩
abbrev main_v42 : Ref sig .tc := ⟨.hbm, 58, rfl⟩
abbrev main_c_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_6 : Ref sig .tc := ⟨.hbm, 74, rfl⟩
abbrev main_v57 : Ref sig .tc := ⟨.hbm, 75, rfl⟩
abbrev main_v58 : Ref sig .tc := ⟨.hbm, 76, rfl⟩
abbrev main_c_7 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_c_8 : Ref sig .tc := ⟨.hbm, 100, rfl⟩
abbrev main_v81 : Ref sig .tc := ⟨.hbm, 101, rfl⟩
abbrev main_v82 : Ref sig .tc := ⟨.hbm, 102, rfl⟩
abbrev main_c_9 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_c_10 : Ref sig .tc := ⟨.hbm, 142, rfl⟩
abbrev main_v121 : Ref sig .tc := ⟨.hbm, 143, rfl⟩
abbrev main_v122 : Ref sig .tc := ⟨.hbm, 144, rfl⟩
abbrev main_c_11 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_call0_v0 : Ref sig .tc := ⟨.hbm, 163, rfl⟩
abbrev main_call0_v1 : Ref sig .tc := ⟨.hbm, 164, rfl⟩
abbrev main_call0_cst : Ref sig .tc := ⟨.hbm, 165, rfl⟩
abbrev main_call0_v2 : Ref sig .tc := ⟨.hbm, 166, rfl⟩
abbrev main_call0_v3 : Ref sig .tc := ⟨.hbm, 167, rfl⟩
abbrev main_call0_cst_0 : Ref sig .tc := ⟨.hbm, 168, rfl⟩
abbrev main_call0_v4 : Ref sig .tc := ⟨.hbm, 169, rfl⟩
abbrev main_call0_v5 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1x1024x3336 : Shape := ⟨3, ![1, 1024, 3336]⟩
abbrev S1x64 : Shape := ⟨2, ![1, 64]⟩
abbrev S16384x1024 : Shape := ⟨2, ![16384, 1024]⟩
abbrev S1024x3336 : Shape := ⟨2, ![1024, 3336]⟩
abbrev S3336x1024 : Shape := ⟨2, ![3336, 1024]⟩
abbrev S64 : Shape := ⟨1, ![64]⟩
abbrev S2x64 : Shape := ⟨2, ![2, 64]⟩
abbrev S128 : Shape := ⟨1, ![128]⟩
abbrev S1x128 : Shape := ⟨2, ![1, 128]⟩
abbrev S1024 : Shape := ⟨1, ![1024]⟩
abbrev S16384x3456 : Shape := ⟨2, ![16384, 3456]⟩
abbrev S1024x1024 : Shape := ⟨2, ![1024, 1024]⟩
abbrev S1024x3456 : Shape := ⟨2, ![1024, 3456]⟩
abbrev S1024x1 : Shape := ⟨2, ![1024, 1]⟩
abbrev S1024x128 : Shape := ⟨2, ![1024, 128]⟩

abbrev nBuf : Space → Nat
  | .hbm => 22
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3336, .f32⟩
  | .hbm, ⟨3, _⟩ => ⟨S1x64, .f32⟩
  | .hbm, ⟨4, _⟩ => ⟨S1x64, .f32⟩
  | .hbm, ⟨5, _⟩ => ⟨S16384x1024, .f32⟩
  | .hbm, ⟨6, _⟩ => ⟨S1024x3336, .f32⟩
  | .hbm, ⟨7, _⟩ => ⟨S3336x1024, .f32⟩
  | .hbm, ⟨8, _⟩ => ⟨S3336x1024, .bf16⟩
  | .hbm, ⟨9, _⟩ => ⟨S64, .f32⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S64, .f32⟩
  | .hbm, ⟨15, _⟩ => ⟨S1x64, .f32⟩
  | .hbm, ⟨16, _⟩ => ⟨S2x64, .f32⟩
  | .hbm, ⟨17, _⟩ => ⟨S128, .f32⟩
  | .hbm, ⟨18, _⟩ => ⟨S1x128, .f32⟩
  | .hbm, ⟨19, _⟩ => ⟨S1024, .f32⟩
  | .hbm, ⟨20, _⟩ => ⟨S1x1024, .f32⟩
  | .hbm, ⟨21, _⟩ => ⟨S16384x3456, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S3336x1024, .bf16⟩
  | .local _ .vmem, ⟨4, _⟩ => ⟨S1x128, .f32⟩
  | .local _ .vmem, ⟨5, _⟩ => ⟨S1x128, .f32⟩
  | .local _ .vmem, ⟨6, _⟩ => ⟨S1024x3456, .f32⟩
  | .local _ .vmem, ⟨7, _⟩ => ⟨S1024x3456, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3336x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x3456 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x2048x1024 : Shape := ⟨3, ![8, 2048, 1024]⟩
abbrev S1x1024 : Shape := ⟨2, ![1, 1024]⟩
abbrev S1x1024x3336 : Shape := ⟨3, ![1, 1024, 3336]⟩
abbrev S1x64 : Shape := ⟨2, ![1, 64]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3336 : Shape := ⟨2, ![1024, 3336]⟩
abbrev S8x2048x3336 : Shape := ⟨3, ![8, 2048, 3336]⟩
abbrev S8x2048x512 : Shape := ⟨3, ![8, 2048, 512]⟩
abbrev S8x2048x8x64 : Shape := ⟨4, ![8, 2048, 8, 64]⟩
abbrev S64 : Shape := ⟨1, ![64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x128 : Shape := ⟨3, ![8, 2048, 128]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x2048x120 : Shape := ⟨3, ![8, 2048, 120]⟩
abbrev S8x2048x2696 : Shape := ⟨3, ![8, 2048, 2696]⟩
abbrev S8x2048x3456 : Shape := ⟨3, ![8, 2048, 3456]⟩
abbrev S16384x3456 : Shape := ⟨2, ![16384, 3456]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3336, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x3336, .f32⟩
  | .hbm, ⟨23, _⟩ => ⟨S8x2048x3336, .f32⟩
  | .hbm, ⟨24, _⟩ => ⟨S8x2048x512, .f32⟩
  | .hbm, ⟨25, _⟩ => ⟨S8x2048x8x64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S8x2048x8x64, .f32⟩
  | .hbm, ⟨31, _⟩ => ⟨S_, .f32⟩
  | .hbm, ⟨32, _⟩ => ⟨S8x2048x8, .f32⟩
  | .hbm, ⟨33, _⟩ => ⟨S8x2048x8x1, .f32⟩
  | .hbm, ⟨34, _⟩ => ⟨S_, .f32⟩
  | .hbm, ⟨35, _⟩ => ⟨S8x2048x8x1, .f32⟩
  | .hbm, ⟨36, _⟩ => ⟨S8x2048x8x1, .f32⟩
  | .hbm, ⟨37, _⟩ => ⟨S_, .f32⟩
  | .hbm, ⟨38, _⟩ => ⟨S8x2048x8x1, .f32⟩
  | .hbm, ⟨39, _⟩ => ⟨S8x2048x8x1, .f32⟩
  | .hbm, ⟨40, _⟩ => ⟨S8x2048x8x1, .f32⟩
  | .hbm, ⟨41, _⟩ => ⟨S8x2048x8x64, .f32⟩
  | .hbm, ⟨42, _⟩ => ⟨S8x2048x8x64, .f32⟩
  | .hbm, ⟨43, _⟩ => ⟨S1x1x1x64, .f32⟩
  | .hbm, ⟨44, _⟩ => ⟨S8x2048x8x64, .f32⟩
  | .hbm, ⟨45, _⟩ => ⟨S8x2048x8x64, .f32⟩
  | .hbm, ⟨46, _⟩ => ⟨S8x2048x128, .f32⟩
  | .hbm, ⟨47, _⟩ => ⟨S8x2048x2x64, .f32⟩
  | .hbm, ⟨48, _⟩ => ⟨S64, .f32⟩
  | .hbm, ⟨49, _⟩ => ⟨S8x2048x2x64, .f32⟩
  | .hbm, ⟨50, _⟩ => ⟨S_, .f32⟩
  | .hbm, ⟨51, _⟩ => ⟨S8x2048x2, .f32⟩
  | .hbm, ⟨52, _⟩ => ⟨S8x2048x2x1, .f32⟩
  | .hbm, ⟨53, _⟩ => ⟨S_, .f32⟩
  | .hbm, ⟨54, _⟩ => ⟨S8x2048x2x1, .f32⟩
  | .hbm, ⟨55, _⟩ => ⟨S8x2048x2x1, .f32⟩
  | .hbm, ⟨56, _⟩ => ⟨S_, .f32⟩
  | .hbm, ⟨57, _⟩ => ⟨S8x2048x2x1, .f32⟩
  | .hbm, ⟨58, _⟩ => ⟨S8x2048x2x1, .f32⟩
  | .hbm, ⟨59, _⟩ => ⟨S8x2048x2x1, .f32⟩
  | .hbm, ⟨60, _⟩ => ⟨S8x2048x2x64, .f32⟩
  | .hbm, ⟨61, _⟩ => ⟨S8x2048x2x64, .f32⟩
  | .hbm, ⟨62, _⟩ => ⟨S1x1x1x64, .f32⟩
  | .hbm, ⟨63, _⟩ => ⟨S8x2048x2x64, .f32⟩
  | .hbm, ⟨64, _⟩ => ⟨S8x2048x2x64, .f32⟩
  | .hbm, ⟨65, _⟩ => ⟨S_, .f32⟩
  | .hbm, ⟨66, _⟩ => ⟨S8x2048x120, .f32⟩
  | .hbm, ⟨67, _⟩ => ⟨S8x2048x512, .f32⟩
  | .hbm, ⟨68, _⟩ => ⟨S8x2048x128, .f32⟩
  | .hbm, ⟨69, _⟩ => ⟨S8x2048x2696, .f32⟩
  | .hbm, ⟨70, _⟩ => ⟨S8x2048x3456, .f32⟩
  | .hbm, ⟨71, _⟩ => ⟨S16384x3456, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Kernel3.lean ====
abbrev S32x16x1024 : Shape := ⟨3, ![32, 16, 1024]⟩
abbrev S1x1024 : Shape := ⟨2, ![1, 1024]⟩
abbrev S1x1024x3336 : Shape := ⟨3, ![1, 1024, 3336]⟩
abbrev S1x64 : Shape := ⟨2, ![1, 64]⟩
abbrev S512x1024 : Shape := ⟨2, ![512, 1024]⟩
abbrev S1024x3336 : Shape := ⟨2, ![1024, 3336]⟩
abbrev S3336x1024 : Shape := ⟨2, ![3336, 1024]⟩
abbrev S64 : Shape := ⟨1, ![64]⟩
abbrev S2x64 : Shape := ⟨2, ![2, 64]⟩
abbrev S128 : Shape := ⟨1, ![128]⟩
abbrev S1x128 : Shape := ⟨2, ![1, 128]⟩
abbrev S1024 : Shape := ⟨1, ![1024]⟩
abbrev S512x3456 : Shape := ⟨2, ![512, 3456]⟩
abbrev S256x1024 : Shape := ⟨2, ![256, 1024]⟩
abbrev S256x3456 : Shape := ⟨2, ![256, 3456]⟩
abbrev S256 : Shape := ⟨1, ![256]⟩
abbrev S256x1 : Shape := ⟨2, ![256, 1]⟩
abbrev S256x128 : Shape := ⟨2, ![256, 128]⟩
abbrev S256x3336 : Shape := ⟨2, ![256, 3336]⟩

abbrev nBuf : Space → Nat
  | .hbm => 22
  | .vmem => 8
  | .smem => 0
  | _ => 0

abbrev bufTy : (tb : Table) → Fin (tcTables nBuf tb) → BufTy
  | .hbm, ⟨0, _⟩ => ⟨S32x16x1024, .f32⟩
  | .hbm, ⟨1, _⟩ => ⟨S1x1024, .f32⟩
  | .hbm, ⟨2, _⟩ => ⟨S1x1024x3336, .f32⟩
  | .hbm, ⟨3, _⟩ => ⟨S1x64, .f32⟩
  | .hbm, ⟨4, _⟩ => ⟨S1x64, .f32⟩
  | .hbm, ⟨5, _⟩ => ⟨S512x1024, .f32⟩
  | .hbm, ⟨6, _⟩ => ⟨S1024x3336, .f32⟩
  | .hbm, ⟨7, _⟩ => ⟨S3336x1024, .f32⟩
  | .hbm, ⟨8, _⟩ => ⟨S3336x1024, .bf16⟩
  | .hbm, ⟨9, _⟩ => ⟨S64, .f32⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S64, .f32⟩
  | .hbm, ⟨15, _⟩ => ⟨S1x64, .f32⟩
  | .hbm, ⟨16, _⟩ => ⟨S2x64, .f32⟩
  | .hbm, ⟨17, _⟩ => ⟨S128, .f32⟩
  | .hbm, ⟨18, _⟩ => ⟨S1x128, .f32⟩
  | .hbm, ⟨19, _⟩ => ⟨S1024, .f32⟩
  | .hbm, ⟨20, _⟩ => ⟨S1x1024, .f32⟩
  | .hbm, ⟨21, _⟩ => ⟨S512x3456, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S3336x1024, .bf16⟩
  | .local _ .vmem, ⟨4, _⟩ => ⟨S1x128, .f32⟩
  | .local _ .vmem, ⟨5, _⟩ => ⟨S1x128, .f32⟩
  | .local _ .vmem, ⟨6, _⟩ => ⟨S256x3456, .f32⟩
  | .local _ .vmem, ⟨7, _⟩ => ⟨S256x3456, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3336x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3456 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32x16x1024 : Shape := ⟨3, ![32, 16, 1024]⟩
abbrev S1x1024 : Shape := ⟨2, ![1, 1024]⟩
abbrev S1x1024x3336 : Shape := ⟨3, ![1, 1024, 3336]⟩
abbrev S1x64 : Shape := ⟨2, ![1, 64]⟩
abbrev S1024 : Shape := ⟨1, ![1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩
abbrev S1024x3336 : Shape := ⟨2, ![1024, 3336]⟩
abbrev S32x16x3336 : Shape := ⟨3, ![32, 16, 3336]⟩
abbrev S32x16x512 : Shape := ⟨3, ![32, 16, 512]⟩
abbrev S32x16x8x64 : Shape := ⟨4, ![32, 16, 8, 64]⟩
abbrev S64 : Shape := ⟨1, ![64]⟩
abbrev S32x16x8 : Shape := ⟨3, ![32, 16, 8]⟩
abbrev S32x16x8x1 : Shape := ⟨4, ![32, 16, 8, 1]⟩
abbrev S1x1x1x64 : Shape := ⟨4, ![1, 1, 1, 64]⟩
abbrev S32x16x128 : Shape := ⟨3, ![32, 16, 128]⟩
abbrev S32x16x2x64 : Shape := ⟨4, ![32, 16, 2, 64]⟩
abbrev S32x16x2 : Shape := ⟨3, ![32, 16, 2]⟩
abbrev S32x16x2x1 : Shape := ⟨4, ![32, 16, 2, 1]⟩
abbrev S32x16x120 : Shape := ⟨3, ![32, 16, 120]⟩
abbrev S32x16x2696 : Shape := ⟨3, ![32, 16, 2696]⟩
abbrev S32x16x3456 : Shape := ⟨3, ![32, 16, 3456]⟩
abbrev S512x3456 : Shape := ⟨2, ![512, 3456]⟩

abbrev nBuf : Space → Nat
  | .hbm => 72
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S1x1024, .f32⟩
  | .hbm, ⟨2, _⟩ => ⟨S1x1024x3336, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S32x16x1024, .f32⟩
  | .hbm, ⟨7, _⟩ => ⟨S_, .f32⟩
  | .hbm, ⟨8, _⟩ => ⟨S32x16, .f32⟩
  | .hbm, ⟨9, _⟩ => ⟨S32x16x1, .f32⟩
  | .hbm, ⟨10, _⟩ => ⟨S_, .f32⟩
  | .hbm, ⟨11, _⟩ => ⟨S32x16x1, .f32⟩
  | .hbm, ⟨12, _⟩ => ⟨S32x16x1, .f32⟩
  | .hbm, ⟨13, _⟩ => ⟨S_, .f32⟩
  | .hbm, ⟨14, _⟩ => ⟨S32x16x1, .f32⟩
  | .hbm, ⟨15, _⟩ => ⟨S32x16x1, .f32⟩
  | .hbm, ⟨16, _⟩ => ⟨S32x16x1, .f32⟩
  | .hbm, ⟨17, _⟩ => ⟨S32x16x1024, .f32⟩
  | .hbm, ⟨18, _⟩ => ⟨S32x16x1024, .f32⟩
  | .hbm, ⟨19, _⟩ => ⟨S1x1x1024, .f32⟩
  | .hbm, ⟨20, _⟩ => ⟨S32x16x1024, .f32⟩
  | .hbm, ⟨21, _⟩ => ⟨S32x16x1024, .f32⟩
  | .hbm, ⟨22, _⟩ => ⟨S1024x3336, .f32⟩
  | .hbm, ⟨23, _⟩ => ⟨S32x16x3336, .f32⟩
  | .hbm, ⟨24, _⟩ => ⟨S32x16x512, .f32⟩
  | .hbm, ⟨25, _⟩ => ⟨S32x16x8x64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S32x16x8x64, .f32⟩
  | .hbm, ⟨31, _⟩ => ⟨S_, .f32⟩
  | .hbm, ⟨32, _⟩ => ⟨S32x16x8, .f32⟩
  | .hbm, ⟨33, _⟩ => ⟨S32x16x8x1, .f32⟩
  | .hbm, ⟨34, _⟩ => ⟨S_, .f32⟩
  | .hbm, ⟨35, _⟩ => ⟨S32x16x8x1, .f32⟩
  | .hbm, ⟨36, _⟩ => ⟨S32x16x8x1, .f32⟩
  | .hbm, ⟨37, _⟩ => ⟨S_, .f32⟩
  | .hbm, ⟨38, _⟩ => ⟨S32x16x8x1, .f32⟩
  | .hbm, ⟨39, _⟩ => ⟨S32x16x8x1, .f32⟩
  | .hbm, ⟨40, _⟩ => ⟨S32x16x8x1, .f32⟩
  | .hbm, ⟨41, _⟩ => ⟨S32x16x8x64, .f32⟩
  | .hbm, ⟨42, _⟩ => ⟨S32x16x8x64, .f32⟩
  | .hbm, ⟨43, _⟩ => ⟨S1x1x1x64, .f32⟩
  | .hbm, ⟨44, _⟩ => ⟨S32x16x8x64, .f32⟩
  | .hbm, ⟨45, _⟩ => ⟨S32x16x8x64, .f32⟩
  | .hbm, ⟨46, _⟩ => ⟨S32x16x128, .f32⟩
  | .hbm, ⟨47, _⟩ => ⟨S32x16x2x64, .f32⟩
  | .hbm, ⟨48, _⟩ => ⟨S64, .f32⟩
  | .hbm, ⟨49, _⟩ => ⟨S32x16x2x64, .f32⟩
  | .hbm, ⟨50, _⟩ => ⟨S_, .f32⟩
  | .hbm, ⟨51, _⟩ => ⟨S32x16x2, .f32⟩
  | .hbm, ⟨52, _⟩ => ⟨S32x16x2x1, .f32⟩
  | .hbm, ⟨53, _⟩ => ⟨S_, .f32⟩
  | .hbm, ⟨54, _⟩ => ⟨S32x16x2x1, .f32⟩
  | .hbm, ⟨55, _⟩ => ⟨S32x16x2x1, .f32⟩
  | .hbm, ⟨56, _⟩ => ⟨S_, .f32⟩
  | .hbm, ⟨57, _⟩ => ⟨S32x16x2x1, .f32⟩
  | .hbm, ⟨58, _⟩ => ⟨S32x16x2x1, .f32⟩
  | .hbm, ⟨59, _⟩ => ⟨S32x16x2x1, .f32⟩
  | .hbm, ⟨60, _⟩ => ⟨S32x16x2x64, .f32⟩
  | .hbm, ⟨61, _⟩ => ⟨S32x16x2x64, .f32⟩
  | .hbm, ⟨62, _⟩ => ⟨S1x1x1x64, .f32⟩
  | .hbm, ⟨63, _⟩ => ⟨S32x16x2x64, .f32⟩
  | .hbm, ⟨64, _⟩ => ⟨S32x16x2x64, .f32⟩
  | .hbm, ⟨65, _⟩ => ⟨S_, .f32⟩
  | .hbm, ⟨66, _⟩ => ⟨S32x16x120, .f32⟩
  | .hbm, ⟨67, _⟩ => ⟨S32x16x512, .f32⟩
  | .hbm, ⟨68, _⟩ => ⟨S32x16x128, .f32⟩
  | .hbm, ⟨69, _⟩ => ⟨S32x16x2696, .f32⟩
  | .hbm, ⟨70, _⟩ => ⟨S32x16x3456, .f32⟩
  | .hbm, ⟨71, _⟩ => ⟨S512x3456, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Kernel4.lean ====
abbrev S32x16x1024 : Shape := ⟨3, ![32, 16, 1024]⟩
abbrev S512x512 : Shape := ⟨2, ![512, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x4x256x256 : Shape := ⟨4, ![1, 4, 256, 256]⟩
abbrev S1x32x15x1024 : Shape := ⟨4, ![1, 32, 15, 1024]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S4x256x256 : Shape := ⟨3, ![4, 256, 256]⟩
abbrev S32x15x1024 : Shape := ⟨3, ![32, 15, 1024]⟩
abbrev S_ : Shape := ⟨0, ![]⟩
abbrev S256x1024 : Shape := ⟨2, ![256, 1024]⟩
abbrev S256x512 : Shape := ⟨2, ![256, 512]⟩
abbrev S16x16x1024 : Shape := ⟨3, ![16, 16, 1024]⟩
abbrev S16x32x1024 : Shape := ⟨3, ![16, 32, 1024]⟩
abbrev S1x16x1 : Shape := ⟨3, ![1, 16, 1]⟩
abbrev S256 : Shape := ⟨1, ![256]⟩
abbrev S256x1 : Shape := ⟨2, ![256, 1]⟩
abbrev S256x2048 : Shape := ⟨2, ![256, 2048]⟩
abbrev S16x32x256 : Shape := ⟨3, ![16, 32, 256]⟩
abbrev S512x256 : Shape := ⟨2, ![512, 256]⟩
abbrev S16x16x256 : Shape := ⟨3, ![16, 16, 256]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 33
  | .vmem => 20
  | .smem => 0
  | _ => 0

abbrev bufTy : (tb : Table) → Fin (tcTables nBuf tb) → BufTy
  | .hbm, ⟨0, _⟩ => ⟨S32x16x1024, .f32⟩
  | .hbm, ⟨1, _⟩ => ⟨S512x512, .bf16⟩
  | .hbm, ⟨2, _⟩ => ⟨S512x512, .bf16⟩
  | .hbm, ⟨3, _⟩ => ⟨S1x1024x1024, .f32⟩
  | .hbm, ⟨4, _⟩ => ⟨S1x1024, .f32⟩
  | .hbm, ⟨5, _⟩ => ⟨S1x1024x2048, .f32⟩
  | .hbm, ⟨6, _⟩ => ⟨S1x4x256x256, .f32⟩
  | .hbm, ⟨7, _⟩ => ⟨S1x1024, .f32⟩
  | .hbm, ⟨8, _⟩ => ⟨S1x1024x1024, .f32⟩
  | .hbm, ⟨9, _⟩ => ⟨S1x32x15x1024, .f32⟩
  | .hbm, ⟨10, _⟩ => ⟨S512x1024, .f32⟩
  | .hbm, ⟨11, _⟩ => ⟨S1024x1024, .f32⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S512x1024, .f32⟩
  | .hbm, ⟨16, _⟩ => ⟨S512x1024, .bf16⟩
  | .hbm, ⟨17, _⟩ => ⟨S1024, .f32⟩
  | .hbm, ⟨18, _⟩ => ⟨S1x1024, .f32⟩
  | .hbm, ⟨19, _⟩ => ⟨S1024x2048, .f32⟩
  | .hbm, ⟨20, _⟩ => ⟨S1024x2048, .bf16⟩
  | .hbm, ⟨21, _⟩ => ⟨S4x256x256, .f32⟩
  | .hbm, ⟨22, _⟩ => ⟨S4x256x256, .bf16⟩
  | .hbm, ⟨23, _⟩ => ⟨S1024, .f32⟩
  | .hbm, ⟨24, _⟩ => ⟨S1x1024, .f32⟩
  | .hbm, ⟨25, _⟩ => ⟨S1024x1024, .f32⟩
  | .hbm, ⟨26, _⟩ => ⟨S1024x1024, .bf16⟩
  | .hbm, ⟨27, _⟩ => ⟨S32x15x1024, .f32⟩
  | .hbm, ⟨28, _⟩ => ⟨S_, .i32⟩
  | .hbm, ⟨29, _⟩ => ⟨S_, .f32⟩
  | .hbm, ⟨30, _⟩ => ⟨S32x16x1024, .f32⟩
  | .hbm, ⟨31, _⟩ => ⟨S512x1024, .f32⟩
  | .hbm, ⟨32, _⟩ => ⟨S32x16x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x1024, .bf16⟩
  | .local _ .vmem, ⟨7, _⟩ => ⟨S512x1024, .bf16⟩
  | .local _ .vmem, ⟨8, _⟩ => ⟨S16x16x1024, .f32⟩
  | .local _ .vmem, ⟨9, _⟩ => ⟨S16x16x1024, .f32⟩
  | .local _ .vmem, ⟨10, _⟩ => ⟨S1x1024, .f32⟩
  | .local _ .vmem, ⟨11, _⟩ => ⟨S1024x2048, .bf16⟩
  | .local _ .vmem, ⟨12, _⟩ => ⟨S4x256x256, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | .local _ .vmem, ⟨17, _⟩ => ⟨S16x16x1024, .f32⟩
  | .local _ .vmem, ⟨18, _⟩ => ⟨S16x16x1024, .f32⟩
  | .local _ .vmem, ⟨19, _⟩ => ⟨S16x32x1024, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference4Ideal.lean ====
abbrev S32x16x1024 : Shape := ⟨3, ![32, 16, 1024]⟩
abbrev S512x512 : Shape := ⟨2, ![512, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x4x256x256 : Shape := ⟨4, ![1, 4, 256, 256]⟩
abbrev S1x32x15x1024 : Shape := ⟨4, ![1, 32, 15, 1024]⟩
abbrev S32x16x512 : Shape := ⟨3, ![32, 16, 512]⟩
abbrev S1024x1024 : Shape := ⟨2, ![1024, 1024]⟩
abbrev S32x15x1024 : Shape := ⟨3, ![32, 15, 1024]⟩
abbrev S1024 : Shape := ⟨1, ![1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩
abbrev S1024x2048 : Shape := ⟨2, ![1024, 2048]⟩
abbrev S32x16x2048 : Shape := ⟨3, ![32, 16, 2048]⟩
abbrev S32x31x1024 : Shape := ⟨3, ![32, 31, 1024]⟩
abbrev S31 : Shape := ⟨1, ![31]⟩
abbrev S1x31x1 : Shape := ⟨3, ![1, 31, 1]⟩
abbrev S32x16x256 : Shape := ⟨3, ![32, 16, 256]⟩
abbrev S16 : Shape := ⟨1, ![16]⟩
abbrev S1x16x1 : Shape := ⟨3, ![1, 16, 1]⟩
abbrev S32x16x4x256 : Shape := ⟨4, ![32, 16, 4, 256]⟩
abbrev S4x256x256 : Shape := ⟨3, ![4, 256, 256]⟩
abbrev S4x256x32x16 : Shape := ⟨4, ![4, 256, 32, 16]⟩
abbrev S512x1024 : Shape := ⟨2, ![512, 1024]⟩

abbrev nBuf : Space → Nat
  | .hbm => 178
  | .vmem => 0
  | .smem => 0
  | _ => 0

abbrev hbmTy0_0 (i : Nat) : BufTy := match i % 128 with
  | 0 => ⟨S32x16x1024, .f32⟩
  | 1 => ⟨S512x512, .bf16⟩
  | 2 => ⟨S512x512, .bf16⟩
  | 3 => ⟨S1x1024x1024, .f32⟩
  | 4 => ⟨S1x1024, .f32⟩
  | 5 => ⟨S1x1024x2048, .f32⟩
  | 6 => ⟨S1x4x256x256, .f32⟩
  | 7 => ⟨S1x1024, .f32⟩
  | 8 => ⟨S1x1024x1024, .f32⟩
  | 9 => ⟨S1x32x15x1024, .f32⟩
  | 10 => ⟨S32x16x512, .bf16⟩
  | 11 => ⟨S32x16x512, .f32⟩
  | 12 => ⟨S32x16x512, .bf16⟩
  | 13 => ⟨S32x16x512, .f32⟩
  | 14 => ⟨S32x16x1024, .f32⟩
  | 15 => ⟨S1024x1024, .f32⟩
  | 16 => ⟨S32x16x1024, .f32⟩
  | 17 => ⟨S32x16x1024, .f32⟩
  | 18 => ⟨S32x15x1024, .f32⟩
  | 19 => ⟨S1024, .f32⟩
  | 20 => ⟨S32x16x1024, .f32⟩
  | 21 => ⟨S_, .f32⟩
  | 22 => ⟨S32x16, .f32⟩
  | 23 => ⟨S32x16x1, .f32⟩
  | 24 => ⟨S_, .f32⟩
  | 25 => ⟨S32x16x1, .f32⟩
  | 26 => ⟨S32x16x1, .f32⟩
  | 27 => ⟨S_, .f32⟩
  | 28 => ⟨S32x16x1, .f32⟩
  | 29 => ⟨S32x16x1, .f32⟩
  | 30 => ⟨S32x16x1, .f32⟩
  | 31 => ⟨S32x16x1024, .f32⟩
  | 32 => ⟨S32x16x1024, .f32⟩
  | 33 => ⟨S1x1x1024, .f32⟩
  | 34 => ⟨S32x16x1024, .f32⟩
  | 35 => ⟨S32x16x1024, .f32⟩
  | 36 => ⟨S1024x2048, .f32⟩
  | 37 => ⟨S32x16x2048, .f32⟩
  | 38 => ⟨S32x16x1024, .f32⟩
  | 39 => ⟨S32x16x1024, .f32⟩
  | 40 => ⟨S32x31x1024, .f32⟩
  | 41 => ⟨S31, .i32⟩
  | 42 => ⟨S_, .i32⟩
  | 43 => ⟨S31, .i32⟩
  | 44 => ⟨S31, .i32⟩
  | 45 => ⟨S_, .i32⟩
  | 46 => ⟨S31, .i32⟩
  | 47 => ⟨S31, .i1⟩
  | 48 => ⟨S31, .f32⟩
  | 49 => ⟨S1x31x1, .f32⟩
  | 50 => ⟨S32x31x1024, .f32⟩
  | 51 => ⟨S32x31x1024, .f32⟩
  | 52 => ⟨S32x16x256, .f32⟩
  | 53 => ⟨S32x16x256, .f32⟩
  | 54 => ⟨S32x16x256, .f32⟩
  | 55 => ⟨S16, .i32⟩
  | 56 => ⟨S_, .i32⟩
  | 57 => ⟨S16, .i32⟩
  | 58 => ⟨S16, .i32⟩
  | 59 => ⟨S_, .i32⟩
  | 60 => ⟨S16, .i32⟩
  | 61 => ⟨S16, .i32⟩
  | 62 => ⟨S16, .f32⟩
  | 63 => ⟨S1x16x1, .f32⟩
  | 64 => ⟨S32x16x256, .f32⟩
  | 65 => ⟨S32x16x256, .f32⟩
  | 66 => ⟨S32x16x256, .f32⟩
  | 67 => ⟨S32x16x256, .f32⟩
  | 68 => ⟨S32x16x256, .f32⟩
  | 69 => ⟨S32x16x256, .f32⟩
  | 70 => ⟨S32x16x256, .f32⟩
  | 71 => ⟨S32x16x256, .f32⟩
  | 72 => ⟨S32x16x256, .f32⟩
  | 73 => ⟨S16, .i32⟩
  | 74 => ⟨S_, .i32⟩
  | 75 => ⟨S16, .i32⟩
  | 76 => ⟨S16, .i32⟩
  | 77 => ⟨S_, .i32⟩
  | 78 => ⟨S16, .i32⟩
  | 79 => ⟨S16, .i32⟩
  | 80 => ⟨S16, .f32⟩
  | 81 => ⟨S1x16x1, .f32⟩
  | 82 => ⟨S32x16x256, .f32⟩
  | 83 => ⟨S32x16x256, .f32⟩
  | 84 => ⟨S32x16x256, .f32⟩
  | 85 => ⟨S32x16x256, .f32⟩
  | 86 => ⟨S32x16x256, .f32⟩
  | 87 => ⟨S32x16x256, .f32⟩
  | 88 => ⟨S32x16x256, .f32⟩
  | 89 => ⟨S32x16x256, .f32⟩
  | 90 => ⟨S32x16x256, .f32⟩
  | 91 => ⟨S32x16x256, .f32⟩
  | 92 => ⟨S32x16x256, .f32⟩
  | 93 => ⟨S32x16x256, .f32⟩
  | 94 => ⟨S32x16x256, .f32⟩
  | 95 => ⟨S32x16x256, .f32⟩
  | 96 => ⟨S32x16x256, .f32⟩
  | 97 => ⟨S32x16x256, .f32⟩
  | 98 => ⟨S32x16x256, .f32⟩
  | 99 => ⟨S16, .i32⟩
  | 100 => ⟨S_, .i32⟩
  | 101 => ⟨S16, .i32⟩
  | 102 => ⟨S16, .i32⟩
  | 103 => ⟨S_, .i32⟩
  | 104 => ⟨S16, .i32⟩
  | 105 => ⟨S16, .i32⟩
  | 106 => ⟨S16, .f32⟩
  | 107 => ⟨S1x16x1, .f32⟩
  | 108 => ⟨S32x16x256, .f32⟩
  | 109 => ⟨S32x16x256, .f32⟩
  | 110 => ⟨S32x16x256, .f32⟩
  | 111 => ⟨S32x16x256, .f32⟩
  | 112 => ⟨S32x16x256, .f32⟩
  | 113 => ⟨S32x16x256, .f32⟩
  | 114 => ⟨S32x16x256, .f32⟩
  | 115 => ⟨S32x16x256, .f32⟩
  | 116 => ⟨S32x16x256, .f32⟩
  | 117 => ⟨S32x16x256, .f32⟩
  | 118 => ⟨S32x16x256, .f32⟩
  | 119 => ⟨S32x16x256, .f32⟩
  | 120 => ⟨S32x16x256, .f32⟩
  | 121 => ⟨S32x16x256, .f32⟩
  | 122 => ⟨S32x16x256, .f32⟩
  | 123 => ⟨S32x16x256, .f32⟩
  | 124 => ⟨S32x16x256, .f32⟩
  | 125 => ⟨S32x16x256, .f32⟩
  | 126 => ⟨S32x16x256, .f32⟩
  | 127 => ⟨S32x16x256, .f32⟩
  | _ => ⟨S32x16x1024, .f32⟩

abbrev hbmTy0_1 (i : Nat) : BufTy := match i % 128 with
  | 0 => ⟨S32x16x256, .f32⟩
  | 1 => ⟨S32x16x256, .f32⟩
  | 2 => ⟨S32x16x256, .f32⟩
  | 3 => ⟨S32x16x256, .f32⟩
  | 4 => ⟨S32x16x256, .f32⟩
  | 5 => ⟨S32x16x256, .f32⟩
  | 6 => ⟨S32x16x256, .f32⟩
  | 7 => ⟨S32x16x256, .f32⟩
  | 8 => ⟨S32x16x256, .f32⟩
  | 9 => ⟨S32x16x256, .f32⟩
  | 10 => ⟨S32x16x256, .f32⟩
  | 11 => ⟨S32x16x256, .f32⟩
  | 12 => ⟨S32x16x256, .f32⟩
  | 13 => ⟨S16, .i32⟩
  | 14 => ⟨S_, .i32⟩
  | 15 => ⟨S16, .i32⟩
  | 16 => ⟨S16, .i32⟩
  | 17 => ⟨S_, .i32⟩
  | 18 => ⟨S16, .i32⟩
  | 19 => ⟨S16, .i32⟩
  | 20 => ⟨S16, .f32⟩
  | 21 => ⟨S1x16x1, .f32⟩
  | 22 => ⟨S32x16x256, .f32⟩
  | 23 => ⟨S32x16x256, .f32⟩
  | 24 => ⟨S32x16x1024, .f32⟩
  | 25 => ⟨S32x16x1024, .f32⟩
  | 26 => ⟨S32x16x4x256, .f32⟩
  | 27 => ⟨S4x256x256, .f32⟩
  | 28 => ⟨S4x256x32x16, .f32⟩
  | 29 => ⟨S32x16x4x256, .f32⟩
  | 30 => ⟨S32x16x1024, .f32⟩
  | 31 => ⟨S1024, .f32⟩
  | 32 => ⟨S1x1x1024, .f32⟩
  | 33 => ⟨S32x16x1024, .f32⟩
  | 34 => ⟨S32x16x1024, .f32⟩
  | 35 => ⟨S32x16x1024, .f32⟩
  | 36 => ⟨S32x16x1024, .f32⟩
  | 37 => ⟨S_, .f32⟩
  | 38 => ⟨S32x16x1024, .f32⟩
  | 39 => ⟨S32x16x1024, .f32⟩
  | 40 => ⟨S_, .f32⟩
  | 41 => ⟨S32x16x1024, .f32⟩
  | 42 => ⟨S32x16x1024, .f32⟩
  | 43 => ⟨S32x16x1024, .f32⟩
  | 44 => ⟨S32x16x1024, .f32⟩
  | 45 => ⟨S1024x1024, .f32⟩
  | 46 => ⟨S32x16x1024, .f32⟩
  | 47 => ⟨S32x16x1024, .f32⟩
  | 48 => ⟨S512x1024, .f32⟩
  | 49 => ⟨S32x16x1024, .f32⟩
  | _ => ⟨S32x16x1024, .f32⟩

abbrev hbmTy (i : Nat) : BufTy := match i / 128 with
  | 0 => hbmTy0_0 i
  | 1 => hbmTy0_1 i
  | _ => ⟨S32x16x1024, .f32⟩

abbrev bufTy : (tb : Table) → Fin (tcTables nBuf tb) → BufTy
  | .hbm, ⟨i, _⟩ => hbmTy i
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_c_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_3 : Ref sig .tc := ⟨.hbm, 56, rfl⟩
abbrev main_v41 : Ref sig .tc := ⟨.hbm, 57, rfl⟩
abbrev main_v42 : Ref sig .tc := ⟨.hbm, 58, rfl⟩
abbrev main_c_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_5 : Ref sig .tc := ⟨.hbm, 74, rfl⟩
abbrev main_v57 : Ref sig .tc := ⟨.hbm, 75, rfl⟩
abbrev main_v58 : Ref sig .tc := ⟨.hbm, 76, rfl⟩
abbrev main_c_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_c_7 : Ref sig .tc := ⟨.hbm, 100, rfl⟩
abbrev main_v81 : Ref sig .tc := ⟨.hbm, 101, rfl⟩
abbrev main_v82 : Ref sig .tc := ⟨.hbm, 102, rfl⟩
abbrev main_c_8 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_c_9 : Ref sig .tc := ⟨.hbm, 142, rfl⟩
abbrev main_v121 : Ref sig .tc := ⟨.hbm, 143, rfl⟩
abbrev main_v122 : Ref sig .tc := ⟨.hbm, 144, rfl⟩
abbrev main_c_10 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_call0_v0 : Ref sig .tc := ⟨.hbm, 163, rfl⟩
abbrev main_call0_v1 : Ref sig .tc := ⟨.hbm, 164, rfl⟩
abbrev main_call0_cst : Ref sig .tc := ⟨.hbm, 165, rfl⟩
abbrev main_call0_v2 : Ref sig .tc := ⟨.hbm, 166, rfl⟩
abbrev main_call0_v3 : Ref sig .tc := ⟨.hbm, 167, rfl⟩
abbrev main_call0_cst_0 : Ref sig .tc := ⟨.hbm, 168, rfl⟩
abbrev main_call0_v4 : Ref sig .tc := ⟨.hbm, 169, rfl⟩
abbrev main_call0_v5 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩

abbrev nD : Nat := 1
abbrev τ : Topo := Topo.v7x

variable {F : FTy → Type} [FloatOps F]
-- ==== Kernel5.lean ====
abbrev S512x3456 : Shape := ⟨2, ![512, 3456]⟩
abbrev S1x32x128x2x64 : Shape := ⟨5, ![1, 32, 128, 2, 64]⟩
abbrev S1x8 : Shape := ⟨2, ![1, 8]⟩
abbrev S512x128 : Shape := ⟨2, ![512, 128]⟩
abbrev S32x16x128 : Shape := ⟨3, ![32, 16, 128]⟩
abbrev S32x128x2x64 : Shape := ⟨4, ![32, 128, 2, 64]⟩
abbrev S32x128x128 : Shape := ⟨3, ![32, 128, 128]⟩
abbrev S32x144x128 : Shape := ⟨3, ![32, 144, 128]⟩
abbrev S4608x128 : Shape := ⟨2, ![4608, 128]⟩
abbrev S8 : Shape := ⟨1, ![8]⟩
abbrev S512x512 : Shape := ⟨2, ![512, 512]⟩
abbrev S144x128 : Shape := ⟨2, ![144, 128]⟩
abbrev S1x128 : Shape := ⟨2, ![1, 128]⟩
abbrev S1 : Shape := ⟨1, ![1]⟩
abbrev S16x128 : Shape := ⟨2, ![16, 128]⟩
abbrev S16x512 : Shape := ⟨2, ![16, 512]⟩
abbrev S128x128 : Shape := ⟨2, ![128, 128]⟩
abbrev S128 : Shape := ⟨1, ![128]⟩

abbrev nBuf : Space → Nat
  | .hbm => 18
  | .vmem => 6
  | .smem => 1
  | _ => 0

abbrev bufTy : (tb : Table) → Fin (tcTables nBuf tb) → BufTy
  | .hbm, ⟨0, _⟩ => ⟨S512x3456, .f32⟩
  | .hbm, ⟨1, _⟩ => ⟨S1x32x128x2x64, .f32⟩
  | .hbm, ⟨2, _⟩ => ⟨S1x32x128x2x64, .f32⟩
  | .hbm, ⟨3, _⟩ => ⟨S1x8, .f32⟩
  | .hbm, ⟨4, _⟩ => ⟨S512x128, .f32⟩
  | .hbm, ⟨5, _⟩ => ⟨S32x16x128, .f32⟩
  | .hbm, ⟨6, _⟩ => ⟨S512x128, .f32⟩
  | .hbm, ⟨7, _⟩ => ⟨S32x16x128, .f32⟩
  | .hbm, ⟨8, _⟩ => ⟨S32x128x2x64, .f32⟩
  | .hbm, ⟨9, _⟩ => ⟨S32x128x128, .f32⟩
  | .hbm, ⟨10, _⟩ => ⟨S32x144x128, .f32⟩
  | .hbm, ⟨11, _⟩ => ⟨S32x128x2x64, .f32⟩
  | .hbm, ⟨12, _⟩ => ⟨S32x128x128, .f32⟩
  | .hbm, ⟨13, _⟩ => ⟨S32x144x128, .f32⟩
  | .hbm, ⟨14, _⟩ => ⟨S4608x128, .f32⟩
  | .hbm, ⟨15, _⟩ => ⟨S4608x128, .f32⟩
  | .hbm, ⟨16, _⟩ => ⟨S8, .f32⟩
  | .hbm, ⟨17, _⟩ => ⟨S512x512, .bf16⟩
  | .local _ .vmem, ⟨0, _⟩ => ⟨S512x512, .f32⟩
  | .local _ .vmem, ⟨1, _⟩ => ⟨S4608x128, .f32⟩
  | .local _ .vmem, ⟨2, _⟩ => ⟨S4608x128, .f32⟩
  | .local _ .vmem, ⟨3, _⟩ => ⟨S512x512, .f32⟩
  | .local _ .vmem, ⟨4, _⟩ => ⟨S512x512, .bf16⟩
  | .local _ .vmem, ⟨5, _⟩ => ⟨S144x128, .f32⟩
  | .local _ .smem, ⟨0, _⟩ => ⟨S8, .f32⟩
  | _, _ => ⟨S512x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c512_i32 : BitVec 32 := 512#32
  let v0 : BitVec 32 := Scalar.muli arg0 c512_i32
  let c768_i32 : BitVec 32 := 768#32
  let c0_i32 : BitVec 32 := 0#32
  ![v0.toNat, c768_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4608x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4608x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference5Ideal.lean ====
abbrev S512x3456 : Shape := ⟨2, ![512, 3456]⟩
abbrev S1x32x128x2x64 : Shape := ⟨5, ![1, 32, 128, 2, 64]⟩
abbrev S1x8 : Shape := ⟨2, ![1, 8]⟩
abbrev S32x16x3456 : Shape := ⟨3, ![32, 16, 3456]⟩
abbrev S32x16x512 : Shape := ⟨3, ![32, 16, 512]⟩
abbrev S32x16x2x4x64 : Shape := ⟨5, ![32, 16, 2, 4, 64]⟩
abbrev S32x128x2x64 : Shape := ⟨4, ![32, 128, 2, 64]⟩
abbrev S32x16x128 : Shape := ⟨3, ![32, 16, 128]⟩
abbrev S32x16x2x64 : Shape := ⟨4, ![32, 16, 2, 64]⟩
abbrev S32x144x2x64 : Shape := ⟨4, ![32, 144, 2, 64]⟩
abbrev S16 : Shape := ⟨1, ![16]⟩
abbrev S_ : Shape := ⟨0, ![]⟩
abbrev S144 : Shape := ⟨1, ![144]⟩
abbrev S16x1 : Shape := ⟨2, ![16, 1]⟩
abbrev S1x144 : Shape := ⟨2, ![1, 144]⟩
abbrev S16x144 : Shape := ⟨2, ![16, 144]⟩
abbrev S8 : Shape := ⟨1, ![8]⟩
abbrev S2x4 : Shape := ⟨2, ![2, 4]⟩
abbrev S2x4x1x1 : Shape := ⟨4, ![2, 4, 1, 1]⟩
abbrev S32x2x144x16x4 : Shape := ⟨5, ![32, 2, 144, 16, 4]⟩
abbrev S32x2x4x16x144 : Shape := ⟨5, ![32, 2, 4, 16, 144]⟩
abbrev S1x1x16x144 : Shape := ⟨4, ![1, 1, 16, 144]⟩
abbrev S2x4x16x144 : Shape := ⟨4, ![2, 4, 16, 144]⟩
abbrev S1x2x4x16x144 : Shape := ⟨5, ![1, 2, 4, 16, 144]⟩
abbrev S32x2x4x16 : Shape := ⟨4, ![32, 2, 4, 16]⟩
abbrev S32x2x4x16x1 : Shape := ⟨5, ![32, 2, 4, 16, 1]⟩
abbrev S1x2x4x1x1 : Shape := ⟨5, ![1, 2, 4, 1, 1]⟩
abbrev S32x2x64x4x16 : Shape := ⟨5, ![32, 2, 64, 4, 16]⟩
abbrev S512x512 : Shape := ⟨2, ![512, 512]⟩

abbrev nBuf : Space → Nat
  | .hbm => 102
  | .vmem => 0
  | .smem => 0
  | _ => 0

abbrev bufTy : (tb : Table) → Fin (tcTables nBuf tb) → BufTy
  | .hbm, ⟨0, _⟩ => ⟨S512x3456, .f32⟩
  | .hbm, ⟨1, _⟩ => ⟨S1x32x128x2x64, .f32⟩
  | .hbm, ⟨2, _⟩ => ⟨S1x32x128x2x64, .f32⟩
  | .hbm, ⟨3, _⟩ => ⟨S1x8, .f32⟩
  | .hbm, ⟨4, _⟩ => ⟨S32x16x3456, .f32⟩
  | .hbm, ⟨5, _⟩ => ⟨S32x16x512, .f32⟩
  | .hbm, ⟨6, _⟩ => ⟨S32x16x2x4x64, .f32⟩
  | .hbm, ⟨7, _⟩ => ⟨S32x128x2x64, .f32⟩
  | .hbm, ⟨8, _⟩ => ⟨S32x16x128, .f32⟩
  | .hbm, ⟨9, _⟩ => ⟨S32x16x2x64, .f32⟩
  | .hbm, ⟨10, _⟩ => ⟨S32x144x2x64, .f32⟩
  | .hbm, ⟨11, _⟩ => ⟨S32x128x2x64, .f32⟩
  | .hbm, ⟨12, _⟩ => ⟨S32x16x128, .f32⟩
  | .hbm, ⟨13, _⟩ => ⟨S32x16x2x64, .f32⟩
  | .hbm, ⟨14, _⟩ => ⟨S32x144x2x64, .f32⟩
  | .hbm, ⟨15, _⟩ => ⟨S32x16x512, .f32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S144, .i32⟩
  | .hbm, ⟨21, _⟩ => ⟨S_, .i32⟩
  | .hbm, ⟨22, _⟩ => ⟨S144, .i32⟩
  | .hbm, ⟨23, _⟩ => ⟨S144, .i32⟩
  | .hbm, ⟨24, _⟩ => ⟨S16x1, .i32⟩
  | .hbm, ⟨25, _⟩ => ⟨S1x144, .i32⟩
  | .hbm, ⟨26, _⟩ => ⟨S16x144, .i32⟩
  | .hbm, ⟨27, _⟩ => ⟨S16x144, .i32⟩
  | .hbm, ⟨28, _⟩ => ⟨S16x144, .i32⟩
  | .hbm, ⟨29, _⟩ => ⟨S16x144, .i32⟩
  | .hbm, ⟨30, _⟩ => ⟨S16x144, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S2x4, .f32⟩
  | .hbm, ⟨52, _⟩ => ⟨S2x4x1x1, .f32⟩
  | .hbm, ⟨53, _⟩ => ⟨S32x2x144x16x4, .f32⟩
  | .hbm, ⟨54, _⟩ => ⟨S32x2x4x16x144, .f32⟩
  | .hbm, ⟨55, _⟩ => ⟨S2x4, .f32⟩
  | .hbm, ⟨56, _⟩ => ⟨S2x4x1x1, .f32⟩
  | .hbm, ⟨57, _⟩ => ⟨S1x1x16x144, .f32⟩
  | .hbm, ⟨58, _⟩ => ⟨S2x4x16x144, .f32⟩
  | .hbm, ⟨59, _⟩ => ⟨S2x4x16x144, .f32⟩
  | .hbm, ⟨60, _⟩ => ⟨S2x4x16x144, .f32⟩
  | .hbm, ⟨61, _⟩ => ⟨S1x2x4x16x144, .f32⟩
  | .hbm, ⟨62, _⟩ => ⟨S32x2x4x16x144, .f32⟩
  | .hbm, ⟨63, _⟩ => ⟨S32x2x4x16x144, .f32⟩
  | .hbm, ⟨64, _⟩ => ⟨S_, .f32⟩
  | .hbm, ⟨65, _⟩ => ⟨S32x2x4x16, .f32⟩
  | .hbm, ⟨66, _⟩ => ⟨S32x2x4x16x1, .f32⟩
  | .hbm, ⟨67, _⟩ => ⟨S1x2x4x1x1, .f32⟩
  | .hbm, ⟨68, _⟩ => ⟨S32x2x4x16x1, .f32⟩
  | .hbm, ⟨69, _⟩ => ⟨S32x2x4x16x1, .f32⟩
  | .hbm, ⟨70, _⟩ => ⟨S32x2x4x16x144, .f32⟩
  | .hbm, ⟨71, _⟩ => ⟨S32x2x4x16x144, .f32⟩
  | .hbm, ⟨72, _⟩ => ⟨S_, .f32⟩
  | .hbm, ⟨73, _⟩ => ⟨S32x2x4x16x144, .f32⟩
  | .hbm, ⟨74, _⟩ => ⟨S32x2x4x16x144, .f32⟩
  | .hbm, ⟨75, _⟩ => ⟨S_, .f32⟩
  | .hbm, ⟨76, _⟩ => ⟨S32x2x4x16, .f32⟩
  | .hbm, ⟨77, _⟩ => ⟨S32x2x4x16x1, .f32⟩
  | .hbm, ⟨78, _⟩ => ⟨S1x2x4x1x1, .f32⟩
  | .hbm, ⟨79, _⟩ => ⟨S32x2x4x16x1, .f32⟩
  | .hbm, ⟨80, _⟩ => ⟨S32x2x4x16x1, .f32⟩
  | .hbm, ⟨81, _⟩ => ⟨S_, .f32⟩
  | .hbm, ⟨82, _⟩ => ⟨S32x2x4x16x1, .f32⟩
  | .hbm, ⟨83, _⟩ => ⟨S32x2x4x16x1, .f32⟩
  | .hbm, ⟨84, _⟩ => ⟨S32x2x4x16x1, .f32⟩
  | .hbm, ⟨85, _⟩ => ⟨S32x2x4x16x144, .f32⟩
  | .hbm, ⟨86, _⟩ => ⟨S32x2x4x16x144, .f32⟩
  | .hbm, ⟨87, _⟩ => ⟨S32x2x64x4x16, .f32⟩
  | .hbm, ⟨88, _⟩ => ⟨S32x16x2x4x64, .f32⟩
  | .hbm, ⟨89, _⟩ => ⟨S32x16x512, .f32⟩
  | .hbm, ⟨90, _⟩ => ⟨S32x16x512, .f32⟩
  | .hbm, ⟨91, _⟩ => ⟨S32x16x512, .f32⟩
  | .hbm, ⟨92, _⟩ => ⟨S_, .f32⟩
  | .hbm, ⟨93, _⟩ => ⟨S32x16x512, .f32⟩
  | .hbm, ⟨94, _⟩ => ⟨S32x16x512, .f32⟩
  | .hbm, ⟨95, _⟩ => ⟨S_, .f32⟩
  | .hbm, ⟨96, _⟩ => ⟨S32x16x512, .f32⟩
  | .hbm, ⟨97, _⟩ => ⟨S32x16x512, .f32⟩
  | .hbm, ⟨98, _⟩ => ⟨S32x16x512, .f32⟩
  | .hbm, ⟨99, _⟩ => ⟨S32x16x512, .f32⟩
  | .hbm, ⟨100, _⟩ => ⟨S512x512, .f32⟩
  | .hbm, ⟨101, _⟩ => ⟨S512x512, .bf16⟩
  | _, _ => ⟨S512x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_7 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_call0_v5 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Proof.PoolMath.lean ====
/-
  The mathematics of the pooling layer, one token row at a time, with no program in sight: the residual row with the two
  output projections added, its RMS normalisation, the input projection, the trailing window means over the projected
  rows, the grouped projection with its scale and gate, and the output projection. Both the kernel's body and the host
  reference are read down to `outRow`.
-/
module

public import Idealize.ShloMosaic.Lib.Pointwise
public import Idealize.ShloMosaic.Lib.Pipeline.Value
public import Idealize.ShloMosaic.Lib.KernelVsHost
public import Idealize.ShloMosaic.Lib.IdealHost
public import Idealize.ShloMosaic.PureOps.Ideal.Laws

@[expose] public section

noncomputable section

namespace Cert.PoolMath

open Idealize.ShloMosaic

/-- The residual row plus the two halves of the layer-0 output projection. -/
def xRow (h : Fin 1024 → EReal) (a b : Fin 512 → EReal) (wa wb : Fin 512 → Fin 1024 → EReal) (d : Fin 1024) : EReal :=
  h d + ∑ k, a k * wa k d + ∑ k, b k * wb k d

/-- The row normalised by its root mean square, times the gain. -/
def nRow (x g : Fin 1024 → EReal) (d : Fin 1024) : EReal :=
  x d * Ideal.rsqrt (Ideal.div (∑ e, x e * x e) (Ideal.ofBits .f32 0x44800000#32) + Ideal.ofBits .f32 0x358637BD#32) * g d

/-- The normalised row through the input projection. -/
def zRow (x g : Fin 1024 → EReal) (win : Fin 1024 → Fin 2048 → EReal) (e : Fin 2048) : EReal := ∑ k, nRow x g k * win k e

/-- Its first half: the pooled channels. -/
def uRow (x g : Fin 1024 → EReal) (win : Fin 1024 → Fin 2048 → EReal) (c : Fin 1024) : EReal :=
  zRow x g win ⟨c.val, by have := c.isLt; omega⟩

/-- Its second half: the gate. -/
def gateRow (x g : Fin 1024 → EReal) (win : Fin 1024 → Fin 2048 → EReal) (c : Fin 1024) : EReal :=
  zRow x g win ⟨1024 + c.val, by have := c.isLt; omega⟩

/-- `z · logistic z`. -/
def sil (z : EReal) : EReal := z * Ideal.logistic z

/-- The sum of the `w` entries of `E` that end at position `p`. -/
def wsum (w : ℕ) (E : ℕ → EReal) (p : ℕ) : EReal := ∑ j ∈ Finset.range w, E (p - j)

/-- How many of the last `w` tokens exist at token `t`, as the programs count it: a 32-bit minimum, converted. -/
def cnt (w t : ℕ) : EReal :=
  FloatOps.sitofp (F := Ideal) .f32 (BitVec.ofNat 32 (min (t + 1) w))

/-- The four windows: 2, 4, 8 and 16 tokens. -/
def win (q : ℕ) : ℕ := 2 ^ (q + 1)

/-- Window mean minus the entry itself, at place `p` of the extended sequence `E`, for token number `t`. -/
def pooled (q : ℕ) (E : ℕ → EReal) (p t : ℕ) : EReal :=
  Ideal.div (wsum (win q) E p) (cnt (win q) t) - E p

/-- Channel `256 q + k`. -/
def chan (q : Fin 4) (k : Fin 256) : Fin 1024 := ⟨q.val * 256 + k.val, by have := q.isLt; have := k.isLt; omega⟩

/-- The grouped projection of the pooled channels, scaled and gated. -/
def gated (q : Fin 4) (P : Fin 256 → EReal) (wg : Fin 256 → Fin 256 → EReal) (sc gt : Fin 1024 → EReal) (k : Fin 256) : EReal :=
  (∑ l, P l * wg l k) * sc (chan q k) * sil (gt (chan q k))

/-- One row of the result. -/
def outRow (x g : Fin 1024 → EReal) (w : Fin 1024 → Fin 2048 → EReal) (E : ℕ → Fin 1024 → EReal) (p t : ℕ)
    (wg : Fin 4 → Fin 256 → Fin 256 → EReal) (sc : Fin 1024 → EReal) (wo : Fin 1024 → Fin 1024 → EReal) (d : Fin 1024) : EReal :=
  x d + ∑ q : Fin 4, ∑ k : Fin 256,
    gated q (fun l => pooled q.val (fun a => E a (chan q l)) p t) (wg q) sc (gateRow x g w) k * wo (chan q k) d

/-- A window twice as long is two windows. -/
theorem wsum_double (w : ℕ) (E : ℕ → EReal) (p : ℕ) (hp : w ≤ p) : wsum (2 * w) E p = wsum w E p + wsum w E (p - w) := by
  unfold wsum
  rw [two_mul, Finset.sum_range_add]
  refine congrArg (_ + ·) (Finset.sum_congr rfl fun j _ => congrArg E ?_)
  omega

theorem wsum_one (E : ℕ → EReal) (p : ℕ) : wsum 1 E p = E p := by simp [wsum]

/-- A window sum reads only the last `w` entries. -/
theorem wsum_congr (w : ℕ) (E E' : ℕ → EReal) (p p' : ℕ) (h : ∀ j < w, E (p - j) = E' (p' - j)) : wsum w E p = wsum w E' p' :=
  Finset.sum_congr rfl fun j hj => h j (Finset.mem_range.mp hj)

/-- The pooled value reads only the sixteen entries that end at its place. -/
theorem pooled_congr (q : Fin 4) (E E' : ℕ → EReal) (p p' t : ℕ) (h : ∀ j < 16, E (p - j) = E' (p' - j)) :
    pooled q.val E p t = pooled q.val E' p' t := by
  unfold pooled
  rw [wsum_congr _ E E' p p' fun j hj => h j ?_, show E p = E' p' from h 0 (by decide)]
  refine lt_of_lt_of_le hj ?_
  fin_cases q <;> decide

theorem outRow_congr (x g : Fin 1024 → EReal) (w : Fin 1024 → Fin 2048 → EReal) (E E' : ℕ → Fin 1024 → EReal) (p p' t : ℕ)
    (wg : Fin 4 → Fin 256 → Fin 256 → EReal) (sc : Fin 1024 → EReal) (wo : Fin 1024 → Fin 1024 → EReal) (d : Fin 1024)
    (h : ∀ j < 16, E (p - j) = E' (p' - j)) : outRow x g w E p t wg sc wo d = outRow x g w E' p' t wg sc wo d := by
  have hp : ∀ (q : Fin 4) (l : Fin 256), pooled q.val (fun a => E a (chan q l)) p t = pooled q.val (fun a => E' a (chan q l)) p' t :=
    fun q l => pooled_congr q _ _ p p' t fun j hj => congrFun (h j hj) _
  unfold outRow
  simp only [hp]

/-- The gate as the kernel spells it. -/
theorem sil_eq (z : EReal) :
    z * Ideal.div 1 (1 + Ideal.exp (0 - z)) = sil z := by
  rw [sub_eq_add_neg, zero_add]
  rfl

/-- One doubling step as the kernel takes it: an array plus itself rotated by `w` down its rows holds, at every row that
    reaches back far enough, the window sum twice as long. -/
theorem rotate_step {n m : ℕ} (w : ℕ) (b : BitVec 32) (hb : b.toNat = w) (hw : w < n) (E : ℕ → Fin m → EReal)
    (v : FVec Ideal (⟨2, ![n, m]⟩ : Shape) .f32) (h : (⟨2, ![n, m]⟩ : Shape).Rotates 0 none) (lo : ℕ)
    (hv : ∀ (p : Fin n) (c : Fin m), lo ≤ p.val → v (ix2 p c) = wsum w (fun q => E q c) p.val)
    (p : Fin n) (c : Fin m) (hp : lo + w ≤ p.val) :
    addf v (dynamicRotate 0 b none v h) (ix2 p c) = wsum (2 * w) (fun q => E q c) p.val := by
  have hpn := p.isLt
  show v (ix2 p c) + dynamicRotate 0 b none v h (ix2 p c) = _
  rw [dynamicRotate_apply 0 b v h (ix2 p c) (ix2 (⟨p.val - w, by omega⟩ : Fin n) c) (by
    intro a
    match a with
    | ⟨0, _⟩ =>
      show p.val - w = if _ then (p.val + n - b.toNat % n) % n else _
      rw [if_pos (show (⟨0, _⟩ : Fin 2) = 0 from rfl), hb, Nat.mod_eq_of_lt hw, show p.val + n - w = (p.val - w) + n by omega, Nat.add_mod_right,
        Nat.mod_eq_of_lt (by omega)]
    | ⟨1, _⟩ => rfl)]
  rw [wsum_double w _ _ (by omega), hv p c (by omega), hv _ c (by show lo ≤ p.val - w; omega)]

/-! ## The whole layer, over its argument arrays -/

section Arrays
variable (a0 : (⟨3, ![8, 2048, 1024]⟩ : Shape).Idx → EReal) (a1 a2 : (⟨2, ![16384, 512]⟩ : Shape).Idx → EReal)
  (a3 : (⟨3, ![1, 1024, 1024]⟩ : Shape).Idx → EReal) (a4 : (⟨2, ![1, 1024]⟩ : Shape).Idx → EReal)
  (a5 : (⟨3, ![1, 1024, 2048]⟩ : Shape).Idx → EReal) (a6 : (⟨4, ![1, 4, 256, 256]⟩ : Shape).Idx → EReal)
  (a7 : (⟨2, ![1, 1024]⟩ : Shape).Idx → EReal) (a8 : (⟨3, ![1, 1024, 1024]⟩ : Shape).Idx → EReal)

/-- The flat row of token `t` of sequence `b`. -/
abbrev flat (b : Fin 8) (t : Fin 2048) : Fin 16384 := ⟨2048 * b.val + t.val, by have := b.isLt; have := t.isLt; omega⟩

/-- The residual row of token `t` of sequence `b`. -/
def xAt (b : Fin 8) (t : Fin 2048) : Fin 1024 → EReal :=
  xRow (fun d => a0 (ix3 b t d)) (fun k => a1 (ix2 (flat b t) k)) (fun k => a2 (ix2 (flat b t) k))
    (fun k d => a3 (ix3 0 ⟨k.val, by have := k.isLt; omega⟩ d)) (fun k d => a3 (ix3 0 ⟨512 + k.val, by have := k.isLt; omega⟩ d))

/-- The pooled channels of sequence `b` with sixteen zero rows before them. -/
def ext (b : Fin 8) (p : ℕ) (c : Fin 1024) : EReal :=
  if p < 16 then 0
  else if h : p - 16 < 2048 then uRow (xAt a0 a1 a2 a3 b ⟨p - 16, h⟩) (fun d => a4 (ix2 0 d)) (fun k f => a5 (ix3 0 k f)) c else 0

/-- The layer's result. -/
def yAt (b : Fin 8) (t : Fin 2048) (d : Fin 1024) : EReal :=
  outRow (xAt a0 a1 a2 a3 b t) (fun d => a4 (ix2 0 d)) (fun k f => a5 (ix3 0 k f)) (ext a0 a1 a2 a3 a4 a5 b) (t.val + 16) t.val
    (fun q l k => a6 (ix4 0 q l k)) (fun c => a7 (ix2 0 c)) (fun c d => a8 (ix3 0 c d)) d

theorem ext_row (b : Fin 8) (t : Fin 2048) (c : Fin 1024) : ext a0 a1 a2 a3 a4 a5 b (16 + t.val) c
    = uRow (xAt a0 a1 a2 a3 b t) (fun d => a4 (ix2 0 d)) (fun k f => a5 (ix3 0 k f)) c := by
  have ht := t.isLt
  unfold ext
  rw [if_neg (by omega), dif_pos (by omega)]
  exact congrArg (fun t => uRow (xAt a0 a1 a2 a3 b t) _ _ c) (Fin.ext (by show 16 + t.val - 16 = t.val; omega))

end Arrays

end Cert.PoolMath
-- ==== Proof.PoolPay.lean ====
/-
  The kernel body's straight-line pieces, read at an index: the residual with the output projections, the normalised
  row, the input projection, the four pooled groups and the output projection, each down to `Cert.PoolMath`.
-/
module

public import proofs.«01_k».proof.Proof.PoolMath
public import proofs.«01_k».proof.Proof.Gen.KernelIdeal.Value

@[expose] public section

set_option maxRecDepth 16384

noncomputable section

namespace Cert.KernelIdeal.Pool

open Cert.KernelIdeal Cert.KernelIdeal.Gen Cert.PoolMath
open Idealize.ShloMosaic Idealize.ShloMosaic.TcCoe Idealize.SL.Sem

section Rows
variable (v6 : Vec Ideal S1024x1024 .f32) (v8 v13 : Vec Ideal S1024x512 .bf16) (v9 v14 : Vec Ideal S512x1024 .bf16)
  (v28 : Vec Ideal S1x1024 .f32) (v33 : Vec Ideal S1024x2048 .bf16)

/-- Row `r` of the residual the body forms. -/
abbrev xk (r : Fin 1024) : Fin 1024 → EReal :=
  xRow (fun d => v6 (ix2 r d)) (fun k => v8 (ix2 r k)) (fun k => v13 (ix2 r k)) (fun k d => v9 (ix2 k d)) (fun k d => v14 (ix2 k d))

theorem pay4_apply (r d : Fin 1024) : k0_pay4 (F := Ideal) v6 v8 v9 v13 v14 (ix2 r d) = xk v6 v8 v13 v9 v14 r d := by
  pointwise [k0_pay4]
  rfl

theorem pay5_apply (r d : Fin 1024) : k0_pay5 (F := Ideal) v6 v8 v9 v13 v14 v28 (ix2 r d)
    = nRow (xk v6 v8 v13 v9 v14 r) (fun d => v28 (ix2 0 d)) d := by
  have e := pay4_apply v6 v8 v13 v9 v14
  unfold k0_pay5
  generalize k0_pay4 (F := Ideal) v6 v8 v9 v13 v14 = X at e ⊢
  pointwise []
  simp only [e]
  rfl

/-- The normalised row against the input projection. -/
theorem pay6_apply (r : Fin 1024) (f : Fin 2048) (v32 : FVec Ideal S1024x1024 .bf16) :
    k0_pay6 (F := Ideal) v32 v33 (ix2 r f) = ∑ k, v32 (ix2 r k) * v33 (ix2 k f) := by
  pointwise [k0_pay6]

theorem pay7_apply (r c : Fin 1024) (v32 : FVec Ideal S1024x1024 .bf16) :
    k0_pay7 (F := Ideal) v32 v33 (ix2 r c) = ∑ k, v32 (ix2 r k) * v33 (ix2 k ⟨c.val, by have := c.isLt; omega⟩) := by
  have e := pay6_apply v33 (v32 := v32)
  unfold k0_pay7
  generalize k0_pay6 (F := Ideal) v32 v33 = X at e ⊢
  pointwise []
  exact e r _

theorem pay8_apply (r c : Fin 1024) (v32 : FVec Ideal S1024x1024 .bf16) :
    k0_pay8 (F := Ideal) v32 v33 (ix2 r c) = ∑ k, v32 (ix2 r k) * v33 (ix2 k ⟨1024 + c.val, by have := c.isLt; omega⟩) := by
  have e := pay6_apply v33 (v32 := v32)
  unfold k0_pay8
  generalize k0_pay6 (F := Ideal) v32 v33 = X at e ⊢
  pointwise []
  exact e r _

theorem pay9_apply (r c : Fin 1024) (v32 : FVec Ideal S1024x1024 .bf16) :
    k0_pay9 (F := Ideal) v32 v33 (ix3 0 r c) = k0_pay7 (F := Ideal) v32 v33 (ix2 r c) := by
  unfold k0_pay9
  generalize k0_pay7 (F := Ideal) v32 v33 = X
  pointwise []

end Rows

/-- The history rows of the first tile are masked off: the prompt starts at position zero. -/
theorem pay2_apply (v : Vec Ideal S1x16x1024 .f32) (p : Fin 16) (c : Fin 1024) :
    k0_pay2 (F := Ideal) v (ix3 0 p c) = 0 := by
  have h : ∀ p : Fin 16, IntOp.cmpi CmpIPredicate.sge (IntOp.addi (4294967280#32) (BitVec.ofNat 32 p.val)) 0#32 = 0#1 := by decide
  pointwise [k0_pay2]
  rw [h]
  rfl

theorem pay3_apply (v : Vec Ideal S1x16x1024 .f32) : k0_pay3 (F := Ideal) v = v := by
  unfold k0_pay3; exact shapeCast_self _ _

/-- The token number the body counts with, capped at a window. -/
theorem count_word (i : Fin 2) (r : Fin 1024) (q : Fin 4) :
    IntOp.minsi (IntOp.addi (k0_pay10 (BitVec.ofNat 32 i.val) (ix2 r 0)) 1#32) (BitVec.ofNat 32 (win q.val))
      = BitVec.ofNat 32 (min (1024 * i.val + r.val + 1) (win q.val)) := by
  have h : ∀ (i : Fin 2) (r : Fin 1024) (q : Fin 4), IntOp.minsi
      (IntOp.addi
        (IntOp.addi (Scalar.addi (0#32) (Scalar.muli (BitVec.ofNat 32 i.val) 1024#32))
          (IntOp.andi (BitVec.ofNat 32 r.val) 1023#32)) 1#32)
      (BitVec.ofNat 32 (win q.val)) = BitVec.ofNat 32 (min (1024 * i.val + r.val + 1) (win q.val)) := by
    decide +kernel
  pointwise [k0_pay10]
  exact h i r q

/-- A mean over its count, minus the row itself, once the three parts are read. -/
theorem pooled_of (i : Fin 2) (r : Fin 1024) (q : Fin 4) (E : ℕ → EReal) (V X : EReal) (w : BitVec 32) (hw : w = BitVec.ofNat 32 (win q.val))
    (hV : V = wsum (win q.val) E (16 + r.val)) (hX : X = E (16 + r.val)) :
    Ideal.div V (FloatOps.sitofp (F := Ideal) .f32 (IntOp.minsi (IntOp.addi (k0_pay10 (BitVec.ofNat 32 i.val) (ix2 r 0)) 1#32) w)) - X
      = pooled q.val E (16 + r.val) (1024 * i.val + r.val) := by
  rw [hV, hX, hw, count_word]
  rfl

section Sums
variable {n m : ℕ} (E : ℕ → Fin m → EReal) (v : FVec Ideal (⟨2, ![n, m]⟩ : Shape) .f32) (h : (⟨2, ![n, m]⟩ : Shape).Rotates 0 none) (hn : 16 < n)
include hn

theorem sums2 (hv : ∀ (p : Fin n) (c : Fin m), v (ix2 p c) = E p.val c) (p : Fin n) (c : Fin m) (hp : 1 ≤ p.val) :
    addf v (dynamicRotate 0 1#32 none v h) (ix2 p c) = wsum 2 (fun q => E q c) p.val :=
  rotate_step 1 1#32 rfl (by omega) E v h 0 (fun p c _ => (hv p c).trans (wsum_one (fun q => E q c) _).symm) p c (by omega)

theorem sums4 (hv : ∀ (p : Fin n) (c : Fin m), 1 ≤ p.val → v (ix2 p c) = wsum 2 (fun q => E q c) p.val) (p : Fin n) (c : Fin m) (hp : 3 ≤ p.val) :
    addf v (dynamicRotate 0 2#32 none v h) (ix2 p c) = wsum 4 (fun q => E q c) p.val :=
  rotate_step 2 2#32 rfl (by omega) E v h 1 hv p c hp

theorem sums8 (hv : ∀ (p : Fin n) (c : Fin m), 3 ≤ p.val → v (ix2 p c) = wsum 4 (fun q => E q c) p.val) (p : Fin n) (c : Fin m) (hp : 7 ≤ p.val) :
    addf v (dynamicRotate 0 4#32 none v h) (ix2 p c) = wsum 8 (fun q => E q c) p.val :=
  rotate_step 4 4#32 rfl (by omega) E v h 3 hv p c hp

theorem sums16 (hv : ∀ (p : Fin n) (c : Fin m), 7 ≤ p.val → v (ix2 p c) = wsum 8 (fun q => E q c) p.val) (p : Fin n) (c : Fin m) (hp : 15 ≤ p.val) :
    addf v (dynamicRotate 0 8#32 none v h) (ix2 p c) = wsum 16 (fun q => E q c) p.val :=
  rotate_step 8 8#32 rfl (by omega) E v h 7 hv p c hp

end Sums

section Groups
variable (i : Fin 2) (E : ℕ → Fin 1024 → EReal) (X Z : FVec Ideal S1024x1024 .f32)
  (hX : ∀ (r c : Fin 1024), X (ix2 r c) = E (16 + r.val) c)
  (v : Vec Ideal S1x1040x256 .f32) (wg : Vec Ideal S1x256x256 .bf16) (sc : Vec Ideal S1x256 .f32)

theorem cast_apply (v : Vec Ideal S1x1040x256 .f32) (p : Fin 1040) (l : Fin 256) :
    shapeCast S1040x256 v shapeCasts_S1x1040x256_S1040x256 (ix2 p l) = v (ix3 0 p l) := by
  pointwise []

include hX

theorem pay11_apply (v32 : FVec Ideal S1024x1024 .bf16) (v33 : Vec Ideal S1024x2048 .bf16) (e7 : k0_pay7 (F := Ideal) v32 v33 = X)
    (hv : ∀ (p : Fin 1040) (l : Fin 256), v (ix3 0 p l) = E p.val (chan 0 l)) (r : Fin 1024) (l : Fin 256) :
    k0_pay11 (F := Ideal) (BitVec.ofNat 32 i.val) v32 v33 v (ix2 r l)
      = pooled 0 (fun p => E p (chan 0 l)) (16 + r.val) (1024 * i.val + r.val) := by
  have hp := pooled_of i r 0
  have h0 : ∀ (p : Fin 1040) (l : Fin 256), shapeCast S1040x256 v shapeCasts_S1x1040x256_S1040x256 (ix2 p l) = E p.val (chan 0 l) :=
    fun p l => (cast_apply v p l).trans (hv p l)
  have h2 := sums2 (fun p l => E p (chan 0 l)) _ rotates_S1040x256_d0 (by omega) h0
  unfold k0_pay11
  rw [e7]
  dsimp only
  generalize hV : (addf _ _ : FVec Ideal S1040x256 .f32) = V
  replace h2 : ∀ (p : Fin 1040) (l : Fin 256), 1 ≤ p.val → V (ix2 p l) = _ := fun p l hp => (congrFun hV _).symm.trans (h2 p l hp)
  clear hV h0
  revert hp
  generalize k0_pay10 (BitVec.ofNat 32 i.val) = Y
  intro hp
  pointwise []
  exact hp (fun p => E p (chan 0 l)) _ _ _ rfl (h2 _ l (by show 1 ≤ 16 + r.val; omega)) ((congrArg X (congrArg (ix2 r) (Fin.ext (by simp [chan])))).trans (hX r (chan 0 l)))

theorem pay13_apply
    (hv : ∀ (p : Fin 1040) (l : Fin 256), v (ix3 0 p l) = E p.val (chan 1 l)) (r : Fin 1024) (k : Fin 256) :
    k0_pay13 (F := Ideal) X (k0_pay10 (BitVec.ofNat 32 i.val)) v wg (ix2 r k)
      = ∑ l, pooled 1 (fun p => E p (chan 1 l)) (16 + r.val) (1024 * i.val + r.val) * wg (ix3 0 l k) := by
  have hp := pooled_of i r 1
  have h0 : ∀ (p : Fin 1040) (l : Fin 256), shapeCast S1040x256 v shapeCasts_S1x1040x256_S1040x256 (ix2 p l) = E p.val (chan 1 l) :=
    fun p l => (cast_apply v p l).trans (hv p l)
  have h2 := sums4 (fun p l => E p (chan 1 l)) _ rotates_S1040x256_d0 (by omega)
    (sums2 (fun p l => E p (chan 1 l)) _ rotates_S1040x256_d0 (by omega) h0)
  unfold k0_pay13
  dsimp only
  generalize hV : (addf _ _ : FVec Ideal S1040x256 .f32) = V
  replace h2 : ∀ (p : Fin 1040) (l : Fin 256), 3 ≤ p.val → V (ix2 p l) = _ := fun p l hp => (congrFun hV _).symm.trans (h2 p l hp)
  clear hV h0
  revert hp
  generalize k0_pay10 (BitVec.ofNat 32 i.val) = Y
  intro hp
  pointwise []
  refine Finset.sum_congr rfl fun l _ => congrArg (· * wg (ix3 0 l k)) ?_
  exact hp (fun p => E p (chan 1 l)) _ _ _ rfl (h2 _ l (by show 3 ≤ 16 + r.val; omega)) (hX r (chan 1 l))

theorem pay16_apply
    (hv : ∀ (p : Fin 1040) (l : Fin 256), v (ix3 0 p l) = E p.val (chan 2 l)) (r : Fin 1024) (k : Fin 256) :
    k0_pay16 (F := Ideal) X (k0_pay10 (BitVec.ofNat 32 i.val)) v wg sc (ix2 r k)
      = (∑ l, pooled 2 (fun p => E p (chan 2 l)) (16 + r.val) (1024 * i.val + r.val) * wg (ix3 0 l k)) * sc (ix2 0 k) := by
  have hp := pooled_of i r 2
  have h0 : ∀ (p : Fin 1040) (l : Fin 256), shapeCast S1040x256 v shapeCasts_S1x1040x256_S1040x256 (ix2 p l) = E p.val (chan 2 l) :=
    fun p l => (cast_apply v p l).trans (hv p l)
  have h2 := sums8 (fun p l => E p (chan 2 l)) _ rotates_S1040x256_d0 (by omega)
    (sums4 (fun p l => E p (chan 2 l)) _ rotates_S1040x256_d0 (by omega)
    (sums2 (fun p l => E p (chan 2 l)) _ rotates_S1040x256_d0 (by omega) h0))
  unfold k0_pay16
  dsimp only
  generalize hV : (addf _ _ : FVec Ideal S1040x256 .f32) = V
  replace h2 : ∀ (p : Fin 1040) (l : Fin 256), 7 ≤ p.val → V (ix2 p l) = _ := fun p l hp => (congrFun hV _).symm.trans (h2 p l hp)
  clear hV h0
  revert hp
  generalize k0_pay10 (BitVec.ofNat 32 i.val) = Y
  intro hp
  pointwise []
  refine congrArg (· * sc (ix2 0 k)) (Finset.sum_congr rfl fun l _ => congrArg (· * wg (ix3 0 l k)) ?_)
  exact hp (fun p => E p (chan 2 l)) _ _ _ rfl (h2 _ l (by show 7 ≤ 16 + r.val; omega)) (hX r (chan 2 l))

theorem pay19_apply
    (hv : ∀ (p : Fin 1040) (l : Fin 256), v (ix3 0 p l) = E p.val (chan 3 l)) (r : Fin 1024) (k : Fin 256) :
    k0_pay19 (F := Ideal) X (k0_pay10 (BitVec.ofNat 32 i.val)) v wg sc (ix2 r k)
      = (∑ l, pooled 3 (fun p => E p (chan 3 l)) (16 + r.val) (1024 * i.val + r.val) * wg (ix3 0 l k)) * sc (ix2 0 k) := by
  have hp := pooled_of i r 3
  have h0 : ∀ (p : Fin 1040) (l : Fin 256), shapeCast S1040x256 v shapeCasts_S1x1040x256_S1040x256 (ix2 p l) = E p.val (chan 3 l) :=
    fun p l => (cast_apply v p l).trans (hv p l)
  have h2 := sums16 (fun p l => E p (chan 3 l)) _ rotates_S1040x256_d0 (by omega)
    (sums8 (fun p l => E p (chan 3 l)) _ rotates_S1040x256_d0 (by omega)
    (sums4 (fun p l => E p (chan 3 l)) _ rotates_S1040x256_d0 (by omega)
    (sums2 (fun p l => E p (chan 3 l)) _ rotates_S1040x256_d0 (by omega) h0)))
  unfold k0_pay19
  dsimp only
  generalize hV : (addf _ _ : FVec Ideal S1040x256 .f32) = V
  replace h2 : ∀ (p : Fin 1040) (l : Fin 256), 15 ≤ p.val → V (ix2 p l) = _ := fun p l hp => (congrFun hV _).symm.trans (h2 p l hp)
  clear hV h0
  revert hp
  generalize k0_pay10 (BitVec.ofNat 32 i.val) = Y
  intro hp
  pointwise []
  refine congrArg (· * sc (ix2 0 k)) (Finset.sum_congr rfl fun l _ => congrArg (· * wg (ix3 0 l k)) ?_)
  exact hp (fun p => E p (chan 3 l)) _ _ _ rfl (h2 _ l (by show 15 ≤ 16 + r.val; omega)) (hX r (chan 3 l))

omit hX

theorem pay12_apply (P : FVec Ideal S1024x256 .bf16) (r : Fin 1024) (k : Fin 256) :
    k0_pay12 (F := Ideal) Z P wg sc (ix2 r k) = (∑ l, P (ix2 r l) * wg (ix3 0 l k)) * sc (ix2 0 k) * sil (Z (ix2 r (chan 0 k))) := by
  have e : (⟨k.val, by have := k.isLt; omega⟩ : Fin 1024) = chan 0 k := Fin.ext (by simp [chan])
  pointwise [k0_pay12]
  rw [← e]
  exact congrArg (HMul.hMul _) (sil_eq _)

theorem pay15_apply (M : FVec Ideal S1024x256 .f32) (r : Fin 1024) (k : Fin 256) :
    k0_pay15 (F := Ideal) Z M (k0_pay14 sc) (ix2 r k) = M (ix2 r k) * sc (ix2 0 k) * sil (Z (ix2 r (chan 1 k))) := by
  pointwise [k0_pay15, k0_pay14]
  exact congrArg (HMul.hMul _) (sil_eq _)

theorem pay18_apply (M : FVec Ideal S1024x256 .f32) (r : Fin 1024) (k : Fin 256) :
    k0_pay18 (F := Ideal) M (k0_pay17 Z) (FloatOps.ofBits .f32 0#32) (ix2 r k) = M (ix2 r k) * sil (Z (ix2 r (chan 2 k))) := by
  pointwise [k0_pay18, k0_pay17]
  exact congrArg (HMul.hMul _) (sil_eq _)

theorem pay1_apply (v17 : FVec Ideal S1024x1024 .f32) (v85 v122 v161 : FVec Ideal S1024x256 .bf16) (v191 : FVec Ideal S1024x256 .f32)
    (wo : Vec Ideal S1024x1024 .bf16) (r d : Fin 1024) :
    k0_pay1 (F := Ideal) v17 v85 v122 v161 v191 (k0_pay20 Z) k0_pay21 wo (ix2 r d)
      = v17 (ix2 r d) + (∑ k, v85 (ix2 r k) * wo (ix2 (chan 0 k) d) + ∑ k, v122 (ix2 r k) * wo (ix2 (chan 1 k) d)
          + ∑ k, v161 (ix2 r k) * wo (ix2 (chan 2 k) d) + ∑ k, v191 (ix2 r k) * sil (Z (ix2 r (chan 3 k))) * wo (ix2 (chan 3 k) d)) := by
  pointwise [k0_pay1, k0_pay20, k0_pay21, sumSplitAll]
  have e0 : ∀ k : Fin 256, (⟨k.val, by have := k.isLt; omega⟩ : Fin 1024) = chan 0 k := fun k => Fin.ext (by simp [chan])
  have e2 : ∀ k : Fin 256, (⟨256 + (256 + k.val), by have := k.isLt; omega⟩ : Fin 1024) = chan 2 k :=
    fun k => Fin.ext (by show 256 + (256 + k.val) = 2 * 256 + k.val; omega)
  have e3 : ∀ k : Fin 256, (⟨256 + (256 + (256 + k.val)), by have := k.isLt; omega⟩ : Fin 1024) = chan 3 k :=
    fun k => Fin.ext (by show 256 + (256 + (256 + k.val)) = 3 * 256 + k.val; omega)
  simp only [e0, e2, e3, add_assoc, sil_eq]
  rfl

end Groups

/-- The whole straight line: from the loads to one entry of the output tile. `E` is the scratch the window sums read,
    sixteen rows before the tile's own. -/
theorem body_apply (i : Fin 2) (E : ℕ → Fin 1024 → EReal)
    (v6 : Vec Ideal S1024x1024 .f32) (v8 v13 : Vec Ideal S1024x512 .bf16) (v9 v14 : Vec Ideal S512x1024 .bf16)
    (v28 : Vec Ideal S1x1024 .f32) (v33 : Vec Ideal S1024x2048 .bf16)
    (v51 v86 v123 v162 : Vec Ideal S1x1040x256 .f32) (v68 v105 v144 v185 : Vec Ideal S1x256x256 .bf16)
    (v71 v108 v147 v188 : Vec Ideal S1x256 .f32) (v204 : Vec Ideal S1024x1024 .bf16)
    (wg : Fin 4 → Fin 256 → Fin 256 → EReal) (sc : Fin 1024 → EReal)
    (h51 : ∀ (p : Fin 1040) (l : Fin 256), v51 (ix3 0 p l) = E p.val (chan 0 l))
    (h86 : ∀ (p : Fin 1040) (l : Fin 256), v86 (ix3 0 p l) = E p.val (chan 1 l))
    (h123 : ∀ (p : Fin 1040) (l : Fin 256), v123 (ix3 0 p l) = E p.val (chan 2 l))
    (h162 : ∀ (p : Fin 1040) (l : Fin 256), v162 (ix3 0 p l) = E p.val (chan 3 l))
    (hE : ∀ (r c : Fin 1024), k0_pay7 (F := Ideal) (k0_pay5 v6 v8 v9 v13 v14 v28) v33 (ix2 r c) = E (16 + r.val) c)
    (g68 : ∀ l k, v68 (ix3 0 l k) = wg 0 l k) (g105 : ∀ l k, v105 (ix3 0 l k) = wg 1 l k)
    (g144 : ∀ l k, v144 (ix3 0 l k) = wg 2 l k) (g185 : ∀ l k, v185 (ix3 0 l k) = wg 3 l k)
    (s71 : ∀ k, v71 (ix2 0 k) = sc (chan 0 k)) (s108 : ∀ k, v108 (ix2 0 k) = sc (chan 1 k))
    (s147 : ∀ k, v147 (ix2 0 k) = sc (chan 2 k)) (s188 : ∀ k, v188 (ix2 0 k) = sc (chan 3 k)) (r d : Fin 1024) :
    k0_pay1 (F := Ideal) (k0_pay4 v6 v8 v9 v13 v14)
      (k0_pay12 (k0_pay8 (k0_pay5 v6 v8 v9 v13 v14 v28) v33) (k0_pay11 (BitVec.ofNat 32 i.val) (k0_pay5 v6 v8 v9 v13 v14 v28) v33 v51) v68 v71)
      (k0_pay15 (k0_pay8 (k0_pay5 v6 v8 v9 v13 v14 v28) v33)
        (k0_pay13 (k0_pay7 (k0_pay5 v6 v8 v9 v13 v14 v28) v33) (k0_pay10 (BitVec.ofNat 32 i.val)) v86 v105) (k0_pay14 v108))
      (k0_pay18 (k0_pay16 (k0_pay7 (k0_pay5 v6 v8 v9 v13 v14 v28) v33) (k0_pay10 (BitVec.ofNat 32 i.val)) v123 v144 v147)
        (k0_pay17 (k0_pay8 (k0_pay5 v6 v8 v9 v13 v14 v28) v33)) (FloatOps.ofBits .f32 0#32))
      (k0_pay19 (k0_pay7 (k0_pay5 v6 v8 v9 v13 v14 v28) v33) (k0_pay10 (BitVec.ofNat 32 i.val)) v162 v185 v188)
      (k0_pay20 (k0_pay8 (k0_pay5 v6 v8 v9 v13 v14 v28) v33)) k0_pay21 v204 (ix2 r d)
    = outRow (xk v6 v8 v13 v9 v14 r) (fun d => v28 (ix2 0 d)) (fun k f => v33 (ix2 k f)) E (16 + r.val) (1024 * i.val + r.val)
        wg sc (fun c d => v204 (ix2 c d)) d := by
  have hZ : ∀ c : Fin 1024, k0_pay8 (F := Ideal) (k0_pay5 v6 v8 v9 v13 v14 v28) v33 (ix2 r c)
      = gateRow (xk v6 v8 v13 v9 v14 r) (fun d => v28 (ix2 0 d)) (fun k f => v33 (ix2 k f)) c := fun c => by
    rw [pay8_apply]
    simp only [pay5_apply]
    rfl
  have e11 := pay11_apply i E _ hE v51 (k0_pay5 v6 v8 v9 v13 v14 v28) v33 rfl h51
  have e13 := pay13_apply i E _ hE v86 v105 h86
  have e16 := pay16_apply i E _ hE v123 v144 v147 h123
  have e19 := pay19_apply i E _ hE v162 v185 v188 h162
  have e4 := pay4_apply v6 v8 v13 v9 v14
  revert hZ e11 e13 e16 e19 e4
  generalize k0_pay11 (F := Ideal) (BitVec.ofNat 32 i.val) (k0_pay5 v6 v8 v9 v13 v14 v28) v33 v51 = P11
  generalize k0_pay13 (F := Ideal) (k0_pay7 (k0_pay5 v6 v8 v9 v13 v14 v28) v33) (k0_pay10 (BitVec.ofNat 32 i.val)) v86 v105 = P13
  generalize k0_pay16 (F := Ideal) (k0_pay7 (k0_pay5 v6 v8 v9 v13 v14 v28) v33) (k0_pay10 (BitVec.ofNat 32 i.val)) v123 v144 v147 = P16
  generalize k0_pay19 (F := Ideal) (k0_pay7 (k0_pay5 v6 v8 v9 v13 v14 v28) v33) (k0_pay10 (BitVec.ofNat 32 i.val)) v162 v185 v188 = P19
  generalize k0_pay8 (F := Ideal) (k0_pay5 v6 v8 v9 v13 v14 v28) v33 = Z
  generalize k0_pay4 (F := Ideal) v6 v8 v9 v13 v14 = X
  intro hZ e11 e13 e16 e19 e4
  rw [pay1_apply]
  simp only [pay12_apply, pay15_apply, pay18_apply, e11, e13, e16, e19, e4, hZ, g68, g105, g144, g185, s71, s108, s147, s188]
  unfold outRow
  rw [Fin.sum_univ_four]
  rfl

end Cert.KernelIdeal.Pool
-- ==== Proof.PoolBody.lean ====
/-
  What the kernel body leaves in its two output tiles and in the carried scratch, at an index. The scratch holds sixteen
  rows from before the tile and then the tile's own projected rows.
-/
module

public import proofs.«01_k».proof.Proof.PoolPay
public import Idealize.ShloMosaic.Lib.Pipeline.ValueKit.Tiles

@[expose] public section

set_option maxRecDepth 16384

noncomputable section

namespace Cert.KernelIdeal.Pool

open Cert.KernelIdeal Cert.KernelIdeal.Gen Cert.PoolMath
open Idealize.ShloMosaic Idealize.ShloMosaic.TcCoe Idealize.SL.Sem

theorem zero2 : (![0, 0] : Fin 2 → ℕ) = fun _ => 0 := funext fun a => by fin_cases a <;> rfl
theorem zero3 : (![0, 0, 0] : Fin 3 → ℕ) = fun _ => 0 := funext fun a => by fin_cases a <;> rfl

section Whole
variable {e : EltTy} {n m k : ℕ}

/-- A load of a whole buffer is the buffer. -/
theorem ld2 (x : Vec Ideal ⟨2, ![n, m]⟩ e) (inb : ∀ a, (![0, 0] : Fin 2 → ℕ) a + (![n, m] : Fin 2 → ℕ) a ≤ (⟨2, ![n, m]⟩ : Shape).size a) :
    View.ld (Val := Elt Ideal) (S := ⟨2, ![n, m]⟩) x (Rect.unit ![0, 0] ![n, m] inb) = x :=
  View.ld_unit_zero (S := ⟨2, ![n, m]⟩) zero2 inb x

theorem ld3 (x : Vec Ideal ⟨3, ![k, n, m]⟩ e) (inb : ∀ a, (![0, 0, 0] : Fin 3 → ℕ) a + (![k, n, m] : Fin 3 → ℕ) a ≤ (⟨3, ![k, n, m]⟩ : Shape).size a) :
    View.ld (Val := Elt Ideal) (S := ⟨3, ![k, n, m]⟩) x (Rect.unit ![0, 0, 0] ![k, n, m] inb) = x :=
  View.ld_unit_zero (S := ⟨3, ![k, n, m]⟩) zero3 inb x

/-- One store of a whole buffer leaves what it stored. -/
theorem canon2 (x : Vec Ideal ⟨2, ![n, m]⟩ e) (inb : ∀ a, (![0, 0] : Fin 2 → ℕ) a + (![n, m] : Fin 2 → ℕ) a ≤ (⟨2, ![n, m]⟩ : Shape).size a) :
    View.canon (Val := Elt Ideal) (s := ⟨2, ![n, m]⟩) (e := e) [⟨Rect.unit ![0, 0] ![n, m] inb, x⟩] = x :=
  View.canon_unit_zero (S := ⟨2, ![n, m]⟩) zero2 inb x

theorem canon3 (x : Vec Ideal ⟨3, ![k, n, m]⟩ e) (inb : ∀ a, (![0, 0, 0] : Fin 3 → ℕ) a + (![k, n, m] : Fin 3 → ℕ) a ≤ (⟨3, ![k, n, m]⟩ : Shape).size a) :
    View.canon (Val := Elt Ideal) (s := ⟨3, ![k, n, m]⟩) (e := e) [⟨Rect.unit ![0, 0, 0] ![k, n, m] inb, x⟩] = x :=
  View.canon_unit_zero (S := ⟨3, ![k, n, m]⟩) zero3 inb x

end Whole

/-- The scratch as a function of rows: sixteen rows `hist`, then the tile's rows `X`. -/
def scr (hist : ℕ → Fin 1024 → EReal) (X : FVec Ideal S1024x1024 .f32) (p : ℕ) (c : Fin 1024) : EReal :=
  if p < 16 then hist p c else if h : p - 16 < 1024 then X (ix2 ⟨p - 16, h⟩ c) else 0

theorem scr_row (hist : ℕ → Fin 1024 → EReal) (X : FVec Ideal S1024x1024 .f32) (r c : Fin 1024) :
    X (ix2 r c) = scr hist X (16 + r.val) c := by
  have hr := r.isLt
  unfold scr
  rw [if_neg (by omega), dif_pos (by omega)]
  exact congrArg X (congrArg (ix2 · c) (Fin.ext (by show r.val = 16 + r.val - 16; omega)))

/-- The scratch after its two stores. -/
theorem scratch_apply (hist : ℕ → Fin 1024 → EReal) (X : FVec Ideal S1024x1024 .f32)
    (W : Vec Ideal S1x1024x1024 .f32) (H : Vec Ideal S1x16x1024 .f32)
    (i1 : ∀ a, (![0, 16, 0] : Fin 3 → ℕ) a + (![1, 1024, 1024] : Fin 3 → ℕ) a ≤ S1x1040x1024.size a)
    (i2 : ∀ a, (![0, 0, 0] : Fin 3 → ℕ) a + (![1, 16, 1024] : Fin 3 → ℕ) a ≤ S1x1040x1024.size a)
    (hW : ∀ r c, W (ix3 0 r c) = X (ix2 r c)) (hH : ∀ (p : Fin 16) c, H (ix3 0 p c) = hist p.val c)
    (j : S1x1040x1024.Idx) (p : ℕ) (hp : p < 1040) (c : Fin 1024) (h1 : (j 1).val = p) (h2 : (j 2).val = c.val) :
    View.canon (Val := Elt Ideal) (s := S1x1040x1024) (e := .f32) [⟨Rect.unit ![0, 16, 0] ![1, 1024, 1024] i1, W⟩, ⟨Rect.unit ![0, 0, 0] ![1, 16, 1024] i2, H⟩] j
      = scr hist X p c := by
  have h0 : (j 0).val = 0 := by have := (j 0).isLt; change (j 0).val < 1 at this; omega
  by_cases hp16 : p < 16
  · rw [View.canon_cons_of_not_mem _ _ (by
      rw [Rect.mem_set_unit]
      intro h
      have := (h 1).1
      change 16 ≤ (j 1).val at this
      omega)]
    have e : j = (Rect.unit (s := S1x1040x1024) ![0, 0, 0] ![1, 16, 1024] i2).emb (ix3 (0 : Fin 1) (⟨p, hp16⟩ : Fin 16) c) := by
      funext a
      refine Fin.ext ((?_ : _ = _).trans (Rect.idx_unit_val _ _ _ _ a).symm)
      match a with
      | ⟨0, _⟩ => exact h0
      | ⟨1, _⟩ => exact h1.trans (Nat.zero_add _).symm
      | ⟨2, _⟩ => exact h2.trans (Nat.zero_add _).symm
    rw [e, View.canon_cons_emb]
    unfold scr
    rw [if_pos hp16]
    exact hH ⟨p, hp16⟩ c
  · have e : j = (Rect.unit (s := S1x1040x1024) ![0, 16, 0] ![1, 1024, 1024] i1).emb (ix3 (0 : Fin 1) (⟨p - 16, by omega⟩ : Fin 1024) c) := by
      funext a
      refine Fin.ext ((?_ : _ = _).trans (Rect.idx_unit_val _ _ _ _ a).symm)
      match a with
      | ⟨0, _⟩ => exact h0
      | ⟨1, _⟩ => exact h1.trans (show p = 16 + (p - 16) by omega)
      | ⟨2, _⟩ => exact h2.trans (Nat.zero_add _).symm
    rw [e, View.canon_cons_emb]
    unfold scr
    rw [if_neg hp16, dif_pos (by omega)]
    exact hW _ c

/-- One entry of the output tile, from the input tiles and the sixteen rows before. -/
def tileOut (i : ℕ) (hist : ℕ → Fin 1024 → EReal) (x0 : Vec Ideal S1024x1024 .f32) (x1 : Vec Ideal S1024x512 .bf16) (x2 : Vec Ideal S1024x512 .bf16) (x3 : Vec Ideal S512x1024 .bf16) (x4 : Vec Ideal S512x1024 .bf16) (x6 : Vec Ideal S1x1024 .f32) (x7 : Vec Ideal S1024x2048 .bf16) (x8 : Vec Ideal S4x256x256 .bf16) (x9 : Vec Ideal S1x1024 .f32) (x10 : Vec Ideal S1024x1024 .bf16) (r d : Fin 1024) : EReal :=
  outRow (xk x0 x1 x2 x3 x4 r) (fun d => x6 (ix2 0 d)) (fun k f => x7 (ix2 k f))
    (scr hist (k0_pay7 (F := Ideal) (k0_pay5 x0 x1 x3 x2 x4 x6) x7)) (16 + r.val) (1024 * i + r.val)
    (fun q l k => x8 (ix3 q l k)) (fun c => x9 (ix2 0 c)) (fun c d => x10 (ix2 c d)) d

section Outs
variable (c : Dev nD) (i : grid0.Coords) (arg2 : Memref sig .tc .vmem S1024x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x16x1024 .f32) (harg7 : arg7.IsWhole) (arg8 : Memref sig .tc .vmem S1x1024 .f32) (harg8 : arg8.IsWhole) (arg9 : Memref sig .tc .vmem S1024x2048 .bf16) (harg9 : arg9.IsWhole) (arg10 : Memref sig .tc .vmem S4x256x256 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1024x1024 .f32) (harg13 : arg13.IsWhole) (arg14 : Memref sig .tc .vmem S1x16x1024 .f32) (harg14 : arg14.IsWhole) (arg15 : Memref sig .tc .vmem S1x1040x1024 .f32) (harg15 : arg15.IsWhole)
  (x0 : Vec Ideal S1024x1024 .f32) (x1 : Vec Ideal S1024x512 .bf16) (x2 : Vec Ideal S1024x512 .bf16) (x3 : Vec Ideal S512x1024 .bf16) (x4 : Vec Ideal S512x1024 .bf16) (x5 : Vec Ideal S1x16x1024 .f32) (x6 : Vec Ideal S1x1024 .f32) (x7 : Vec Ideal S1024x2048 .bf16) (x8 : Vec Ideal S4x256x256 .bf16) (x9 : Vec Ideal S1x1024 .f32) (x10 : Vec Ideal S1024x1024 .bf16)

theorem outA_11 (hc0 : cond0_0 i) (hc1 : ¬cond0_1 i) (r d : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 (ix2 r d)
      = tileOut (i 1).val (fun _ _ => 0) x0 x1 x2 x3 x4 x6 x7 x8 x9 x10 r d := by
  have hsc := scratch_apply (fun _ _ => 0) (k0_pay7 (F := Ideal) (k0_pay5 x0 x1 x3 x2 x4 x6) x7)
    (k0_pay9 (F := Ideal) (k0_pay5 x0 x1 x3 x2 x4 x6) x7) (k0_pay2 (F := Ideal) x5)
    inb_S1x1040x1024_S1x1024x1024_0_16_0 inb_S1x1040x1024_S1x16x1024_0_0_0 (fun r c => pay9_apply x7 r c _) (fun p c => pay2_apply x5 p c)
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  simp only [View.readAt_eq_ld, Memref.IsWhole.read_unread, View.readCov_eq_canon', ld2, ld3, canon2]
  unfold tileOut
  generalize View.canon (Val := Elt Ideal) (s := S1x1040x1024) (e := .f32) _ = K at hsc ⊢
  have hE := scr_row (fun _ _ => 0) (k0_pay7 (F := Ideal) (k0_pay5 x0 x1 x3 x2 x4 x6) x7)
  refine body_apply (i 1) (scr (fun _ _ => 0) (k0_pay7 (F := Ideal) (k0_pay5 x0 x1 x3 x2 x4 x6) x7)) x0 x1 x2 x3 x4 x6 x7
    _ _ _ _ _ _ _ _ _ _ _ _ x10 (fun q l k => x8 (ix3 q l k)) (fun c => x9 (ix2 0 c))
    (fun p l => ?_) (fun p l => ?_) (fun p l => ?_) (fun p l => ?_) hE (fun l k => ?_) (fun l k => ?_) (fun l k => ?_) (fun l k => ?_)
    (fun k => ?_) (fun k => ?_) (fun k => ?_) (fun k => ?_) r d
  iterate 4 exact hsc _ p.val p.isLt _ ((Rect.idx_unit_val _ _ _ _ _).trans (Nat.zero_add _)) ((Rect.idx_unit_val _ _ _ _ _).trans (by simp [chan]))
  iterate 4 exact View.ld_unit_apply_of _ _ _ _ _ _ (fun a => match a with | ⟨0, _⟩ => rfl | ⟨1, _⟩ => (Nat.zero_add _).symm | ⟨2, _⟩ => (Nat.zero_add _).symm)
  iterate 4 exact View.ld_unit_apply_of _ _ _ _ _ _ (fun a => match a with | ⟨0, _⟩ => rfl | ⟨1, _⟩ => by simp [chan])

theorem outA_12 (hc0 : cond0_0 i) (hc1 : ¬cond0_1 i) (p : Fin 16) (d : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 (ix3 0 p d)
      = scr (fun _ _ => 0) (k0_pay7 (F := Ideal) (k0_pay5 x0 x1 x3 x2 x4 x6) x7) (1024 + p.val) d := by
  have hsc := scratch_apply (fun _ _ => 0) (k0_pay7 (F := Ideal) (k0_pay5 x0 x1 x3 x2 x4 x6) x7)
    (k0_pay9 (F := Ideal) (k0_pay5 x0 x1 x3 x2 x4 x6) x7) (k0_pay2 (F := Ideal) x5)
    inb_S1x1040x1024_S1x1024x1024_0_16_0 inb_S1x1040x1024_S1x16x1024_0_0_0 (fun r c => pay9_apply x7 r c _) (fun p c => pay2_apply x5 p c)
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  simp only [View.readAt_eq_ld, Memref.IsWhole.read_unread, View.readCov_eq_canon', ld2, ld3, canon3]
  exact hsc _ _ (by have := p.isLt; omega) d (Rect.idx_unit_val _ _ _ _ _) ((Rect.idx_unit_val _ _ _ _ _).trans (Nat.zero_add _))

theorem soutA (hc0 : cond0_0 i) (hc1 : ¬cond0_1 i) (p : Fin 1040) (d : Fin 1024) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 (ix3 0 p d)
      = scr (fun _ _ => 0) (k0_pay7 (F := Ideal) (k0_pay5 x0 x1 x3 x2 x4 x6) x7) p.val d := by
  have hsc := scratch_apply (fun _ _ => 0) (k0_pay7 (F := Ideal) (k0_pay5 x0 x1 x3 x2 x4 x6) x7)
    (k0_pay9 (F := Ideal) (k0_pay5 x0 x1 x3 x2 x4 x6) x7) (k0_pay2 (F := Ideal) x5)
    inb_S1x1040x1024_S1x1024x1024_0_16_0 inb_S1x1040x1024_S1x16x1024_0_0_0 (fun r c => pay9_apply x7 r c _) (fun p c => pay2_apply x5 p c)
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  simp only [View.readAt_eq_ld, Memref.IsWhole.read_unread, View.readCov_eq_canon', ld2, ld3]
  exact hsc _ _ p.isLt d rfl rfl

theorem outB_11 (hc0 : ¬cond0_0 i) (hc1 : cond0_1 i) (xs0 : Vec Ideal S1x1040x1024 .f32) (hist : ℕ → Fin 1024 → EReal)
    (hx : ∀ (p : Fin 16) (c : Fin 1024), xs0 (ix3 0 ⟨1024 + p.val, by have := p.isLt; omega⟩ c) = hist p.val c) (r d : Fin 1024) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 (ix2 r d)
      = tileOut (i 1).val hist x0 x1 x2 x3 x4 x6 x7 x8 x9 x10 r d := by
  have hsc := scratch_apply hist (k0_pay7 (F := Ideal) (k0_pay5 x0 x1 x3 x2 x4 x6) x7)
    (k0_pay9 (F := Ideal) (k0_pay5 x0 x1 x3 x2 x4 x6) x7) (k0_pay3 (F := Ideal) (View.ld xs0 (Rect.unit ![0, 1024, 0] ![1, 16, 1024] inb_S1x1040x1024_S1x16x1024_0_1024_0)))
    inb_S1x1040x1024_S1x1024x1024_0_16_0 inb_S1x1040x1024_S1x16x1024_0_0_0 (fun r c => pay9_apply x7 r c _) (fun p c => by
      rw [pay3_apply]
      exact (View.ld_unit_apply_of _ _ _ _ _ _ (fun a => match a with | ⟨0, _⟩ => rfl | ⟨1, _⟩ => rfl | ⟨2, _⟩ => (Nat.zero_add _).symm)).trans (hx p c))
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0)]
  unfold kernelRun0_B
  dsimp only
  sl_unfold_words
  simp only [View.readAt_eq_ld, Memref.IsWhole.read_unread, View.readCov_eq_canon', ld2, ld3, canon2]
  unfold tileOut
  generalize View.canon (Val := Elt Ideal) (s := S1x1040x1024) (e := .f32) _ = K at hsc ⊢
  have hE := scr_row hist (k0_pay7 (F := Ideal) (k0_pay5 x0 x1 x3 x2 x4 x6) x7)
  refine body_apply (i 1) (scr hist (k0_pay7 (F := Ideal) (k0_pay5 x0 x1 x3 x2 x4 x6) x7)) x0 x1 x2 x3 x4 x6 x7
    _ _ _ _ _ _ _ _ _ _ _ _ x10 (fun q l k => x8 (ix3 q l k)) (fun c => x9 (ix2 0 c))
    (fun p l => ?_) (fun p l => ?_) (fun p l => ?_) (fun p l => ?_) hE (fun l k => ?_) (fun l k => ?_) (fun l k => ?_) (fun l k => ?_)
    (fun k => ?_) (fun k => ?_) (fun k => ?_) (fun k => ?_) r d
  iterate 4 exact hsc _ p.val p.isLt _ ((Rect.idx_unit_val _ _ _ _ _).trans (Nat.zero_add _)) ((Rect.idx_unit_val _ _ _ _ _).trans (by simp [chan]))
  iterate 4 exact View.ld_unit_apply_of _ _ _ _ _ _ (fun a => match a with | ⟨0, _⟩ => rfl | ⟨1, _⟩ => (Nat.zero_add _).symm | ⟨2, _⟩ => (Nat.zero_add _).symm)
  iterate 4 exact View.ld_unit_apply_of _ _ _ _ _ _ (fun a => match a with | ⟨0, _⟩ => rfl | ⟨1, _⟩ => by simp [chan])

theorem outB_12 (hc0 : ¬cond0_0 i) (hc1 : cond0_1 i) (xs0 : Vec Ideal S1x1040x1024 .f32) (hist : ℕ → Fin 1024 → EReal)
    (hx : ∀ (p : Fin 16) (c : Fin 1024), xs0 (ix3 0 ⟨1024 + p.val, by have := p.isLt; omega⟩ c) = hist p.val c) (p : Fin 16) (d : Fin 1024) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 (ix3 0 p d)
      = scr hist (k0_pay7 (F := Ideal) (k0_pay5 x0 x1 x3 x2 x4 x6) x7) (1024 + p.val) d := by
  have hsc := scratch_apply hist (k0_pay7 (F := Ideal) (k0_pay5 x0 x1 x3 x2 x4 x6) x7)
    (k0_pay9 (F := Ideal) (k0_pay5 x0 x1 x3 x2 x4 x6) x7) (k0_pay3 (F := Ideal) (View.ld xs0 (Rect.unit ![0, 1024, 0] ![1, 16, 1024] inb_S1x1040x1024_S1x16x1024_0_1024_0)))
    inb_S1x1040x1024_S1x1024x1024_0_16_0 inb_S1x1040x1024_S1x16x1024_0_0_0 (fun r c => pay9_apply x7 r c _) (fun p c => by
      rw [pay3_apply]
      exact (View.ld_unit_apply_of _ _ _ _ _ _ (fun a => match a with | ⟨0, _⟩ => rfl | ⟨1, _⟩ => rfl | ⟨2, _⟩ => (Nat.zero_add _).symm)).trans (hx p c))
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0)]
  unfold kernelRun0_B
  dsimp only
  sl_unfold_words
  simp only [View.readAt_eq_ld, Memref.IsWhole.read_unread, View.readCov_eq_canon', ld2, ld3, canon3]
  exact hsc _ _ (by have := p.isLt; omega) d (Rect.idx_unit_val _ _ _ _ _) ((Rect.idx_unit_val _ _ _ _ _).trans (Nat.zero_add _))

end Outs

end Cert.KernelIdeal.Pool
-- ==== Proof.PoolBlk.lean ====
/-
  The kernel's input windows, read at an index: each block against the argument array it is cut from.
-/
module

public import proofs.«01_k».proof.Proof.PoolBody
public import Idealize.ShloMosaic.Lib.Pipeline.ValueKit.Point
public import Idealize.ShloMosaic.Lib.Claim

@[expose] public section

set_option maxRecDepth 16384

noncomputable section

namespace Cert.KernelIdeal.Pool

open Cert.KernelIdeal Cert.KernelIdeal.Gen Cert.PoolMath
open Idealize.ShloMosaic Idealize.ShloMosaic.TcCoe Idealize.SL.Sem

/-- Every input window's block number at every grid point. -/
theorem idx : ∀ t : Fin cfg0.N,
    win0_0.index t = ![t.val, 0] ∧ win0_1.index t = ![t.val, 0] ∧ win0_2.index t = ![t.val, 0] ∧ win0_3.index t = ![0, 0] ∧
    win0_4.index t = ![0, 0] ∧ win0_6.index t = ![0, 0] ∧ win0_7.index t = ![0, 0] ∧
    win0_8.index t = ![0, 0, 0] ∧ win0_9.index t = ![0, 0] ∧ win0_10.index t = ![0, 0] := by decide +kernel

/-- The tile number within a sequence. -/
theorem coord (t : Fin cfg0.N) : (grid0.coords t 1).val = t.val % 2 := by
  revert t; decide +kernel

variable (m : (ℓ : Loc nD τ sig) → Buf (Elt Ideal) ℓ) (c : Dev nD)

theorem blk0 (t : Fin cfg0.N) (b : Fin 8) (p : Fin 2048) (r d : Fin 1024) (h : 2048 * b.val + p.val = 1024 * t.val + r.val) :
    iblk m c 0 t (ix2 r d) = m ((c : Thread nD τ).loc main_arg0) (ix3 b p d) := by
  blk_ext! [iblk, V, idx t]

theorem blk1 (t : Fin cfg0.N) (R : Fin 16384) (r : Fin 1024) (k : Fin 512) (h : R.val = 1024 * t.val + r.val) :
    iblk m c 1 t (ix2 r k) = m ((c : Thread nD τ).loc main_arg1) (ix2 R k) := by
  blk_ext! [iblk, V, idx t]

theorem blk2 (t : Fin cfg0.N) (R : Fin 16384) (r : Fin 1024) (k : Fin 512) (h : R.val = 1024 * t.val + r.val) :
    iblk m c 2 t (ix2 r k) = m ((c : Thread nD τ).loc main_arg2) (ix2 R k) := by
  blk_ext! [iblk, V, idx t]

theorem blk3 (t : Fin cfg0.N) (k : Fin 512) (d : Fin 1024) :
    iblk m c 3 t (ix2 k d) = m ((c : Thread nD τ).loc main_arg3) (ix3 0 ⟨k.val, by have := k.isLt; omega⟩ d) := by
  blk_ext! [iblk, V, idx t]

theorem blk4 (t : Fin cfg0.N) (k : Fin 512) (d : Fin 1024) :
    iblk m c 4 t (ix2 k d) = m ((c : Thread nD τ).loc main_arg3) (ix3 0 ⟨512 + k.val, by have := k.isLt; omega⟩ d) := by
  blk_ext! [iblk, V, idx t]

theorem blk6 (t : Fin cfg0.N) (d : Fin 1024) :
    iblk m c 6 t (ix2 0 d) = m ((c : Thread nD τ).loc main_arg4) (ix2 0 d) := by
  blk_ext! [iblk, V, idx t]

theorem blk7 (t : Fin cfg0.N) (k : Fin 1024) (f : Fin 2048) :
    iblk m c 7 t (ix2 k f) = m ((c : Thread nD τ).loc main_arg5) (ix3 0 k f) := by
  blk_ext! [iblk, V, idx t]

theorem blk8 (t : Fin cfg0.N) (q : Fin 4) (l k : Fin 256) :
    iblk m c 8 t (ix3 q l k) = m ((c : Thread nD τ).loc main_arg6) (ix4 0 q l k) := by
  blk_ext! [iblk, V, idx t]

theorem blk9 (t : Fin cfg0.N) (d : Fin 1024) :
    iblk m c 9 t (ix2 0 d) = m ((c : Thread nD τ).loc main_arg7) (ix2 0 d) := by
  blk_ext! [iblk, V, idx t]

theorem blk10 (t : Fin cfg0.N) (k d : Fin 1024) :
    iblk m c 10 t (ix2 k d) = m ((c : Thread nD τ).loc main_arg8) (ix3 0 k d) := by
  blk_ext! [iblk, V, idx t]

end Cert.KernelIdeal.Pool
-- ==== Proof.PoolKernel.lean ====
/-
  The kernel's two result arrays, at an index, over its argument arrays.
-/
module

public import proofs.«01_k».proof.Proof.PoolBlk

@[expose] public section

set_option maxRecDepth 16384

noncomputable section

namespace Cert.KernelIdeal.Pool

open Cert.KernelIdeal Cert.KernelIdeal.Gen Cert.PoolMath
open Idealize.ShloMosaic Idealize.ShloMosaic.TcCoe Idealize.SL.Sem

variable (m : (ℓ : Loc nD τ sig) → Buf (Elt Ideal) ℓ) (c : Dev nD)

abbrev A0 : S8x2048x1024.Idx → EReal := m ((c : Thread nD τ).loc main_arg0)
abbrev A1 : S16384x512.Idx → EReal := m ((c : Thread nD τ).loc main_arg1)
abbrev A2 : S16384x512.Idx → EReal := m ((c : Thread nD τ).loc main_arg2)
abbrev A3 : S1x1024x1024.Idx → EReal := m ((c : Thread nD τ).loc main_arg3)
abbrev A4 : S1x1024.Idx → EReal := m ((c : Thread nD τ).loc main_arg4)
abbrev A5 : S1x1024x2048.Idx → EReal := m ((c : Thread nD τ).loc main_arg5)
abbrev A6 : S1x4x256x256.Idx → EReal := m ((c : Thread nD τ).loc main_arg6)
abbrev A7 : S1x1024.Idx → EReal := m ((c : Thread nD τ).loc main_arg7)
abbrev A8 : S1x1024x1024.Idx → EReal := m ((c : Thread nD τ).loc main_arg8)

/-- The tile's projected rows at a grid point. -/
abbrev uTile (t : Fin cfg0.N) : FVec Ideal S1024x1024 .f32 :=
  k0_pay7 (F := Ideal) (k0_pay5 (iblk m c 0 t) (iblk m c 1 t) (iblk m c 3 t) (iblk m c 2 t) (iblk m c 4 t) (iblk m c 6 t)) (iblk m c 7 t)

theorem xk_eq (t : Fin cfg0.N) (b : Fin 8) (p : Fin 2048) (r : Fin 1024) (h : 2048 * b.val + p.val = 1024 * t.val + r.val) :
    xk (iblk m c 0 t) (iblk m c 1 t) (iblk m c 2 t) (iblk m c 3 t) (iblk m c 4 t) r = xAt (A0 m c) (A1 m c) (A2 m c) (A3 m c) b p := by
  unfold xk xAt
  rw [show (fun d => iblk m c 0 t (ix2 r d)) = fun d => A0 m c (ix3 b p d) from funext fun d => blk0 m c t b p r d h,
    show (fun k => iblk m c 1 t (ix2 r k)) = fun k => A1 m c (ix2 (flat b p) k) from funext fun k => blk1 m c t (flat b p) r k h,
    show (fun k => iblk m c 2 t (ix2 r k)) = fun k => A2 m c (ix2 (flat b p) k) from funext fun k => blk2 m c t (flat b p) r k h,
    show (fun k d => iblk m c 3 t (ix2 k d)) = fun k d => A3 m c (ix3 0 _ d) from funext fun k => funext fun d => blk3 m c t k d,
    show (fun k d => iblk m c 4 t (ix2 k d)) = fun k d => A3 m c (ix3 0 _ d) from funext fun k => funext fun d => blk4 m c t k d]

theorem g_eq (t : Fin cfg0.N) : (fun d => iblk m c 6 t (ix2 0 d)) = fun d => A4 m c (ix2 0 d) := funext fun d => blk6 m c t d
theorem w_eq (t : Fin cfg0.N) : (fun k f => iblk m c 7 t (ix2 k f)) = fun k f => A5 m c (ix3 0 k f) :=
  funext fun k => funext fun f => blk7 m c t k f

theorem uTile_apply (t : Fin cfg0.N) (b : Fin 8) (p : Fin 2048) (r e : Fin 1024) (h : 2048 * b.val + p.val = 1024 * t.val + r.val) :
    uTile m c t (ix2 r e) = ext (A0 m c) (A1 m c) (A2 m c) (A3 m c) (A4 m c) (A5 m c) b (16 + p.val) e := by
  rw [ext_row, ← xk_eq m c t b p r h, ← g_eq m c t, ← w_eq m c t]
  refine (pay7_apply _ _ _ _).trans ?_
  simp only [pay5_apply]
  rfl

/-- The scratch at a grid point is the tile's part of the extended sequence. -/
theorem scr_eq (t : Fin cfg0.N) (b : Fin 8) (hb : b.val = t.val / 2) (hist : ℕ → Fin 1024 → EReal)
    (hh : ∀ p < 16, ∀ e, hist p e = ext (A0 m c) (A1 m c) (A2 m c) (A3 m c) (A4 m c) (A5 m c) b (1024 * (t.val % 2) + p) e)
    (p : ℕ) (hp : p < 1040) :
    scr hist (uTile m c t) p = ext (A0 m c) (A1 m c) (A2 m c) (A3 m c) (A4 m c) (A5 m c) b (1024 * (t.val % 2) + p) := by
  funext e
  unfold scr
  by_cases h : p < 16
  · rw [if_pos h]; exact hh p h e
  · rw [if_neg h, dif_pos (by omega)]
    rw [uTile_apply m c t b ⟨1024 * (t.val % 2) + (p - 16), by omega⟩ _ e (by show 2048 * b.val + (1024 * (t.val % 2) + (p - 16)) = 1024 * t.val + (p - 16); omega)]
    exact congrArg (fun q => ext (A0 m c) (A1 m c) (A2 m c) (A3 m c) (A4 m c) (A5 m c) b q e) (by show 16 + (1024 * (t.val % 2) + (p - 16)) = _; omega)

/-- One entry of the tile the kernel writes at a grid point. -/
theorem tile_eq (t : Fin cfg0.N) (b : Fin 8) (hb : b.val = t.val / 2) (hist : ℕ → Fin 1024 → EReal)
    (hh : ∀ p < 16, ∀ e, hist p e = ext (A0 m c) (A1 m c) (A2 m c) (A3 m c) (A4 m c) (A5 m c) b (1024 * (t.val % 2) + p) e)
    (p : Fin 2048) (r d : Fin 1024) (h : p.val = 1024 * (t.val % 2) + r.val) :
    tileOut (grid0.coords t 1).val hist (iblk m c 0 t) (iblk m c 1 t) (iblk m c 2 t) (iblk m c 3 t) (iblk m c 4 t) (iblk m c 6 t) (iblk m c 7 t)
      (iblk m c 8 t) (iblk m c 9 t) (iblk m c 10 t) r d
      = yAt (A0 m c) (A1 m c) (A2 m c) (A3 m c) (A4 m c) (A5 m c) (A6 m c) (A7 m c) (A8 m c) b p d := by
  have hr := r.isLt
  unfold tileOut yAt
  rw [xk_eq m c t b p r (by omega), g_eq m c t, w_eq m c t, coord t, ← h,
    show (fun q l k => iblk m c 8 t (ix3 q l k)) = fun q l k => A6 m c (ix4 0 q l k) from funext fun q => funext fun l => funext fun k => blk8 m c t q l k,
    show (fun d => iblk m c 9 t (ix2 0 d)) = fun d => A7 m c (ix2 0 d) from funext fun d => blk9 m c t d,
    show (fun k d => iblk m c 10 t (ix2 k d)) = fun k d => A8 m c (ix3 0 k d) from funext fun k => funext fun d => blk10 m c t k d]
  refine outRow_congr _ _ _ _ _ _ _ _ _ _ _ _ fun j hj => ?_
  refine (scr_eq m c t b hb hist hh (16 + r.val - j) (by omega)).trans ?_
  exact congrArg _ (by omega)

theorem histA (t : Fin cfg0.N) (b : Fin 8) (h : t.val % 2 = 0) : ∀ p < 16, ∀ e : Fin 1024,
    (0 : EReal) = ext (A0 m c) (A1 m c) (A2 m c) (A3 m c) (A4 m c) (A5 m c) b (1024 * (t.val % 2) + p) e := fun p hp e => by
  unfold ext
  rw [if_pos (by omega)]

/-- The carried rows at a second tile: the last sixteen of the first. -/
theorem histB (t : Fin cfg0.N) (b : Fin 8) (hb : b.val = t.val / 2) (h : t.val % 2 = 1) (p : Fin 16) (e : Fin 1024) (hn : t.val - 1 < cfg0.N) :
    (outsAt0 m c (t.val - 1) hn).2.2 (ix3 0 ⟨1024 + p.val, by have := p.isLt; omega⟩ e)
      = ext (A0 m c) (A1 m c) (A2 m c) (A3 m c) (A4 m c) (A5 m c) b (1024 * (t.val % 2) + p.val) e := by
  have hp := p.isLt
  have h0 : (⟨t.val - 1, hn⟩ : Fin cfg0.N).val % 2 = 0 := by show (t.val - 1) % 2 = 0; omega
  rw [outsAt0_A m c ⟨t.val - 1, hn⟩ h0 (by omega)]
  dsimp only
  rw [soutA]
  refine (congrFun (scr_eq m c ⟨t.val - 1, hn⟩ b (by show b.val = (t.val - 1) / 2; omega) _ (histA m c _ b h0) _ (by show 1024 + p.val < 1040; omega)) e).trans ?_
  exact congrArg (fun q => ext (A0 m c) (A1 m c) (A2 m c) (A3 m c) (A4 m c) (A5 m c) b q e) (by show 1024 * ((t.val - 1) % 2) + (1024 + p.val) = _; omega)

theorem outs11 (t : Fin cfg0.N) (b : Fin 8) (hb : b.val = t.val / 2) (p : Fin 2048) (r d : Fin 1024) (h : p.val = 1024 * (t.val % 2) + r.val) :
    (outsAt0 m c t.val t.isLt).1 (ix2 r d)
      = yAt (A0 m c) (A1 m c) (A2 m c) (A3 m c) (A4 m c) (A5 m c) (A6 m c) (A7 m c) (A8 m c) b p d := by
  by_cases h0 : t.val % 2 = 0
  · rw [outsAt0_A m c t h0 (by omega)]
    dsimp only
    rw [outA_11]
    exact tile_eq m c t b hb _ (histA m c t b h0) p r d h
  · rw [outsAt0_B m c t h0 (by omega)]
    have hh := fun p e => histB m c t b hb (by omega) p e (by omega)
    dsimp only
    rw [outB_11 (hist := fun p e => ext (A0 m c) (A1 m c) (A2 m c) (A3 m c) (A4 m c) (A5 m c) b (1024 * (t.val % 2) + p) e) (hx := hh)]
    exact tile_eq m c t b hb _ (fun _ _ _ => rfl) p r d h

theorem outs12 (t : Fin cfg0.N) (b : Fin 8) (hb : b.val = t.val / 2) (p : Fin 16) (e : Fin 1024) (h : t.val % 2 = 1) :
    (outsAt0 m c t.val t.isLt).2.1 (ix3 0 p e)
      = ext (A0 m c) (A1 m c) (A2 m c) (A3 m c) (A4 m c) (A5 m c) b (2048 + p.val) e := by
  have hp := p.isLt
  rw [outsAt0_B m c t (by omega) h]
  have hh := fun p e => histB m c t b hb h p e (by omega)
  dsimp only
  rw [outB_12 (hist := fun p e => ext (A0 m c) (A1 m c) (A2 m c) (A3 m c) (A4 m c) (A5 m c) b (1024 * (t.val % 2) + p) e) (hx := hh)]
  refine (congrFun (scr_eq m c t b hb _ (fun _ _ _ => rfl) _ (by omega)) e).trans ?_
  exact congrArg (fun q => ext (A0 m c) (A1 m c) (A2 m c) (A3 m c) (A4 m c) (A5 m c) b q e) (by omega)

/-- The kernel's first result. -/
theorem G11_apply (b : Fin 8) (t : Fin 2048) (d : Fin 1024) : Cert.KernelIdeal.Value.G11 m c (ix2 (flat b t) d)
    = yAt (A0 m c) (A1 m c) (A2 m c) (A3 m c) (A4 m c) (A5 m c) (A6 m c) (A7 m c) (A8 m c) b t d := by
  have hb := b.isLt; have ht := t.isLt; have hd := d.isLt
  have hN : cfg0.N = 16 := N_0
  have e : Value.pt11Of (ix2 (flat b t) d) = 2 * b.val + t.val / 1024 := by
    show 1 * ((2048 * b.val + t.val) / 1024 - 0) + 1 * (d.val / 1024 - 0) = _; omega
  unfold Value.G11
  rw [dif_pos (by rw [e]; omega), ← Value.outsAt0_sweep m c _ (by rw [e]; omega)]
  refine (congrArg _ ?_).trans (outs11 m c ⟨Value.pt11Of (ix2 (flat b t) d), by rw [e]; omega⟩ b ?_ t ⟨t.val % 1024, by omega⟩ d ?_)
  · funext a
    match a with
    | ⟨0, _⟩ => exact Fin.ext (by show (2048 * b.val + t.val) % 1024 = t.val % 1024; omega)
    | ⟨1, _⟩ => exact Fin.ext (by show d.val % 1024 = d.val; omega)
  · show b.val = Value.pt11Of (ix2 (flat b t) d) / 2; rw [e]; omega
  · show t.val = 1024 * (Value.pt11Of (ix2 (flat b t) d) % 2) + t.val % 1024; rw [e]; omega

/-- The kernel's second result. -/
theorem G12_apply (b : Fin 8) (p : Fin 16) (d : Fin 1024) : Cert.KernelIdeal.Value.G12 m c (ix3 b p d)
    = ext (A0 m c) (A1 m c) (A2 m c) (A3 m c) (A4 m c) (A5 m c) b (2048 + p.val) d := by
  have hb := b.isLt; have hp := p.isLt; have hd := d.isLt
  have hN : cfg0.N = 16 := N_0
  have e : Value.pt12Of (ix3 b p d) = 2 * b.val + 1 := by
    show 2 * (1 * (b.val / 1 - 0) + 1 * (p.val / 16 - 0) + 1 * (d.val / 1024 - 0)) + 1 = _; omega
  unfold Value.G12
  rw [dif_pos (by rw [e]; omega), ← Value.outsAt0_sweep m c _ (by rw [e]; omega)]
  refine (congrArg _ ?_).trans (outs12 m c ⟨Value.pt12Of (ix3 b p d), by rw [e]; omega⟩ b ?_ p d ?_)
  · funext a
    match a with
    | ⟨0, _⟩ => exact Fin.ext (by show b.val % 1 = 0; omega)
    | ⟨1, _⟩ => exact Fin.ext (by show p.val % 16 = p.val; omega)
    | ⟨2, _⟩ => exact Fin.ext (by show d.val % 1024 = d.val; omega)
  · show b.val = Value.pt12Of (ix3 b p d) / 2; rw [e]; omega
  · show Value.pt12Of (ix3 b p d) % 2 = 1; rw [e]; omega

end Cert.KernelIdeal.Pool
-- ==== Proof.PoolRef.lean ====
/-
  The host reference's two results, at an index, over its argument arrays: the same `Cert.PoolMath` entries the kernel's
  results are.
-/
module

public import proofs.«01_k».proof.Proof.PoolMath
public import proofs.«01_k».proof.Proof.Gen.ReferenceIdeal.Read

@[expose] public section

set_option maxRecDepth 16384

noncomputable section

namespace Cert.ReferenceIdeal.Pool

open Cert.ReferenceIdeal Cert.ReferenceIdeal.Read Cert.PoolMath
open Idealize.ShloMosaic Idealize.ShloMosaic.TcCoe Idealize.SL.Sem

/-- The 1024 channels of the mixer are four groups of 256. -/
theorem sum_chan (f : Fin 1024 → EReal) : ∑ x, f x = ∑ q : Fin 4, ∑ k : Fin 256, f (chan q k) := by
  rw [← Fintype.sum_prod_type' (f := fun (q : Fin 4) (k : Fin 256) => f (chan q k))]
  refine (Fintype.sum_equiv (finProdFinEquiv (m := 4) (n := 256)) _ f fun x => congrArg f (Fin.ext ?_)).symm
  show x.1.val * 256 + x.2.val = x.2.val + 256 * x.1.val
  omega

/-- Four joined pieces of 256 channels, read at channel `l` of group `q`. -/
theorem ladder (q : Fin 4) (l : Fin 256) (f0 f1 f2 f3 : Fin 256 → EReal) (g : EReal)
    (h0 : q = 0 → f0 l = g) (h1 : q = 1 → f1 l = g) (h2 : q = 2 → f2 l = g) (h3 : q = 3 → f3 l = g) :
    (if h : (chan q l).val < 256 then f0 ⟨(chan q l).val, h⟩
      else if h : (chan q l).val - 256 < 256 then f1 ⟨(chan q l).val - 256, h⟩
      else if h : (chan q l).val - 256 - 256 < 256 then f2 ⟨(chan q l).val - 256 - 256, h⟩
      else f3 ⟨(chan q l).val - 256 - 256 - 256, by have := (chan q l).isLt; omega⟩) = g := by
  have hv : (chan q l).val = q.val * 256 + l.val := rfl
  have hl := l.isLt
  have hq := q.isLt
  split_ifs with c0 c1 c2
  · rw [← h0 (Fin.ext (by show q.val = 0; omega))]
    exact congrArg f0 (Fin.ext (by show (chan q l).val = l.val; omega))
  · rw [← h1 (Fin.ext (by show q.val = 1; omega))]
    exact congrArg f1 (Fin.ext (by show (chan q l).val - 256 = l.val; omega))
  · rw [← h2 (Fin.ext (by show q.val = 2; omega))]
    exact congrArg f2 (Fin.ext (by show (chan q l).val - 256 - 256 = l.val; omega))
  · rw [← h3 (Fin.ext (by show q.val = 3; omega))]
    exact congrArg f3 (Fin.ext (by show (chan q l).val - 256 - 256 - 256 = l.val; omega))

section Stages
variable (a0 : (⟨S8x2048x1024, .f32⟩ : BufTy).Contents (Elt Ideal)) (a1 a2 : (⟨S16384x512, .bf16⟩ : BufTy).Contents (Elt Ideal))
  (a3 : (⟨S1x1024x1024, .f32⟩ : BufTy).Contents (Elt Ideal)) (a4 : (⟨S1x1024, .f32⟩ : BufTy).Contents (Elt Ideal))
  (a5 : (⟨S1x1024x2048, .f32⟩ : BufTy).Contents (Elt Ideal)) (a6 : (⟨S1x4x256x256, .f32⟩ : BufTy).Contents (Elt Ideal))
  (a7 : (⟨S1x1024, .f32⟩ : BufTy).Contents (Elt Ideal)) (a8 : (⟨S1x1024x1024, .f32⟩ : BufTy).Contents (Elt Ideal))

theorem v7_apply (b : Fin 8) (t : Fin 2048) (d : Fin 1024) : val_main_v7 (F := Ideal) a0 a1 a2 a3 (ix3 b t d) = xAt a0 a1 a2 a3 b t d := by
  pointwise [val_main_v7, val_main_v6, val_main_v5, val_main_v4, val_main_v3, val_main_v2, val_main_v1, val_main_v0, sumSplitAll]
  have e : (⟨b.val * 2048 + t.val, by have := b.isLt; have := t.isLt; omega⟩ : Fin 16384) = flat b t := Fin.ext (by show b.val * 2048 + t.val = 2048 * b.val + t.val; omega)
  unfold xAt xRow
  rw [← e, add_assoc]

theorem v22_apply (b : Fin 8) (t : Fin 2048) (d : Fin 1024) : val_main_v22 (F := Ideal) a0 a1 a2 a3 a4 (ix3 b t d)
    = nRow (xAt a0 a1 a2 a3 b t) (fun d => a4 (ix2 0 d)) d := by
  have e := v7_apply a0 a1 a2 a3
  unfold val_main_v22 val_main_v19 val_main_v18 val_main_v17 val_main_v16 val_main_v14 val_main_v12 val_main_v11 val_main_v10
  generalize val_main_v7 (F := Ideal) a0 a1 a2 a3 = X at e ⊢
  pointwise [val_main_v21, val_main_v20, val_main_v9, val_main_v15, val_main_v13, val_main_cst_0, val_main_cst_1, val_main_cst_2]
  simp only [e]
  rfl

theorem v24_apply (b : Fin 8) (t : Fin 2048) (f : Fin 2048) : val_main_v24 (F := Ideal) a0 a1 a2 a3 a4 a5 (ix3 b t f)
    = zRow (xAt a0 a1 a2 a3 b t) (fun d => a4 (ix2 0 d)) (fun k f => a5 (ix3 0 k f)) f := by
  have e := v22_apply a0 a1 a2 a3 a4
  unfold val_main_v24
  generalize val_main_v22 (F := Ideal) a0 a1 a2 a3 a4 = X at e ⊢
  pointwise [val_main_v23]
  simp only [e]
  rfl

/-- The input with its history in front: the extended sequence, one row further on. -/
theorem v27_apply (b : Fin 8) (p : Fin 2063) (d : Fin 1024) : val_main_v27 (F := Ideal) a0 a1 a2 a3 a4 a5 (ix3 b p d)
    = ext a0 a1 a2 a3 a4 a5 b (p.val + 1) d := by
  have e := v24_apply a0 a1 a2 a3 a4 a5
  have hp := p.isLt
  unfold val_main_v27 val_main_v25
  generalize val_main_v24 (F := Ideal) a0 a1 a2 a3 a4 a5 = X at e ⊢
  pointwise [val_main_v8, val_main_cst]
  unfold ext
  by_cases h : p.val < 15
  · have h' : p.val + 1 < 16 := by omega
    exact (dif_pos h).trans (if_pos h').symm
  · have h' : ¬p.val + 1 < 16 := by omega
    have h'' : p.val + 1 - 16 < 2048 := by omega
    refine (dif_neg h).trans (((e b _ _).trans ?_).trans ((if_neg h').trans (dif_pos h'')).symm)
    exact congrArg (fun t => uRow (xAt a0 a1 a2 a3 b t) _ _ d) (Fin.ext (by show p.val - 15 = p.val + 1 - 16; omega))

/-- The mask of the history leaves the extended sequence as it is: the masked rows are zero. -/
theorem v36_apply (b : Fin 8) (p : Fin 2063) (d : Fin 1024) : val_main_v36 (F := Ideal) a0 a1 a2 a3 a4 a5 (ix3 b p d)
    = ext a0 a1 a2 a3 a4 a5 b (p.val + 1) d := by
  have e := v27_apply a0 a1 a2 a3 a4 a5
  have h : ∀ p : Fin 2063, ¬p.val < 15 → IntOp.cmpi CmpIPredicate.sge (IntOp.addi (4294967281#32) (BitVec.ofNat 32 p.val)) 0#32 = 1#1 := by
    decide +kernel
  unfold val_main_v36
  generalize val_main_v27 (F := Ideal) a0 a1 a2 a3 a4 a5 = X at e ⊢
  pointwise [val_main_v35, val_main_v34, val_main_v33, val_main_v32, val_main_v31, val_main_v30, val_main_v29, val_main_v28, val_main_c, val_main_c_3]
  rw [e]
  by_cases hp : p.val < 15
  · unfold ext
    rw [if_pos (by omega), zero_mul]
  · rw [h p hp, show (FloatOps.uitofp (F := Ideal) FTy.f32 (1#1) : EReal) = 1 by
      simp [FloatOps.uitofp], mul_one]

/-- The token number the reference counts with, capped at a window. -/
theorem count_word : ∀ (t : Fin 2048) (q : Fin 4),
    IntOp.minsi (IntOp.addi (IntOp.addi (4294967281#32) (BitVec.ofNat 32 (15 + t.val))) 1#32) (BitVec.ofNat 32 (win q.val))
      = BitVec.ofNat 32 (min (t.val + 1) (win q.val)) := by
  decide +kernel

section Means
variable (b : Fin 8) (t : Fin 2048) (l : Fin 256)

theorem chan0 : (⟨l.val, by have := l.isLt; omega⟩ : Fin 1024) = chan 0 l := Fin.ext (by simp [chan])

theorem v48_apply : val_main_v48 (F := Ideal) a0 a1 a2 a3 a4 a5 (ix3 b t l)
    = Ideal.div (wsum (win 0) (fun p => ext a0 a1 a2 a3 a4 a5 b p (chan 0 l)) (t.val + 16)) (cnt (win 0) t.val) := by
  have e := v36_apply a0 a1 a2 a3 a4 a5
  have hc := count_word t 0
  unfold val_main_v48 val_main_v39 val_main_v38 val_main_v37
  generalize val_main_v36 (F := Ideal) a0 a1 a2 a3 a4 a5 = X at e ⊢
  pointwise [val_main_v40, val_main_c_4, val_main_v41, val_main_v42, val_main_c_5, val_main_v43, val_main_v44, val_main_v45, val_main_v46, val_main_v47, val_main_v30, val_main_v29, val_main_v28, val_main_c]
  refine congrArg₂ Ideal.div ?_ (congrArg (FloatOps.sitofp (F := Ideal) .f32) hc)
  simp only [e, chan0]
  show _ = ∑ j ∈ Finset.range 2, ext a0 a1 a2 a3 a4 a5 b (t.val + 16 - j) (chan 0 l)
  simp only [Finset.sum_range_succ, Finset.sum_range_zero, zero_add]
  repeat' refine congrArg₂ (HAdd.hAdd (α := EReal) (β := EReal)) ?_ ?_
  all_goals exact congrArg (fun p => ext a0 a1 a2 a3 a4 a5 b p (chan 0 l)) (by omega)

theorem v64_apply : val_main_v64 (F := Ideal) a0 a1 a2 a3 a4 a5 (ix3 b t l)
    = Ideal.div (wsum (win 1) (fun p => ext a0 a1 a2 a3 a4 a5 b p (chan 1 l)) (t.val + 16)) (cnt (win 1) t.val) := by
  have e := v36_apply a0 a1 a2 a3 a4 a5
  have hc := count_word t 1
  unfold val_main_v64 val_main_v55 val_main_v54 val_main_v53 val_main_v52 val_main_v51 val_main_v50 val_main_v49
  generalize val_main_v36 (F := Ideal) a0 a1 a2 a3 a4 a5 = X at e ⊢
  pointwise [val_main_v56, val_main_c_6, val_main_v57, val_main_v58, val_main_c_7, val_main_v59, val_main_v60, val_main_v61, val_main_v62, val_main_v63, val_main_v30, val_main_v29, val_main_v28, val_main_c]
  refine congrArg₂ Ideal.div ?_ (congrArg (FloatOps.sitofp (F := Ideal) .f32) hc)
  simp only [e]
  show _ = ∑ j ∈ Finset.range 4, ext a0 a1 a2 a3 a4 a5 b (t.val + 16 - j) (chan 1 l)
  simp only [Finset.sum_range_succ, Finset.sum_range_zero, zero_add]
  repeat' refine congrArg₂ (HAdd.hAdd (α := EReal) (β := EReal)) ?_ ?_
  all_goals exact congrArg (fun p => ext a0 a1 a2 a3 a4 a5 b p (chan 1 l)) (by omega)

theorem v88_apply : val_main_v88 (F := Ideal) a0 a1 a2 a3 a4 a5 (ix3 b t l)
    = Ideal.div (wsum (win 2) (fun p => ext a0 a1 a2 a3 a4 a5 b p (chan 2 l)) (t.val + 16)) (cnt (win 2) t.val) := by
  have e := v36_apply a0 a1 a2 a3 a4 a5
  have hc := count_word t 2
  unfold val_main_v88 val_main_v79 val_main_v78 val_main_v77 val_main_v76 val_main_v75 val_main_v74 val_main_v73 val_main_v72 val_main_v71 val_main_v70 val_main_v69 val_main_v68 val_main_v67 val_main_v66 val_main_v65
  generalize val_main_v36 (F := Ideal) a0 a1 a2 a3 a4 a5 = X at e ⊢
  pointwise [val_main_v80, val_main_c_8, val_main_v81, val_main_v82, val_main_c_9, val_main_v83, val_main_v84, val_main_v85, val_main_v86, val_main_v87, val_main_v30, val_main_v29, val_main_v28, val_main_c]
  refine congrArg₂ Ideal.div ?_ (congrArg (FloatOps.sitofp (F := Ideal) .f32) hc)
  simp only [e]
  show _ = ∑ j ∈ Finset.range 8, ext a0 a1 a2 a3 a4 a5 b (t.val + 16 - j) (chan 2 l)
  simp only [Finset.sum_range_succ, Finset.sum_range_zero, zero_add]
  repeat' refine congrArg₂ (HAdd.hAdd (α := EReal) (β := EReal)) ?_ ?_
  all_goals exact congrArg (fun p => ext a0 a1 a2 a3 a4 a5 b p (chan 2 l)) (by omega)

theorem v128_apply : val_main_v128 (F := Ideal) a0 a1 a2 a3 a4 a5 (ix3 b t l)
    = Ideal.div (wsum (win 3) (fun p => ext a0 a1 a2 a3 a4 a5 b p (chan 3 l)) (t.val + 16)) (cnt (win 3) t.val) := by
  have e := v36_apply a0 a1 a2 a3 a4 a5
  have hc := count_word t 3
  unfold val_main_v128 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89
  generalize val_main_v36 (F := Ideal) a0 a1 a2 a3 a4 a5 = X at e ⊢
  pointwise [val_main_v120, val_main_c_10, val_main_v121, val_main_v122, val_main_c_11, val_main_v123, val_main_v124, val_main_v125, val_main_v126, val_main_v127, val_main_v30, val_main_v29, val_main_v28, val_main_c]
  refine congrArg₂ Ideal.div ?_ (congrArg (FloatOps.sitofp (F := Ideal) .f32) hc)
  simp only [e]
  show _ = ∑ j ∈ Finset.range 16, ext a0 a1 a2 a3 a4 a5 b (t.val + 16 - j) (chan 3 l)
  simp only [Finset.sum_range_succ, Finset.sum_range_zero, zero_add]
  repeat' refine congrArg₂ (HAdd.hAdd (α := EReal) (β := EReal)) ?_ ?_
  all_goals exact congrArg (fun p => ext a0 a1 a2 a3 a4 a5 b p (chan 3 l)) (by omega)

end Means

theorem v130_apply (b : Fin 8) (t : Fin 2048) (q : Fin 4) (l : Fin 256) : val_main_v130 (F := Ideal) a0 a1 a2 a3 a4 a5 (ix3 b t (chan q l))
    = pooled q.val (fun p => ext a0 a1 a2 a3 a4 a5 b p (chan q l)) (t.val + 16) t.val := by
  have e0 := v48_apply a0 a1 a2 a3 a4 a5 b t
  have e1 := v64_apply a0 a1 a2 a3 a4 a5 b t
  have e2 := v88_apply a0 a1 a2 a3 a4 a5 b t
  have e3 := v128_apply a0 a1 a2 a3 a4 a5 b t
  have e24 := v24_apply a0 a1 a2 a3 a4 a5 b t
  have er := ext_row a0 a1 a2 a3 a4 a5 b t (chan q l)
  unfold val_main_v130 val_main_v129 val_main_v25
  generalize val_main_v48 (F := Ideal) a0 a1 a2 a3 a4 a5 = X0 at e0 ⊢
  generalize val_main_v64 (F := Ideal) a0 a1 a2 a3 a4 a5 = X1 at e1 ⊢
  generalize val_main_v88 (F := Ideal) a0 a1 a2 a3 a4 a5 = X2 at e2 ⊢
  generalize val_main_v128 (F := Ideal) a0 a1 a2 a3 a4 a5 = X3 at e3 ⊢
  generalize val_main_v24 (F := Ideal) a0 a1 a2 a3 a4 a5 = Z at e24 ⊢
  have e : pooled q.val (fun p => ext a0 a1 a2 a3 a4 a5 b p (chan q l)) (t.val + 16) t.val
      = Ideal.div (wsum (win q.val) (fun p => ext a0 a1 a2 a3 a4 a5 b p (chan q l)) (t.val + 16)) (cnt (win q.val) t.val)
        - uRow (xAt a0 a1 a2 a3 b t) (fun d => a4 (ix2 0 d)) (fun k f => a5 (ix3 0 k f)) (chan q l) := by
    rw [← er, Nat.add_comm 16]
    rfl
  rw [e]
  pointwise []
  refine congrArg₂ (fun x y : EReal => x - y) ?_ (e24 _)
  refine ladder q l (fun l => X0 (ix3 b t l)) (fun l => X1 (ix3 b t l)) (fun l => X2 (ix3 b t l)) (fun l => X3 (ix3 b t l)) _ ?_ ?_ ?_ ?_
  · rintro rfl; exact e0 l
  · rintro rfl; exact e1 l
  · rintro rfl; exact e2 l
  · rintro rfl; exact e3 l

theorem v139_apply (b : Fin 8) (t : Fin 2048) (q : Fin 4) (k : Fin 256) : val_main_v139 (F := Ideal) a0 a1 a2 a3 a4 a5 a6 a7 (ix3 b t (chan q k))
    = (∑ l, pooled q.val (fun p => ext a0 a1 a2 a3 a4 a5 b p (chan q l)) (t.val + 16) t.val * a6 (ix4 0 q l k)) * a7 (ix2 0 (chan q k)) := by
  have e := v130_apply a0 a1 a2 a3 a4 a5 b t
  unfold val_main_v139 val_main_v135 val_main_v134 val_main_v133 val_main_v131
  generalize val_main_v130 (F := Ideal) a0 a1 a2 a3 a4 a5 = X at e ⊢
  pointwise [val_main_v132, val_main_v136, val_main_v137, val_main_v138]
  have hv : (chan q k).val = q.val * 256 + k.val := rfl
  have hk := k.isLt
  have hq : (⟨(chan q k).val / 256, by omega⟩ : Fin 4) = q := Fin.ext (by show (chan q k).val / 256 = q.val; omega)
  have hr : (⟨(chan q k).val % 256, by omega⟩ : Fin 256) = k := Fin.ext (by show (chan q k).val % 256 = k.val; omega)
  refine congrArg (fun x : EReal => x * a7 (ix2 0 (chan q k))) (Finset.sum_congr rfl fun l _ => ?_)
  have hl := l.isLt
  rw [← e q l, mul_comm (X _)]
  refine congrArg₂ (fun x y : EReal => x * y) (congrArg₂ (fun q k => a6 (ix4 0 q l k)) hq hr) (congrArg (fun c => X (ix3 b t c)) (Fin.ext ?_))
  show (chan q k).val / 256 * 256 + l.val = q.val * 256 + l.val
  omega

theorem v140_apply (b : Fin 8) (t : Fin 2048) (c : Fin 1024) : val_main_v140 (F := Ideal) a0 a1 a2 a3 a4 a5 (ix3 b t c)
    = sil (gateRow (xAt a0 a1 a2 a3 b t) (fun d => a4 (ix2 0 d)) (fun k f => a5 (ix3 0 k f)) c) := by
  have e := v24_apply a0 a1 a2 a3 a4 a5
  unfold val_main_v140 val_main_call0_v5 val_main_call0_v3 val_main_call0_v1 val_main_call0_v0 val_main_v26
  generalize val_main_v24 (F := Ideal) a0 a1 a2 a3 a4 a5 = X at e ⊢
  pointwise [val_main_call0_v4, val_main_call0_v2, val_main_call0_cst, val_main_call0_cst_0]
  rw [e]
  rfl

theorem v145_apply (b : Fin 8) (t : Fin 2048) (d : Fin 1024) : val_main_v145 (F := Ideal) a0 a1 a2 a3 a4 a5 a6 a7 a8 (ix2 (flat b t) d)
    = yAt a0 a1 a2 a3 a4 a5 a6 a7 a8 b t d := by
  have e7 := v7_apply a0 a1 a2 a3 b t
  have e139 := v139_apply a0 a1 a2 a3 a4 a5 a6 a7 b t
  have e140 := v140_apply a0 a1 a2 a3 a4 a5 b t
  unfold val_main_v145 val_main_v144 val_main_v143 val_main_v141
  generalize val_main_v7 (F := Ideal) a0 a1 a2 a3 = X at e7 ⊢
  generalize val_main_v139 (F := Ideal) a0 a1 a2 a3 a4 a5 a6 a7 = Y at e139 ⊢
  generalize val_main_v140 (F := Ideal) a0 a1 a2 a3 a4 a5 = Z at e140 ⊢
  pointwise [val_main_v142]
  have hb := b.isLt
  have ht := t.isLt
  have hq : (⟨(2048 * b.val + t.val) / 2048, by omega⟩ : Fin 8) = b := Fin.ext (by show (2048 * b.val + t.val) / 2048 = b.val; omega)
  have hr : (⟨(2048 * b.val + t.val) % 2048, by omega⟩ : Fin 2048) = t := Fin.ext (by show (2048 * b.val + t.val) % 2048 = t.val; omega)
  rw [hq, hr, e7]
  refine congrArg (fun x : EReal => xAt a0 a1 a2 a3 b t d + x) ?_
  rw [sum_chan]
  refine Finset.sum_congr rfl fun q _ => Finset.sum_congr rfl fun k _ => ?_
  rw [e139, e140]
  rfl

theorem v146_apply (b : Fin 8) (p : Fin 16) (d : Fin 1024) : val_main_v146 (F := Ideal) a0 a1 a2 a3 a4 a5 (ix3 b p d)
    = ext a0 a1 a2 a3 a4 a5 b (2048 + p.val) d := by
  have e := v27_apply a0 a1 a2 a3 a4 a5
  unfold val_main_v146
  generalize val_main_v27 (F := Ideal) a0 a1 a2 a3 a4 a5 = X at e ⊢
  pointwise []
  rw [e]
  exact congrArg (fun p => ext a0 a1 a2 a3 a4 a5 b p d) (by show 2047 + p.val + 1 = 2048 + p.val; omega)

end Stages

end Cert.ReferenceIdeal.Pool
-- ==== Proof.PoolClaim.lean ====
/- The pooling call: its frames, and its two results against the reference's. -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.PoolKernel
public import proofs.«01_k».proof.Proof.PoolRef
public import Idealize.ShloMosaic.Adequacy

@[expose] public section

noncomputable section

namespace Cert.Proof

open Idealize.ShloMosaic Idealize.ShloMosaic.StableHlo Idealize.SL.Sem Cert.PoolMath

theorem frame_Kernel : Cert.quiescent_Kernel := fun m ρ _ => Cert.Kernel.Gen.frame m ρ

theorem frame_KernelIdeal : Cert.quiescent_KernelIdeal := fun m ρ _ => Cert.KernelIdeal.Gen.frame m ρ

theorem frame_ReferenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- A row and a channel of the flat results, by batch and token. -/
theorem flat_split (i : Fin 16384) : ∃ b t, i = flat b t :=
  ⟨⟨i.val / 2048, by omega⟩, ⟨i.val % 2048, by omega⟩, Fin.ext (by show i.val = 2048 * (i.val / 2048) + i.val % 2048; omega)⟩

theorem algebraic_Kernel : Cert.algebraic_KernelIdeal_ReferenceIdeal := by
  intro m g m' g' _ hargs
  refine ⟨fun c => Cert.KernelIdeal.Value.G11 m c, fun c => Cert.KernelIdeal.Value.G12 m c, Cert.KernelIdeal.Value.run m g, ?_⟩
  refine (θ_run Cert.ReferenceIdeal.defs _ _).mono (fun r h c => ?_) (Cert.ReferenceIdeal.Value.run m' g')
  obtain ⟨h0, h1, hk⟩ := h c
  obtain ⟨e0, e1, e2, e3, e4, e5, e6, e7, e8⟩ := hargs c
  refine ⟨(h0.trans (Cert.ReferenceIdeal.Read.val_main_v145_eq (launchContents m' c))).trans ?_,
    (h1.trans (Cert.ReferenceIdeal.Read.val_main_v146_eq (launchContents m' c))).trans ?_, hk⟩
  · simp only [launchContents_devRef, e0, e1, e2, e3, e4, e5, e6, e7, e8]
    funext i
    obtain ⟨b, t, hi⟩ := flat_split (i 0)
    have hi : i = ix2 (flat b t) (i 1) := by
      funext a
      match a with
      | ⟨0, _⟩ => exact hi
      | ⟨1, _⟩ => rfl
    rw [hi]
    exact (Cert.ReferenceIdeal.Pool.v145_apply _ _ _ _ _ _ _ _ _ b t (i 1)).trans (Cert.KernelIdeal.Pool.G11_apply m c b t (i 1)).symm
  · simp only [launchContents_devRef, e0, e1, e2, e3, e4, e5]
    funext i
    have hi : i = ix3 (i 0) (i 1) (i 2) := by
      funext a
      match a with
      | ⟨0, _⟩ => rfl
      | ⟨1, _⟩ => rfl
      | ⟨2, _⟩ => rfl
    rw [hi]
    exact (Cert.ReferenceIdeal.Pool.v146_apply _ _ _ _ _ _ (i 0) (i 1) (i 2)).trans (Cert.KernelIdeal.Pool.G12_apply m c (i 0) (i 1) (i 2)).symm

end Cert.Proof

end
-- ==== Proof.ProjMath.lean ====
/-
  Layer 0's input projection, one token at a time: the RMS-normalised row through the projection, the queries' and keys'
  heads normalised again, and 120 columns of zeros behind. Nothing here knows of tiles.
-/
module

public import proofs.«01_k».proof.Proof.PoolMath
public import Idealize.ShloMosaic.Lib.Pipeline.ValueKit.Tiles

@[expose] public section

set_option maxRecDepth 16384

noncomputable section

namespace Cert.ProjMath

open Cert.PoolMath
open Idealize.ShloMosaic

/-- The normalised row through the projection, by column; zero past the last. -/
def zCol (x g : Fin 1024 → EReal) (w : Fin 1024 → Fin 3336 → EReal) (c : ℕ) : EReal :=
  if h : c < 3336 then ∑ k, nRow x g k * w k ⟨c, h⟩ else 0

/-- A head's column `c` of `z` divided by the root mean square of its head of 64 columns, times a gain. -/
def headCol (z : ℕ → EReal) (g : EReal) (c : ℕ) : EReal :=
  z c * Ideal.rsqrt (Ideal.div (∑ j : Fin 64, z (64 * (c / 64) + j.val) * z (64 * (c / 64) + j.val)) (Ideal.ofBits .f32 0x42800000#32)
    + Ideal.ofBits .f32 0x358637BD#32) * g

/-- The gain of column `c`: a query's carries the unit in which attention takes its scores. -/
def gain (qn kn : Fin 64 → EReal) (c : ℕ) : EReal :=
  if c < 512 then qn ⟨c % 64, Nat.mod_lt _ (by decide)⟩ * Ideal.ofBits .f32 0x3E38AA3B#32 else kn ⟨c % 64, Nat.mod_lt _ (by decide)⟩

/-- Everything the call leaves for one token. -/
def projRow (x g : Fin 1024 → EReal) (w : Fin 1024 → Fin 3336 → EReal) (qn kn : Fin 64 → EReal) (c : ℕ) : EReal :=
  if c < 640 then headCol (zCol x g w) (gain qn kn c) c else zCol x g w c

/-- `1/64` is what the word says. -/
theorem word64 (s : EReal) : s * Ideal.ofBits .f32 0x3C800000#32 = Ideal.div s (Ideal.ofBits .f32 0x42800000#32) := by
  have h1 : Ideal.ofBits .f32 0x42800000#32 = ((64 : ℝ) : EReal) := by
    simp [Ideal.ofBits, Ideal.ieee]
    rw [← EReal.coe_mul]
    norm_num
  have h2 : Ideal.ofBits .f32 0x3C800000#32 = ((1 / 64 : ℝ) : EReal) := by
    simp [Ideal.ofBits, Ideal.ieee]
    rw [← EReal.coe_mul]
    norm_num
  rw [h1, h2, Ideal.div_coe (by norm_num)]

theorem select_lt (n : ℕ) (hn : n < 128) (a b : EReal) :
    Scalar.select (IntOp.cmpi CmpIPredicate.slt (BitVec.ofNat 32 n) 64#32) a b = if n < 64 then a else b := by
  have h : ∀ n : Fin 128, IntOp.cmpi CmpIPredicate.slt (BitVec.ofNat 32 n.val) 64#32 = if n.val < 64 then 1#1 else 0#1 := by decide +kernel
  rw [h ⟨n, hn⟩]
  by_cases c : n < 64
  · simp [c, Scalar.select]
  · simp [c, Scalar.select]

/-- A sum over 128 columns, in two heads. -/
theorem sum_heads (f : Fin 128 → EReal) : ∑ x, f x = ∑ j : Fin 64, f ⟨j.val, by have := j.isLt; omega⟩ + ∑ j : Fin 64, f ⟨64 + j.val, by have := j.isLt; omega⟩ :=
  Fin.sum_univ_add (a := 64) (b := 64) f

/-- What the body does to two heads that lie side by side: one masked sum of squares for each. -/
theorem two_heads (z : ℕ → EReal) (q : ℕ) (f : Fin 128 → EReal) (hf : ∀ x, f x = z (128 * q + x.val)) (l : Fin 128) (g : EReal) :
    f l * Ideal.rsqrt (Scalar.select (IntOp.cmpi CmpIPredicate.slt (BitVec.ofNat 32 l.val) 64#32)
        (∑ x : Fin 128, Scalar.select (IntOp.cmpi CmpIPredicate.slt (BitVec.ofNat 32 x.val) 64#32) (f x * f x) 0)
        (∑ x : Fin 128, Scalar.select (IntOp.cmpi CmpIPredicate.slt (BitVec.ofNat 32 x.val) 64#32) 0 (f x * f x))
        * Ideal.ofBits .f32 0x3C800000#32 + Ideal.ofBits .f32 0x358637BD#32) * g
      = headCol z g (128 * q + l.val) := by
  have hl := l.isLt
  have e : ∀ (x : Fin 128) (a b : EReal), Scalar.select (IntOp.cmpi CmpIPredicate.slt (BitVec.ofNat 32 x.val) 64#32) a b = if x.val < 64 then a else b :=
    fun x => select_lt x.val x.isLt
  simp only [e, word64, hf]
  unfold headCol
  by_cases c : l.val < 64
  · have hc : 64 * ((128 * q + l.val) / 64) = 128 * q := by omega
    rw [if_pos c, sum_heads, hc]
    simp [show ∀ j : Fin 64, ¬(64 + j.val < 64) from fun j => by omega]
  · have hc : 64 * ((128 * q + l.val) / 64) = 128 * q + 64 := by omega
    rw [if_neg c, sum_heads, hc]
    simp [show ∀ j : Fin 64, ¬(64 + j.val < 64) from fun j => by omega, Nat.add_assoc]

section Columns
variable {n m w o : ℕ} (P : Vec Ideal ⟨2, ![n, w]⟩ .f32)
  (i : ∀ a, (![0, o] : Fin 2 → ℕ) a + (![n, w] : Fin 2 → ℕ) a ≤ (⟨2, ![n, m]⟩ : Shape).size a)
  (L : List (View.Piece (Elt Ideal) ⟨2, ![n, m]⟩ .f32)) (j : (⟨2, ![n, m]⟩ : Shape).Idx)

/-- A column inside the columns stored last. -/
theorem canon_hit (r : Fin n) (l : Fin w) (h0 : (j 0).val = r.val) (h1 : (j 1).val = o + l.val) :
    View.canon (Val := Elt Ideal) (⟨Rect.unit (s := ⟨2, ![n, m]⟩) ![0, o] ![n, w] i, P⟩ :: L) j = P (ix2 r l) := by
  have e : j = (Rect.unit (s := ⟨2, ![n, m]⟩) ![0, o] ![n, w] i).emb (ix2 r l) := by
    funext a
    refine Fin.ext ((?_ : _ = _).trans (Rect.idx_unit_val _ _ _ _ a).symm)
    match a with
    | ⟨0, _⟩ => exact h0.trans (Nat.zero_add _).symm
    | ⟨1, _⟩ => exact h1
  rw [e, View.canon_cons_emb]

/-- A column outside them. -/
theorem canon_miss (h : (j 1).val < o ∨ o + w ≤ (j 1).val) :
    View.canon (Val := Elt Ideal) (⟨Rect.unit (s := ⟨2, ![n, m]⟩) ![0, o] ![n, w] i, P⟩ :: L) j = View.canon (Val := Elt Ideal) L j :=
  View.canon_cons_of_not_mem _ _ (by
    rw [Rect.mem_set_unit]
    intro hm
    have := hm 1
    change o ≤ (j 1).val ∧ (j 1).val < o + w at this
    omega)

end Columns

/-- Where a load of a block of columns reads: its own row, and its column past the block's first. -/
theorem load0 {n m o w : ℕ} (i : ∀ a, (![0, o] : Fin 2 → ℕ) a + (![n, w] : Fin 2 → ℕ) a ≤ (⟨2, ![n, m]⟩ : Shape).size a) (r : Fin n) (x : Fin w) :
    ((Rect.unit (s := ⟨2, ![n, m]⟩) ![0, o] ![n, w] i).idx (ix2 r x) 0).val = r.val :=
  (Rect.idx_unit_val _ _ _ _ _).trans (Nat.zero_add _)

theorem load1 {n m o w : ℕ} (i : ∀ a, (![0, o] : Fin 2 → ℕ) a + (![n, w] : Fin 2 → ℕ) a ≤ (⟨2, ![n, m]⟩ : Shape).size a) (r : Fin n) (x : Fin w) :
    ((Rect.unit (s := ⟨2, ![n, m]⟩) ![0, o] ![n, w] i).idx (ix2 r x) 1).val = o + x.val :=
  Rect.idx_unit_val _ _ _ _ _

/-- The tile's stores read back at a row: five blocks of heads, over the projected columns, over the zeros. -/
theorem row_apply {n : ℕ} (x3 x4 : Vec Ideal ⟨2, ![1, 128]⟩ .f32) (z : ℕ → EReal) (qn kn : Fin 64 → EReal)
    (h3 : ∀ l : Fin 128, x3 (ix2 0 l) = kn ⟨l.val % 64, Nat.mod_lt _ (by decide)⟩)
    (h4 : ∀ l : Fin 128, x4 (ix2 0 l) = qn ⟨l.val % 64, Nat.mod_lt _ (by decide)⟩)
    (K P3 P2 P1 P0 T : Vec Ideal ⟨2, ![n, 128]⟩ .f32) (Z : Vec Ideal ⟨2, ![n, 3336]⟩ .f32)
    {iK : ∀ a, (![0, 512] : Fin 2 → ℕ) a + (![n, 128] : Fin 2 → ℕ) a ≤ (⟨2, ![n, 3456]⟩ : Shape).size a}
    {i3 : ∀ a, (![0, 384] : Fin 2 → ℕ) a + (![n, 128] : Fin 2 → ℕ) a ≤ (⟨2, ![n, 3456]⟩ : Shape).size a}
    {i2 : ∀ a, (![0, 256] : Fin 2 → ℕ) a + (![n, 128] : Fin 2 → ℕ) a ≤ (⟨2, ![n, 3456]⟩ : Shape).size a}
    {i1 : ∀ a, (![0, 128] : Fin 2 → ℕ) a + (![n, 128] : Fin 2 → ℕ) a ≤ (⟨2, ![n, 3456]⟩ : Shape).size a}
    {i0 : ∀ a, (![0, 0] : Fin 2 → ℕ) a + (![n, 128] : Fin 2 → ℕ) a ≤ (⟨2, ![n, 3456]⟩ : Shape).size a}
    {iZ : ∀ a, (![0, 0] : Fin 2 → ℕ) a + (![n, 3336] : Fin 2 → ℕ) a ≤ (⟨2, ![n, 3456]⟩ : Shape).size a}
    {iT : ∀ a, (![0, 3328] : Fin 2 → ℕ) a + (![n, 128] : Fin 2 → ℕ) a ≤ (⟨2, ![n, 3456]⟩ : Shape).size a}
    (r : Fin n) (f : Fin 3456) (hZ : ∀ f : Fin 3336, Z (ix2 r f) = z f.val) (hT : ∀ l, T (ix2 r l) = 0) (hz : ∀ c, 3336 ≤ c → z c = 0)
    (hK : ∀ l, K (ix2 r l) = headCol z (x3 (ix2 0 l)) (128 * 4 + l.val))
    (hP3 : ∀ l, P3 (ix2 r l) = headCol z (x4 (ix2 0 l) * Ideal.ofBits .f32 0x3E38AA3B#32) (128 * 3 + l.val))
    (hP2 : ∀ l, P2 (ix2 r l) = headCol z (x4 (ix2 0 l) * Ideal.ofBits .f32 0x3E38AA3B#32) (128 * 2 + l.val))
    (hP1 : ∀ l, P1 (ix2 r l) = headCol z (x4 (ix2 0 l) * Ideal.ofBits .f32 0x3E38AA3B#32) (128 * 1 + l.val))
    (hP0 : ∀ l, P0 (ix2 r l) = headCol z (x4 (ix2 0 l) * Ideal.ofBits .f32 0x3E38AA3B#32) (128 * 0 + l.val)) :
    View.canon (Val := Elt Ideal) (s := ⟨2, ![n, 3456]⟩) (e := .f32)
      [⟨Rect.unit ![0, 512] ![n, 128] iK, K⟩, ⟨Rect.unit ![0, 384] ![n, 128] i3, P3⟩, ⟨Rect.unit ![0, 256] ![n, 128] i2, P2⟩,
        ⟨Rect.unit ![0, 128] ![n, 128] i1, P1⟩, ⟨Rect.unit ![0, 0] ![n, 128] i0, P0⟩, ⟨Rect.unit ![0, 0] ![n, 3336] iZ, Z⟩,
        ⟨Rect.unit ![0, 3328] ![n, 128] iT, T⟩] (ix2 r f)
      = if f.val < 640 then headCol z (gain qn kn f.val) f.val else z f.val := by
  have hf := f.isLt
  have hq : ∀ (l : Fin 128) (q : ℕ), q < 4 → f.val = 128 * q + l.val →
      headCol z (x4 (ix2 0 l) * Ideal.ofBits .f32 0x3E38AA3B#32) (128 * q + l.val) = headCol z (gain qn kn f.val) f.val := by
    intro l q hq h
    have := l.isLt
    unfold gain
    rw [if_pos (by omega), h4, ← h]
    exact congrArg (fun x => headCol z (qn x * _) f.val) (Fin.ext (by show l.val % 64 = f.val % 64; omega))
  by_cases c5 : 640 ≤ f.val
  · rw [if_neg (by omega), canon_miss _ _ _ _ (Or.inr (show 512 + 128 ≤ f.val by omega)), canon_miss _ _ _ _ (Or.inr (show 384 + 128 ≤ f.val by omega)),
      canon_miss _ _ _ _ (Or.inr (show 256 + 128 ≤ f.val by omega)), canon_miss _ _ _ _ (Or.inr (show 128 + 128 ≤ f.val by omega)),
      canon_miss _ _ _ _ (Or.inr (show 0 + 128 ≤ f.val by omega))]
    by_cases c6 : f.val < 3336
    · rw [canon_hit _ _ _ _ r ⟨f.val, c6⟩ rfl (Nat.zero_add _).symm, hZ]
    · rw [canon_miss _ _ _ _ (Or.inr (show 0 + 3336 ≤ f.val by omega)),
        canon_hit _ _ _ _ r ⟨f.val - 3328, by omega⟩ rfl (show f.val = 3328 + (f.val - 3328) by omega), hT, hz _ (by omega)]
  rw [if_pos (by omega)]
  by_cases c4 : 512 ≤ f.val
  · rw [canon_hit _ _ _ _ r ⟨f.val - 512, by omega⟩ rfl (show f.val = 512 + (f.val - 512) by omega), hK, h3]
    unfold gain
    rw [if_neg (by omega)]
    have e : 128 * 4 + (f.val - 512) = f.val := by omega
    show headCol z _ (128 * 4 + (f.val - 512)) = _
    rw [e]
    exact congrArg (fun x => headCol z (kn x) f.val) (Fin.ext (by show (f.val - 512) % 64 = f.val % 64; omega))
  rw [canon_miss _ _ _ _ (Or.inl (show f.val < 512 by omega))]
  by_cases c3 : 384 ≤ f.val
  · have e : f.val = 384 + (f.val - 384) := by omega
    rw [canon_hit _ _ _ _ r ⟨f.val - 384, by omega⟩ rfl e, hP3]
    exact hq _ 3 (by omega) e
  rw [canon_miss _ _ _ _ (Or.inl (show f.val < 384 by omega))]
  by_cases c2 : 256 ≤ f.val
  · have e : f.val = 256 + (f.val - 256) := by omega
    rw [canon_hit _ _ _ _ r ⟨f.val - 256, by omega⟩ rfl e, hP2]
    exact hq _ 2 (by omega) e
  rw [canon_miss _ _ _ _ (Or.inl (show f.val < 256 by omega))]
  by_cases c1 : 128 ≤ f.val
  · have e : f.val = 128 + (f.val - 128) := by omega
    rw [canon_hit _ _ _ _ r ⟨f.val - 128, by omega⟩ rfl e, hP1]
    exact hq _ 1 (by omega) e
  rw [canon_miss _ _ _ _ (Or.inl (show f.val < 128 by omega))]
  have e : f.val = 0 + f.val := by omega
  rw [canon_hit _ _ _ _ r ⟨f.val, by omega⟩ rfl e, hP0]
  exact hq _ 0 (by omega) e

/-- A head's column, from its own entry and the 64 entries of its head. -/
theorem head_of (z : ℕ → EReal) (c : ℕ) (v : EReal) (s : Fin 64 → EReal) (g g' : EReal) (hv : v = z c)
    (hs : ∀ x, s x = z (64 * (c / 64) + x.val)) (hg : g = g') :
    v * Ideal.rsqrt (Ideal.div (∑ x, s x * s x) (Ideal.ofBits .f32 0x42800000#32) + Ideal.ofBits .f32 0x358637BD#32) * g = headCol z g' c := by
  unfold headCol
  rw [hv, hg]
  simp only [hs]

/-- The queries, the keys, the other columns and the zeros joined, read at a column. -/
theorem join_row (f : Fin 3456) (f0 : Fin 512 → EReal) (f1 : Fin 128 → EReal) (f2 : Fin 2696 → EReal) (x g : Fin 1024 → EReal)
    (w : Fin 1024 → Fin 3336 → EReal) (qn kn : Fin 64 → EReal)
    (h0 : ∀ l, f0 l = headCol (zCol x g w) (gain qn kn l.val) l.val)
    (h1 : ∀ l, f1 l = headCol (zCol x g w) (gain qn kn (512 + l.val)) (512 + l.val)) (h2 : ∀ l, f2 l = zCol x g w (640 + l.val)) :
    (if h : f.val < 512 then f0 ⟨f.val, h⟩
      else if h : f.val - 512 < 128 then f1 ⟨f.val - 512, h⟩
      else if h : f.val - 512 - 128 < 2696 then f2 ⟨f.val - 512 - 128, h⟩ else 0) = projRow x g w qn kn f.val := by
  unfold projRow
  split_ifs with c0 c1 c2 c3 c4 c5 c6
  · rw [h0]
  · omega
  · rw [h1]
    show headCol _ (gain qn kn (512 + (f.val - 512))) (512 + (f.val - 512)) = _
    rw [show 512 + (f.val - 512) = f.val by omega]
  · omega
  · omega
  · rw [h2]
    exact congrArg _ (by show 640 + (f.val - 512 - 128) = f.val; omega)
  · omega
  · unfold zCol
    rw [dif_neg (by omega)]

end Cert.ProjMath

end
-- ==== Proof.ProjTile.lean ====
/-
  The projecting body's straight-line pieces, read at an index: the projected row, and two heads side by side normalised.
-/
module

public import proofs.«01_k».proof.Proof.ProjMath
public import proofs.«01_k».proof.Proof.PoolBody
public import proofs.«01_k».proof.Proof.Gen.Kernel2Ideal.Value

@[expose] public section

set_option maxRecDepth 16384

noncomputable section

namespace Cert.Kernel2Ideal.Proj

open Cert.Kernel2Ideal Cert.Kernel2Ideal.Gen Cert.PoolMath Cert.ProjMath
open Idealize.ShloMosaic Idealize.ShloMosaic.TcCoe Idealize.SL.Sem

section Pay
variable (X : FVec Ideal S1024x128 .f32) (G : FVec Ideal S1x128 .f32) (r : Fin 1024) (l : Fin 128)

theorem zeros_apply : k0_pay3 (F := Ideal) (ix2 r l) = 0 := by
  pointwise [k0_pay3]

theorem z_apply (x : Vec Ideal S1024x1024 .f32) (g : Vec Ideal S1x1024 .f32) (w : Vec Ideal S3336x1024 .bf16) (f : Fin 3336) :
    k0_pay4 (F := Ideal) x g w (ix2 r f)
      = zCol (fun d => x (ix2 r d)) (fun d => g (ix2 0 d)) (fun k f => w (ix2 f k)) f.val := by
  pointwise [k0_pay4]
  unfold zCol
  rw [dif_pos f.isLt]
  rfl

variable (z : ℕ → EReal) (q : ℕ) (hz : ∀ x : Fin 128, X (ix2 r x) = z (128 * q + x.val))
include hz

theorem q0_apply : k0_pay9 (F := Ideal) k0_pay5 (k0_pay6 G) (k0_pay8 X) (ix2 r l)
    = headCol z (G (ix2 0 l) * Ideal.ofBits .f32 0x3E38AA3B#32) (128 * q + l.val) := by
  rw [← two_heads z q (fun x => X (ix2 r x)) hz l]
  pointwise [k0_pay9, k0_pay5, k0_pay6, k0_pay8]

theorem q1_apply : k0_pay12 (F := Ideal) (k0_pay6 G) (k0_pay10 X) (k0_pay11 k0_pay5 X) (ix2 r l)
    = headCol z (G (ix2 0 l) * Ideal.ofBits .f32 0x3E38AA3B#32) (128 * q + l.val) := by
  rw [← two_heads z q (fun x => X (ix2 r x)) hz l]
  pointwise [k0_pay12, k0_pay5, k0_pay6, k0_pay10, k0_pay11]

theorem q2_apply : k0_pay13 (F := Ideal) k0_pay5 (k0_pay6 G) X (ix2 r l)
    = headCol z (G (ix2 0 l) * Ideal.ofBits .f32 0x3E38AA3B#32) (128 * q + l.val) := by
  rw [← two_heads z q (fun x => X (ix2 r x)) hz l]
  pointwise [k0_pay13, k0_pay5, k0_pay6]

theorem q3_apply : k0_pay1 (F := Ideal) k0_pay5 (k0_pay6 G) (k0_pay14 X) (k0_pay16 k0_pay5 X) (k0_pay17 k0_pay5 X) (ix2 r l)
    = headCol z (G (ix2 0 l) * Ideal.ofBits .f32 0x3E38AA3B#32) (128 * q + l.val) := by
  rw [← two_heads z q (fun x => X (ix2 r x)) hz l]
  pointwise [k0_pay1, k0_pay5, k0_pay6, k0_pay14, k0_pay15, k0_pay16, k0_pay17]

theorem k_apply : k0_pay2 (F := Ideal) k0_pay5 (k0_pay7 G) X (ix2 r l) = headCol z (G (ix2 0 l)) (128 * q + l.val) := by
  rw [← two_heads z q (fun x => X (ix2 r x)) hz l]
  pointwise [k0_pay2, k0_pay5, k0_pay7]

end Pay

section Out
variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S3336x1024 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x3456 .f32) (harg6 : arg6.IsWhole)
  (x0 : Vec Ideal S1024x1024 .f32) (x1 : Vec Ideal S1x1024 .f32) (x2 : Vec Ideal S3336x1024 .bf16) (x3 : Vec Ideal S1x128 .f32) (x4 : Vec Ideal S1x128 .f32)

/-- What the body leaves in its tile, where the two gains hold one head's gain twice. -/
theorem out_apply (qn kn : Fin 64 → EReal) (h3 : ∀ l : Fin 128, x3 (ix2 0 l) = kn ⟨l.val % 64, Nat.mod_lt _ (by decide)⟩)
    (h4 : ∀ l : Fin 128, x4 (ix2 0 l) = qn ⟨l.val % 64, Nat.mod_lt _ (by decide)⟩) (r : Fin 1024) (f : Fin 3456) :
    out0_A_5 (F := Ideal) c i arg1 harg1 arg2 harg2 arg3 harg3 arg4 harg4 arg5 harg5 arg6 harg6 x0 x1 x2 x3 x4 (ix2 r f)
      = projRow (fun d => x0 (ix2 r d)) (fun d => x1 (ix2 0 d)) (fun k f => x2 (ix2 f k)) qn kn f.val := by
  have hf := f.isLt
  have hZ := z_apply r x0 x1 x2
  generalize hz : zCol (fun d => x0 (ix2 r d)) (fun d => x1 (ix2 0 d)) (fun k f => x2 (ix2 f k)) = z at hZ
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  simp only [View.readAt_eq_ld, Memref.IsWhole.read_unread, View.readCov_eq_canon', Cert.KernelIdeal.Pool.ld2]
  unfold projRow
  rw [hz]
  refine row_apply x3 x4 z qn kn h3 h4 _ _ _ _ _ _ _ r f hZ (zeros_apply r)
    (fun c hc => by rw [← hz]; exact dif_neg (by omega)) (fun l => ?_) (fun l => ?_) (fun l => ?_) (fun l => ?_) (fun l => ?_)
  · refine k_apply _ _ r l z 4 (fun x => ?_)
    have hx := x.isLt
    refine (canon_miss _ _ _ _ (Or.inr ((show 384 + 128 ≤ 512 + x.val by omega).trans_eq (load1 _ r x).symm))).trans ?_
    refine (canon_miss _ _ _ _ (Or.inr ((show 256 + 128 ≤ 512 + x.val by omega).trans_eq (load1 _ r x).symm))).trans ?_
    refine (canon_miss _ _ _ _ (Or.inr ((show 128 + 128 ≤ 512 + x.val by omega).trans_eq (load1 _ r x).symm))).trans ?_
    refine (canon_miss _ _ _ _ (Or.inr ((show 0 + 128 ≤ 512 + x.val by omega).trans_eq (load1 _ r x).symm))).trans ?_
    refine (canon_hit _ _ _ _ r ⟨512 + x.val, by omega⟩ (load0 _ r x) ((load1 _ r x).trans (Nat.zero_add _).symm)).trans (hZ _)
  · refine q3_apply _ _ r l z 3 (fun x => ?_)
    have hx := x.isLt
    refine (canon_miss _ _ _ _ (Or.inr ((show 256 + 128 ≤ 384 + x.val by omega).trans_eq (load1 _ r x).symm))).trans ?_
    refine (canon_miss _ _ _ _ (Or.inr ((show 128 + 128 ≤ 384 + x.val by omega).trans_eq (load1 _ r x).symm))).trans ?_
    refine (canon_miss _ _ _ _ (Or.inr ((show 0 + 128 ≤ 384 + x.val by omega).trans_eq (load1 _ r x).symm))).trans ?_
    refine (canon_hit _ _ _ _ r ⟨384 + x.val, by omega⟩ (load0 _ r x) ((load1 _ r x).trans (Nat.zero_add _).symm)).trans (hZ _)
  · refine q2_apply _ _ r l z 2 (fun x => ?_)
    have hx := x.isLt
    refine (canon_miss _ _ _ _ (Or.inr ((show 128 + 128 ≤ 256 + x.val by omega).trans_eq (load1 _ r x).symm))).trans ?_
    refine (canon_miss _ _ _ _ (Or.inr ((show 0 + 128 ≤ 256 + x.val by omega).trans_eq (load1 _ r x).symm))).trans ?_
    refine (canon_hit _ _ _ _ r ⟨256 + x.val, by omega⟩ (load0 _ r x) ((load1 _ r x).trans (Nat.zero_add _).symm)).trans (hZ _)
  · refine q1_apply _ _ r l z 1 (fun x => ?_)
    have hx := x.isLt
    refine (canon_miss _ _ _ _ (Or.inr ((show 0 + 128 ≤ 128 + x.val by omega).trans_eq (load1 _ r x).symm))).trans ?_
    refine (canon_hit _ _ _ _ r ⟨128 + x.val, by omega⟩ (load0 _ r x) ((load1 _ r x).trans (Nat.zero_add _).symm)).trans (hZ _)
  · refine q0_apply _ _ r l z 0 (fun x => ?_)
    have hx := x.isLt
    refine (canon_hit _ _ _ _ r ⟨0 + x.val, by omega⟩ (load0 _ r x) ((load1 _ r x).trans (Nat.zero_add _).symm)).trans (hZ _)
end Out

end Cert.Kernel2Ideal.Proj

end
-- ==== Proof.ProjKernel.lean ====
/-
  The projecting call's result array, at an index, over its argument arrays.
-/
module

public import proofs.«01_k».proof.Proof.ProjTile
public import Idealize.ShloMosaic.Lib.Pipeline.ValueKit.Point
public import Idealize.ShloMosaic.Lib.Claim

@[expose] public section

set_option maxRecDepth 16384

noncomputable section

namespace Cert.Kernel2Ideal.Proj

open Cert.Kernel2Ideal Cert.Kernel2Ideal.Gen Cert.PoolMath Cert.ProjMath
open Idealize.ShloMosaic Idealize.ShloMosaic.TcCoe Idealize.SL.Sem

/-- Every window's block number at every grid point. -/
theorem idx : ∀ t : Fin cfg0.N,
    win0_0.index t = ![t.val, 0] ∧ win0_1.index t = ![0, 0] ∧ win0_2.index t = ![0, 0] ∧ win0_3.index t = ![0, 0] ∧
    win0_4.index t = ![0, 0] ∧ win0_5.index t = ![t.val, 0] := by decide +kernel

variable (m : (ℓ : Loc nD τ sig) → Buf (Elt Ideal) ℓ) (c : Dev nD)

theorem blk0 (t : Fin cfg0.N) (b : Fin 8) (p : Fin 2048) (r : Fin 1024) (d : Fin 1024) (h : 2048 * b.val + p.val = 1024 * t.val + r.val) :
    iblk m c 0 t (ix2 r d) = m ((c : Thread nD τ).loc main_arg0) (ix3 b p d) := by
  blk_ext! [iblk, V, idx t]

theorem blk1 (t : Fin cfg0.N) (d : Fin 1024) :
    iblk m c 1 t (ix2 0 d) = m ((c : Thread nD τ).loc main_arg1) (ix2 0 d) := by
  blk_ext! [iblk, V, idx t]

theorem blk2 (t : Fin cfg0.N) (k : Fin 1024) (f : Fin 3336) :
    iblk m c 2 t (ix2 f k) = m ((c : Thread nD τ).loc main_arg2) (ix3 0 k f) := by
  blk_ext! [iblk, V, idx t]

theorem blk3 (t : Fin cfg0.N) (l : Fin 128) :
    iblk m c 3 t (ix2 0 l) = m ((c : Thread nD τ).loc main_arg4) (ix2 0 ⟨l.val % 64, Nat.mod_lt _ (by decide)⟩) := by
  blk_ext! [iblk, V, idx t]

theorem blk4 (t : Fin cfg0.N) (l : Fin 128) :
    iblk m c 4 t (ix2 0 l) = m ((c : Thread nD τ).loc main_arg3) (ix2 0 ⟨l.val % 64, Nat.mod_lt _ (by decide)⟩) := by
  blk_ext! [iblk, V, idx t]

/-- The tile's place in the result array. -/
theorem blk5 (t : Fin cfg0.N) (X : S16384x3456.Idx → EReal) (i : Fin 16384) (r : Fin 1024) (f : Fin 3456) (h : i.val = 1024 * t.val + r.val) :
    ((cfg0.win 5).blk t).view.read (Elt Ideal) X (ix2 r f) = X (ix2 i f) := by
  blk_ext! [idx t]

/-- The call's result. -/
theorem result_apply (b : Fin 8) (p : Fin 2048) (i : Fin 16384) (f : Fin 3456) (h : i.val = 2048 * b.val + p.val) :
    (dats m 0 c).arrAt 5 cfg0.N (ix2 i f)
      = projRow (fun d => m ((c : Thread nD τ).loc main_arg0) (ix3 b p d)) (fun d => m ((c : Thread nD τ).loc main_arg1) (ix2 0 d))
          (fun k f => m ((c : Thread nD τ).loc main_arg2) (ix3 0 k f)) (fun l => m ((c : Thread nD τ).loc main_arg3) (ix2 0 l))
          (fun l => m ((c : Thread nD τ).loc main_arg4) (ix2 0 l)) f.val := by
  have hi := i.isLt
  have hN : cfg0.N = 16 := N_0
  obtain ⟨t, ht⟩ : ∃ t : Fin cfg0.N, t.val = i.val / 1024 := ⟨⟨i.val / 1024, by omega⟩, rfl⟩
  obtain ⟨r, hr⟩ : ∃ r : Fin 1024, r.val = i.val % 1024 := ⟨⟨i.val % 1024, Nat.mod_lt _ (by decide)⟩, rfl⟩
  have hx : (fun d => iblk m c 0 t (ix2 r d)) = fun d => m ((c : Thread nD τ).loc main_arg0) (ix3 b p d) :=
    funext fun d => blk0 m c t b p r d (by omega)
  have hg : (fun d => iblk m c 1 t (ix2 0 d)) = fun d => m ((c : Thread nD τ).loc main_arg1) (ix2 0 d) := funext fun d => blk1 m c t d
  have hw : (fun k f => iblk m c 2 t (ix2 f k)) = fun k f => m ((c : Thread nD τ).loc main_arg2) (ix3 0 k f) :=
    funext fun k => funext fun f => blk2 m c t k f
  refine (blk5 t ((dats m 0 c).arrAt 5 cfg0.N) i r f (by omega)).symm.trans ?_
  rw [Value.blocks5 m c t (flush0_5 t), Value.flushed5_A]
  refine (out_apply c _ _ _ _ _ _ _ _ _ _ _ _ _ (iblk m c 0 t) (iblk m c 1 t) (iblk m c 2 t) (iblk m c 3 t) (iblk m c 4 t)
    (fun l => m ((c : Thread nD τ).loc main_arg3) (ix2 0 l)) (fun l => m ((c : Thread nD τ).loc main_arg4) (ix2 0 l))
    (blk3 m c t) (blk4 m c t) r f).trans ?_
  rw [hx, hg, hw]

end Cert.Kernel2Ideal.Proj

end
-- ==== Proof.ProjRef.lean ====
/-
  The projecting call's reference, at an index, over its argument arrays: the same `Cert.ProjMath` entries the call's result is.
-/
module

public import proofs.«01_k».proof.Proof.ProjMath
public import proofs.«01_k».proof.Proof.Gen.Reference2Ideal.Read

@[expose] public section

set_option maxRecDepth 16384

noncomputable section

namespace Cert.Reference2Ideal.Proj

open Cert.Reference2Ideal Cert.Reference2Ideal.Read Cert.PoolMath Cert.ProjMath
open Idealize.ShloMosaic Idealize.ShloMosaic.TcCoe Idealize.SL.Sem

variable (a0 : (⟨S8x2048x1024, .f32⟩ : BufTy).Contents (Elt Ideal)) (a1 : (⟨S1x1024, .f32⟩ : BufTy).Contents (Elt Ideal))
  (a2 : (⟨S1x1024x3336, .f32⟩ : BufTy).Contents (Elt Ideal)) (a3 a4 : (⟨S1x64, .f32⟩ : BufTy).Contents (Elt Ideal))

theorem v13_apply (b : Fin 8) (p : Fin 2048) (d : Fin 1024) : val_main_v13 (F := Ideal) a0 a1 (ix3 b p d)
    = nRow (fun d => a0 (ix3 b p d)) (fun d => a1 (ix2 0 d)) d := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- A token's projected columns. -/
abbrev zAt (b : Fin 8) (p : Fin 2048) : ℕ → EReal :=
  zCol (fun d => a0 (ix3 b p d)) (fun d => a1 (ix2 0 d)) (fun k f => a2 (ix3 0 k f))

theorem v15_apply (b : Fin 8) (p : Fin 2048) (f : Fin 3336) : val_main_v15 (F := Ideal) a0 a1 a2 (ix3 b p f) = zAt a0 a1 a2 b p f.val := by
  have e := v13_apply a0 a1
  unfold val_main_v15
  generalize val_main_v13 (F := Ideal) a0 a1 = X at e ⊢
  pointwise [val_main_v14]
  simp only [e]
  unfold zAt zCol
  rw [dif_pos f.isLt]

theorem v51_apply (b : Fin 8) (p : Fin 2048) (f : Fin 512) : val_main_v51 (F := Ideal) a0 a1 a2 a3 (ix3 b p f)
    = headCol (zAt a0 a1 a2 b p) (gain (fun l => a3 (ix2 0 l)) (fun l => a4 (ix2 0 l)) f.val) f.val := by
  have e := v15_apply a0 a1 a2 b p
  unfold val_main_v51 val_main_v33 val_main_v30 val_main_v29 val_main_v28 val_main_v27 val_main_v25 val_main_v23 val_main_v22 val_main_v21 val_main_v17 val_main_v16
  generalize val_main_v15 (F := Ideal) a0 a1 a2 = X at e ⊢
  pointwise [val_main_v18, val_main_v19, val_main_v20, val_main_v24, val_main_v26, val_main_v31, val_main_v32,
    val_main_cst_2, val_main_cst_3, val_main_cst_4, val_main_cst_5]
  refine head_of _ f.val _ (fun x => X (ix3 b p ⟨f.val / 64 * 64 + x.val, _⟩)) _ _ (e _) (fun x => (e _).trans ?_) ?_
  · exact congrArg _ (by show f.val / 64 * 64 + x.val = _; omega)
  · unfold gain
    rw [if_pos f.isLt]

theorem v52_apply (b : Fin 8) (p : Fin 2048) (f : Fin 128) : val_main_v52 (F := Ideal) a0 a1 a2 a4 (ix3 b p f)
    = headCol (zAt a0 a1 a2 b p) (gain (fun l => a3 (ix2 0 l)) (fun l => a4 (ix2 0 l)) (512 + f.val)) (512 + f.val) := by
  have e := v15_apply a0 a1 a2 b p
  unfold val_main_v52 val_main_v49 val_main_v46 val_main_v45 val_main_v44 val_main_v43 val_main_v41 val_main_v39 val_main_v38 val_main_v37 val_main_v35 val_main_v34
  generalize val_main_v15 (F := Ideal) a0 a1 a2 = X at e ⊢
  pointwise [val_main_v36, val_main_v40, val_main_v42, val_main_v47, val_main_v48, val_main_cst_6, val_main_cst_7, val_main_cst_8]
  refine head_of _ (512 + f.val) _ (fun x => X (ix3 b p ⟨512 + (f.val / 64 * 64 + x.val), _⟩)) _ _ (e _) (fun x => (e _).trans ?_) ?_
  · exact congrArg _ (by show 512 + (f.val / 64 * 64 + x.val) = _; omega)
  · unfold gain
    rw [if_neg (by omega)]
    exact congrArg (fun l => a4 (ix2 0 l)) (Fin.ext (by show f.val % 64 = (512 + f.val) % 64; omega))

/-- The reference's result. -/
theorem result_apply (b : Fin 8) (p : Fin 2048) (i : Fin 16384) (f : Fin 3456) (h : i.val = 2048 * b.val + p.val) :
    val_main_v55 (F := Ideal) a0 a1 a2 a3 a4 (ix2 i f)
      = projRow (fun d => a0 (ix3 b p d)) (fun d => a1 (ix2 0 d)) (fun k f => a2 (ix3 0 k f)) (fun l => a3 (ix2 0 l)) (fun l => a4 (ix2 0 l)) f.val := by
  have e0 := v51_apply a0 a1 a2 a3 a4 b p
  have e1 := v52_apply a0 a1 a2 a3 a4 b p
  have e2 := v15_apply a0 a1 a2 b p
  unfold val_main_v55 val_main_v54 val_main_v53
  generalize val_main_v51 (F := Ideal) a0 a1 a2 a3 = X0 at e0 ⊢
  generalize val_main_v52 (F := Ideal) a0 a1 a2 a4 = X1 at e1 ⊢
  generalize val_main_v15 (F := Ideal) a0 a1 a2 = X2 at e2 ⊢
  pointwise [val_main_v50, val_main_cst_9]
  have hp := p.isLt
  have hi := i.isLt
  have hb : (⟨i.val / 2048, by omega⟩ : Fin 8) = b := Fin.ext (by show i.val / 2048 = b.val; omega)
  have hp' : (⟨i.val % 2048, by omega⟩ : Fin 2048) = p := Fin.ext (by show i.val % 2048 = p.val; omega)
  exact join_row f (fun f => X0 (ix3 ⟨i.val / 2048, by omega⟩ ⟨i.val % 2048, by omega⟩ f)) (fun f => X1 (ix3 ⟨i.val / 2048, by omega⟩ ⟨i.val % 2048, by omega⟩ f))
    (fun f => X2 (ix3 ⟨i.val / 2048, by omega⟩ ⟨i.val % 2048, by omega⟩ ⟨640 + f.val, by have := f.isLt; omega⟩)) _ _ _ _ _
    (fun l => by rw [hb, hp']; exact e0 l) (fun l => by rw [hb, hp']; exact e1 l) (fun l => by rw [hb, hp']; exact e2 _)

end Cert.Reference2Ideal.Proj

end
-- ==== Proof.ProjClaim.lean ====
/- The projecting call on the prompt: its frames, and its result against the reference's. -/
module

public import proofs.«01_k».proof.Defs
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.ProjKernel
public import proofs.«01_k».proof.Proof.ProjRef
public import Idealize.ShloMosaic.Adequacy

@[expose] public section

noncomputable section

namespace Cert.Proof

open Idealize.ShloMosaic Idealize.ShloMosaic.StableHlo Idealize.SL.Sem Cert.PoolMath Cert.ProjMath

theorem frame_Kernel2 : Cert.quiescent_Kernel2 := fun m ρ _ => Cert.Kernel2.Gen.frame m ρ

theorem frame_Kernel2Ideal : Cert.quiescent_Kernel2Ideal := fun m ρ _ => Cert.Kernel2Ideal.Gen.frame m ρ

theorem frame_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem algebraic_Kernel2 : Cert.algebraic_Kernel2Ideal_Reference2Ideal := by
  intro m g m' g' _ hargs
  refine ⟨fun c => (Cert.Kernel2Ideal.Gen.dats m 0 c).arrAt 5 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨h0, hk⟩ := h c
  obtain ⟨e0, e1, e2, e3, e4⟩ := hargs c
  refine ⟨(h0.trans (Cert.Reference2Ideal.Read.val_main_v55_eq m' c)).trans ?_, hk⟩
  simp only [e0, e1, e2, e3, e4]
  funext i
  have hi : i = ix2 (i 0) (i 1) := by
    funext a
    match a with
    | ⟨0, _⟩ => rfl
    | ⟨1, _⟩ => rfl
  have h0 : (i 0).val < 16384 := (i 0).isLt
  obtain ⟨b, p, h⟩ : ∃ (b : Fin 8) (p : Fin 2048), (i 0).val = 2048 * b.val + p.val :=
    ⟨⟨(i 0).val / 2048, by omega⟩, ⟨(i 0).val % 2048, by omega⟩, by show (i 0).val = 2048 * ((i 0).val / 2048) + (i 0).val % 2048; omega⟩
  rw [hi]
  exact (Cert.Reference2Ideal.Proj.result_apply _ _ _ _ _ b p (i 0) (i 1) h).trans (Cert.Kernel2Ideal.Proj.result_apply m c b p (i 0) (i 1) h).symm

end Cert.Proof

end
-- ==== Proof.SampleTile.lean ====
/-
  The projecting body's straight-line pieces, read at an index: the projected row, and two heads side by side normalised.
-/
module

public import proofs.«01_k».proof.Proof.ProjMath
public import proofs.«01_k».proof.Proof.PoolBody
public import proofs.«01_k».proof.Proof.Gen.Kernel3Ideal.Value

@[expose] public section

set_option maxRecDepth 16384

noncomputable section

namespace Cert.Kernel3Ideal.Proj

open Cert.Kernel3Ideal Cert.Kernel3Ideal.Gen Cert.PoolMath Cert.ProjMath
open Idealize.ShloMosaic Idealize.ShloMosaic.TcCoe Idealize.SL.Sem

section Pay
variable (X : FVec Ideal S256x128 .f32) (G : FVec Ideal S1x128 .f32) (r : Fin 256) (l : Fin 128)

theorem zeros_apply : k0_pay3 (F := Ideal) (ix2 r l) = 0 := by
  pointwise [k0_pay3]

theorem z_apply (x : Vec Ideal S256x1024 .f32) (g : Vec Ideal S1x1024 .f32) (w : Vec Ideal S3336x1024 .bf16) (f : Fin 3336) :
    k0_pay4 (F := Ideal) x g w (ix2 r f)
      = zCol (fun d => x (ix2 r d)) (fun d => g (ix2 0 d)) (fun k f => w (ix2 f k)) f.val := by
  pointwise [k0_pay4]
  unfold zCol
  rw [dif_pos f.isLt]
  rfl

variable (z : ℕ → EReal) (q : ℕ) (hz : ∀ x : Fin 128, X (ix2 r x) = z (128 * q + x.val))
include hz

theorem q0_apply : k0_pay9 (F := Ideal) k0_pay5 (k0_pay6 G) (k0_pay8 X) (ix2 r l)
    = headCol z (G (ix2 0 l) * Ideal.ofBits .f32 0x3E38AA3B#32) (128 * q + l.val) := by
  rw [← two_heads z q (fun x => X (ix2 r x)) hz l]
  pointwise [k0_pay9, k0_pay5, k0_pay6, k0_pay8]

theorem q1_apply : k0_pay12 (F := Ideal) (k0_pay6 G) (k0_pay10 X) (k0_pay11 k0_pay5 X) (ix2 r l)
    = headCol z (G (ix2 0 l) * Ideal.ofBits .f32 0x3E38AA3B#32) (128 * q + l.val) := by
  rw [← two_heads z q (fun x => X (ix2 r x)) hz l]
  pointwise [k0_pay12, k0_pay5, k0_pay6, k0_pay10, k0_pay11]

theorem q2_apply : k0_pay13 (F := Ideal) k0_pay5 (k0_pay6 G) X (ix2 r l)
    = headCol z (G (ix2 0 l) * Ideal.ofBits .f32 0x3E38AA3B#32) (128 * q + l.val) := by
  rw [← two_heads z q (fun x => X (ix2 r x)) hz l]
  pointwise [k0_pay13, k0_pay5, k0_pay6]

theorem q3_apply : k0_pay1 (F := Ideal) k0_pay5 (k0_pay6 G) (k0_pay14 X) (k0_pay16 k0_pay5 X) (k0_pay17 k0_pay5 X) (ix2 r l)
    = headCol z (G (ix2 0 l) * Ideal.ofBits .f32 0x3E38AA3B#32) (128 * q + l.val) := by
  rw [← two_heads z q (fun x => X (ix2 r x)) hz l]
  pointwise [k0_pay1, k0_pay5, k0_pay6, k0_pay14, k0_pay15, k0_pay16, k0_pay17]

theorem k_apply : k0_pay2 (F := Ideal) k0_pay5 (k0_pay7 G) X (ix2 r l) = headCol z (G (ix2 0 l)) (128 * q + l.val) := by
  rw [← two_heads z q (fun x => X (ix2 r x)) hz l]
  pointwise [k0_pay2, k0_pay5, k0_pay7]

end Pay

section Out
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S3336x1024 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S256x3456 .f32) (harg6 : arg6.IsWhole)
  (x0 : Vec Ideal S256x1024 .f32) (x1 : Vec Ideal S1x1024 .f32) (x2 : Vec Ideal S3336x1024 .bf16) (x3 : Vec Ideal S1x128 .f32) (x4 : Vec Ideal S1x128 .f32)

/-- What the body leaves in its tile, where the two gains hold one head's gain twice. -/
theorem out_apply (qn kn : Fin 64 → EReal) (h3 : ∀ l : Fin 128, x3 (ix2 0 l) = kn ⟨l.val % 64, Nat.mod_lt _ (by decide)⟩)
    (h4 : ∀ l : Fin 128, x4 (ix2 0 l) = qn ⟨l.val % 64, Nat.mod_lt _ (by decide)⟩) (r : Fin 256) (f : Fin 3456) :
    out0_A_5 (F := Ideal) c i arg1 harg1 arg2 harg2 arg3 harg3 arg4 harg4 arg5 harg5 arg6 harg6 x0 x1 x2 x3 x4 (ix2 r f)
      = projRow (fun d => x0 (ix2 r d)) (fun d => x1 (ix2 0 d)) (fun k f => x2 (ix2 f k)) qn kn f.val := by
  have hf := f.isLt
  have hZ := z_apply r x0 x1 x2
  generalize hz : zCol (fun d => x0 (ix2 r d)) (fun d => x1 (ix2 0 d)) (fun k f => x2 (ix2 f k)) = z at hZ
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  simp only [View.readAt_eq_ld, Memref.IsWhole.read_unread, View.readCov_eq_canon', Cert.KernelIdeal.Pool.ld2]
  unfold projRow
  rw [hz]
  refine row_apply x3 x4 z qn kn h3 h4 _ _ _ _ _ _ _ r f hZ (zeros_apply r)
    (fun c hc => by rw [← hz]; exact dif_neg (by omega)) (fun l => ?_) (fun l => ?_) (fun l => ?_) (fun l => ?_) (fun l => ?_)
  · refine k_apply _ _ r l z 4 (fun x => ?_)
    have hx := x.isLt
    refine (canon_miss _ _ _ _ (Or.inr ((show 384 + 128 ≤ 512 + x.val by omega).trans_eq (load1 _ r x).symm))).trans ?_
    refine (canon_miss _ _ _ _ (Or.inr ((show 256 + 128 ≤ 512 + x.val by omega).trans_eq (load1 _ r x).symm))).trans ?_
    refine (canon_miss _ _ _ _ (Or.inr ((show 128 + 128 ≤ 512 + x.val by omega).trans_eq (load1 _ r x).symm))).trans ?_
    refine (canon_miss _ _ _ _ (Or.inr ((show 0 + 128 ≤ 512 + x.val by omega).trans_eq (load1 _ r x).symm))).trans ?_
    refine (canon_hit _ _ _ _ r ⟨512 + x.val, by omega⟩ (load0 _ r x) ((load1 _ r x).trans (Nat.zero_add _).symm)).trans (hZ _)
  · refine q3_apply _ _ r l z 3 (fun x => ?_)
    have hx := x.isLt
    refine (canon_miss _ _ _ _ (Or.inr ((show 256 + 128 ≤ 384 + x.val by omega).trans_eq (load1 _ r x).symm))).trans ?_
    refine (canon_miss _ _ _ _ (Or.inr ((show 128 + 128 ≤ 384 + x.val by omega).trans_eq (load1 _ r x).symm))).trans ?_
    refine (canon_miss _ _ _ _ (Or.inr ((show 0 + 128 ≤ 384 + x.val by omega).trans_eq (load1 _ r x).symm))).trans ?_
    refine (canon_hit _ _ _ _ r ⟨384 + x.val, by omega⟩ (load0 _ r x) ((load1 _ r x).trans (Nat.zero_add _).symm)).trans (hZ _)
  · refine q2_apply _ _ r l z 2 (fun x => ?_)
    have hx := x.isLt
    refine (canon_miss _ _ _ _ (Or.inr ((show 128 + 128 ≤ 256 + x.val by omega).trans_eq (load1 _ r x).symm))).trans ?_
    refine (canon_miss _ _ _ _ (Or.inr ((show 0 + 128 ≤ 256 + x.val by omega).trans_eq (load1 _ r x).symm))).trans ?_
    refine (canon_hit _ _ _ _ r ⟨256 + x.val, by omega⟩ (load0 _ r x) ((load1 _ r x).trans (Nat.zero_add _).symm)).trans (hZ _)
  · refine q1_apply _ _ r l z 1 (fun x => ?_)
    have hx := x.isLt
    refine (canon_miss _ _ _ _ (Or.inr ((show 0 + 128 ≤ 128 + x.val by omega).trans_eq (load1 _ r x).symm))).trans ?_
    refine (canon_hit _ _ _ _ r ⟨128 + x.val, by omega⟩ (load0 _ r x) ((load1 _ r x).trans (Nat.zero_add _).symm)).trans (hZ _)
  · refine q0_apply _ _ r l z 0 (fun x => ?_)
    have hx := x.isLt
    refine (canon_hit _ _ _ _ r ⟨0 + x.val, by omega⟩ (load0 _ r x) ((load1 _ r x).trans (Nat.zero_add _).symm)).trans (hZ _)
end Out

end Cert.Kernel3Ideal.Proj

end
-- ==== Proof.SampleKernel.lean ====
/-
  The projecting call's result array, at an index, over its argument arrays.
-/
module

public import proofs.«01_k».proof.Proof.SampleTile
public import Idealize.ShloMosaic.Lib.Pipeline.ValueKit.Point
public import Idealize.ShloMosaic.Lib.Claim

@[expose] public section

set_option maxRecDepth 16384

noncomputable section

namespace Cert.Kernel3Ideal.Proj

open Cert.Kernel3Ideal Cert.Kernel3Ideal.Gen Cert.PoolMath Cert.ProjMath
open Idealize.ShloMosaic Idealize.ShloMosaic.TcCoe Idealize.SL.Sem

/-- Every window's block number at every grid point. -/
theorem idx : ∀ t : Fin cfg0.N,
    win0_0.index t = ![t.val, 0] ∧ win0_1.index t = ![0, 0] ∧ win0_2.index t = ![0, 0] ∧ win0_3.index t = ![0, 0] ∧
    win0_4.index t = ![0, 0] ∧ win0_5.index t = ![t.val, 0] := by decide +kernel

variable (m : (ℓ : Loc nD τ sig) → Buf (Elt Ideal) ℓ) (c : Dev nD)

theorem blk0 (t : Fin cfg0.N) (b : Fin 32) (p : Fin 16) (r : Fin 256) (d : Fin 1024) (h : 16 * b.val + p.val = 256 * t.val + r.val) :
    iblk m c 0 t (ix2 r d) = m ((c : Thread nD τ).loc main_arg0) (ix3 b p d) := by
  blk_ext! [iblk, V, idx t]

theorem blk1 (t : Fin cfg0.N) (d : Fin 1024) :
    iblk m c 1 t (ix2 0 d) = m ((c : Thread nD τ).loc main_arg1) (ix2 0 d) := by
  blk_ext! [iblk, V, idx t]

theorem blk2 (t : Fin cfg0.N) (k : Fin 1024) (f : Fin 3336) :
    iblk m c 2 t (ix2 f k) = m ((c : Thread nD τ).loc main_arg2) (ix3 0 k f) := by
  blk_ext! [iblk, V, idx t]

theorem blk3 (t : Fin cfg0.N) (l : Fin 128) :
    iblk m c 3 t (ix2 0 l) = m ((c : Thread nD τ).loc main_arg4) (ix2 0 ⟨l.val % 64, Nat.mod_lt _ (by decide)⟩) := by
  blk_ext! [iblk, V, idx t]

theorem blk4 (t : Fin cfg0.N) (l : Fin 128) :
    iblk m c 4 t (ix2 0 l) = m ((c : Thread nD τ).loc main_arg3) (ix2 0 ⟨l.val % 64, Nat.mod_lt _ (by decide)⟩) := by
  blk_ext! [iblk, V, idx t]

/-- The tile's place in the result array. -/
theorem blk5 (t : Fin cfg0.N) (X : S512x3456.Idx → EReal) (i : Fin 512) (r : Fin 256) (f : Fin 3456) (h : i.val = 256 * t.val + r.val) :
    ((cfg0.win 5).blk t).view.read (Elt Ideal) X (ix2 r f) = X (ix2 i f) := by
  blk_ext! [idx t]

/-- The call's result. -/
theorem result_apply (b : Fin 32) (p : Fin 16) (i : Fin 512) (f : Fin 3456) (h : i.val = 16 * b.val + p.val) :
    (dats m 0 c).arrAt 5 cfg0.N (ix2 i f)
      = projRow (fun d => m ((c : Thread nD τ).loc main_arg0) (ix3 b p d)) (fun d => m ((c : Thread nD τ).loc main_arg1) (ix2 0 d))
          (fun k f => m ((c : Thread nD τ).loc main_arg2) (ix3 0 k f)) (fun l => m ((c : Thread nD τ).loc main_arg3) (ix2 0 l))
          (fun l => m ((c : Thread nD τ).loc main_arg4) (ix2 0 l)) f.val := by
  have hi := i.isLt
  have hN : cfg0.N = 2 := N_0
  obtain ⟨t, ht⟩ : ∃ t : Fin cfg0.N, t.val = i.val / 256 := ⟨⟨i.val / 256, by omega⟩, rfl⟩
  obtain ⟨r, hr⟩ : ∃ r : Fin 256, r.val = i.val % 256 := ⟨⟨i.val % 256, Nat.mod_lt _ (by decide)⟩, rfl⟩
  have hx : (fun d => iblk m c 0 t (ix2 r d)) = fun d => m ((c : Thread nD τ).loc main_arg0) (ix3 b p d) :=
    funext fun d => blk0 m c t b p r d (by omega)
  have hg : (fun d => iblk m c 1 t (ix2 0 d)) = fun d => m ((c : Thread nD τ).loc main_arg1) (ix2 0 d) := funext fun d => blk1 m c t d
  have hw : (fun k f => iblk m c 2 t (ix2 f k)) = fun k f => m ((c : Thread nD τ).loc main_arg2) (ix3 0 k f) :=
    funext fun k => funext fun f => blk2 m c t k f
  refine (blk5 t ((dats m 0 c).arrAt 5 cfg0.N) i r f (by omega)).symm.trans ?_
  rw [Value.blocks5 m c t (flush0_5 t), Value.flushed5_A]
  refine (out_apply c _ _ _ _ _ _ _ _ _ _ _ _ _ (iblk m c 0 t) (iblk m c 1 t) (iblk m c 2 t) (iblk m c 3 t) (iblk m c 4 t)
    (fun l => m ((c : Thread nD τ).loc main_arg3) (ix2 0 l)) (fun l => m ((c : Thread nD τ).loc main_arg4) (ix2 0 l))
    (blk3 m c t) (blk4 m c t) r f).trans ?_
  rw [hx, hg, hw]

end Cert.Kernel3Ideal.Proj

end
-- ==== Proof.SampleRef.lean ====
/-
  The projecting call's reference, at an index, over its argument arrays: the same `Cert.ProjMath` entries the call's result is.
-/
module

public import proofs.«01_k».proof.Proof.ProjMath
public import proofs.«01_k».proof.Proof.Gen.Reference3Ideal.Read

@[expose] public section

set_option maxRecDepth 16384

noncomputable section

namespace Cert.Reference3Ideal.Proj

open Cert.Reference3Ideal Cert.Reference3Ideal.Read Cert.PoolMath Cert.ProjMath
open Idealize.ShloMosaic Idealize.ShloMosaic.TcCoe Idealize.SL.Sem

variable (a0 : (⟨S32x16x1024, .f32⟩ : BufTy).Contents (Elt Ideal)) (a1 : (⟨S1x1024, .f32⟩ : BufTy).Contents (Elt Ideal))
  (a2 : (⟨S1x1024x3336, .f32⟩ : BufTy).Contents (Elt Ideal)) (a3 a4 : (⟨S1x64, .f32⟩ : BufTy).Contents (Elt Ideal))

theorem v13_apply (b : Fin 32) (p : Fin 16) (d : Fin 1024) : val_main_v13 (F := Ideal) a0 a1 (ix3 b p d)
    = nRow (fun d => a0 (ix3 b p d)) (fun d => a1 (ix2 0 d)) d := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- A token's projected columns. -/
abbrev zAt (b : Fin 32) (p : Fin 16) : ℕ → EReal :=
  zCol (fun d => a0 (ix3 b p d)) (fun d => a1 (ix2 0 d)) (fun k f => a2 (ix3 0 k f))

theorem v15_apply (b : Fin 32) (p : Fin 16) (f : Fin 3336) : val_main_v15 (F := Ideal) a0 a1 a2 (ix3 b p f) = zAt a0 a1 a2 b p f.val := by
  have e := v13_apply a0 a1
  unfold val_main_v15
  generalize val_main_v13 (F := Ideal) a0 a1 = X at e ⊢
  pointwise [val_main_v14]
  simp only [e]
  unfold zAt zCol
  rw [dif_pos f.isLt]

theorem v51_apply (b : Fin 32) (p : Fin 16) (f : Fin 512) : val_main_v51 (F := Ideal) a0 a1 a2 a3 (ix3 b p f)
    = headCol (zAt a0 a1 a2 b p) (gain (fun l => a3 (ix2 0 l)) (fun l => a4 (ix2 0 l)) f.val) f.val := by
  have e := v15_apply a0 a1 a2 b p
  unfold val_main_v51 val_main_v33 val_main_v30 val_main_v29 val_main_v28 val_main_v27 val_main_v25 val_main_v23 val_main_v22 val_main_v21 val_main_v17 val_main_v16
  generalize val_main_v15 (F := Ideal) a0 a1 a2 = X at e ⊢
  pointwise [val_main_v18, val_main_v19, val_main_v20, val_main_v24, val_main_v26, val_main_v31, val_main_v32,
    val_main_cst_2, val_main_cst_3, val_main_cst_4, val_main_cst_5]
  refine head_of _ f.val _ (fun x => X (ix3 b p ⟨f.val / 64 * 64 + x.val, _⟩)) _ _ (e _) (fun x => (e _).trans ?_) ?_
  · exact congrArg _ (by show f.val / 64 * 64 + x.val = _; omega)
  · unfold gain
    rw [if_pos f.isLt]

theorem v52_apply (b : Fin 32) (p : Fin 16) (f : Fin 128) : val_main_v52 (F := Ideal) a0 a1 a2 a4 (ix3 b p f)
    = headCol (zAt a0 a1 a2 b p) (gain (fun l => a3 (ix2 0 l)) (fun l => a4 (ix2 0 l)) (512 + f.val)) (512 + f.val) := by
  have e := v15_apply a0 a1 a2 b p
  unfold val_main_v52 val_main_v49 val_main_v46 val_main_v45 val_main_v44 val_main_v43 val_main_v41 val_main_v39 val_main_v38 val_main_v37 val_main_v35 val_main_v34
  generalize val_main_v15 (F := Ideal) a0 a1 a2 = X at e ⊢
  pointwise [val_main_v36, val_main_v40, val_main_v42, val_main_v47, val_main_v48, val_main_cst_6, val_main_cst_7, val_main_cst_8]
  refine head_of _ (512 + f.val) _ (fun x => X (ix3 b p ⟨512 + (f.val / 64 * 64 + x.val), _⟩)) _ _ (e _) (fun x => (e _).trans ?_) ?_
  · exact congrArg _ (by show 512 + (f.val / 64 * 64 + x.val) = _; omega)
  · unfold gain
    rw [if_neg (by omega)]
    exact congrArg (fun l => a4 (ix2 0 l)) (Fin.ext (by show f.val % 64 = (512 + f.val) % 64; omega))

/-- The reference's result. -/
theorem result_apply (b : Fin 32) (p : Fin 16) (i : Fin 512) (f : Fin 3456) (h : i.val = 16 * b.val + p.val) :
    val_main_v55 (F := Ideal) a0 a1 a2 a3 a4 (ix2 i f)
      = projRow (fun d => a0 (ix3 b p d)) (fun d => a1 (ix2 0 d)) (fun k f => a2 (ix3 0 k f)) (fun l => a3 (ix2 0 l)) (fun l => a4 (ix2 0 l)) f.val := by
  have e0 := v51_apply a0 a1 a2 a3 a4 b p
  have e1 := v52_apply a0 a1 a2 a3 a4 b p
  have e2 := v15_apply a0 a1 a2 b p
  unfold val_main_v55 val_main_v54 val_main_v53
  generalize val_main_v51 (F := Ideal) a0 a1 a2 a3 = X0 at e0 ⊢
  generalize val_main_v52 (F := Ideal) a0 a1 a2 a4 = X1 at e1 ⊢
  generalize val_main_v15 (F := Ideal) a0 a1 a2 = X2 at e2 ⊢
  pointwise [val_main_v50, val_main_cst_9]
  have hp := p.isLt
  have hi := i.isLt
  have hb : (⟨i.val / 16, by omega⟩ : Fin 32) = b := Fin.ext (by show i.val / 16 = b.val; omega)
  have hp' : (⟨i.val % 16, by omega⟩ : Fin 16) = p := Fin.ext (by show i.val % 16 = p.val; omega)
  exact join_row f (fun f => X0 (ix3 ⟨i.val / 16, by omega⟩ ⟨i.val % 16, by omega⟩ f)) (fun f => X1 (ix3 ⟨i.val / 16, by omega⟩ ⟨i.val % 16, by omega⟩ f))
    (fun f => X2 (ix3 ⟨i.val / 16, by omega⟩ ⟨i.val % 16, by omega⟩ ⟨640 + f.val, by have := f.isLt; omega⟩)) _ _ _ _ _
    (fun l => by rw [hb, hp']; exact e0 l) (fun l => by rw [hb, hp']; exact e1 l) (fun l => by rw [hb, hp']; exact e2 _)

end Cert.Reference3Ideal.Proj

end
-- ==== Proof.SampleClaim.lean ====
/- The projecting call on the sample: its frames, and its result against the reference's. -/
module

public import proofs.«01_k».proof.Defs
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.SampleKernel
public import proofs.«01_k».proof.Proof.SampleRef
public import Idealize.ShloMosaic.Adequacy

@[expose] public section

noncomputable section

namespace Cert.Proof

open Idealize.ShloMosaic Idealize.ShloMosaic.StableHlo Idealize.SL.Sem Cert.PoolMath Cert.ProjMath

theorem frame_Kernel3 : Cert.quiescent_Kernel3 := fun m ρ _ => Cert.Kernel3.Gen.frame m ρ

theorem frame_Kernel3Ideal : Cert.quiescent_Kernel3Ideal := fun m ρ _ => Cert.Kernel3Ideal.Gen.frame m ρ

theorem frame_Reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem algebraic_Kernel3 : Cert.algebraic_Kernel3Ideal_Reference3Ideal := by
  intro m g m' g' _ hargs
  refine ⟨fun c => (Cert.Kernel3Ideal.Gen.dats m 0 c).arrAt 5 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨h0, hk⟩ := h c
  obtain ⟨e0, e1, e2, e3, e4⟩ := hargs c
  refine ⟨(h0.trans (Cert.Reference3Ideal.Read.val_main_v55_eq m' c)).trans ?_, hk⟩
  simp only [e0, e1, e2, e3, e4]
  funext i
  have hi : i = ix2 (i 0) (i 1) := by
    funext a
    match a with
    | ⟨0, _⟩ => rfl
    | ⟨1, _⟩ => rfl
  have h0 : (i 0).val < 512 := (i 0).isLt
  obtain ⟨b, p, h⟩ : ∃ (b : Fin 32) (p : Fin 16), (i 0).val = 16 * b.val + p.val :=
    ⟨⟨(i 0).val / 16, by omega⟩, ⟨(i 0).val % 16, by omega⟩, by show (i 0).val = 16 * ((i 0).val / 16) + (i 0).val % 16; omega⟩
  rw [hi]
  exact (Cert.Reference3Ideal.Proj.result_apply _ _ _ _ _ b p (i 0) (i 1) h).trans (Cert.Kernel3Ideal.Proj.result_apply m c b p (i 0) (i 1) h).symm

end Cert.Proof

end
-- ==== Proof.SamplePoolMath.lean ====
/-
  The pooling layer on thirty-two short sequences that go on from a state of fifteen rows: what the two results hold, at an index.
-/
module

public import proofs.«01_k».proof.Proof.PoolMath

@[expose] public section

noncomputable section

namespace Cert.PoolMath

open Idealize.ShloMosaic

/-- A sequence and a position as a row of the flat sample array. -/
def flatS (b : Fin 32) (t : Fin 16) : Fin 512 := ⟨16 * b.val + t.val, by have := b.isLt; have := t.isLt; omega⟩

section SampleArrays
variable (a0 : (⟨3, ![32, 16, 1024]⟩ : Shape).Idx → EReal) (a1 a2 : (⟨2, ![512, 512]⟩ : Shape).Idx → EReal)
  (a3 : (⟨3, ![1, 1024, 1024]⟩ : Shape).Idx → EReal) (a4 : (⟨2, ![1, 1024]⟩ : Shape).Idx → EReal)
  (a5 : (⟨3, ![1, 1024, 2048]⟩ : Shape).Idx → EReal) (a6 : (⟨4, ![1, 4, 256, 256]⟩ : Shape).Idx → EReal)
  (a7 : (⟨2, ![1, 1024]⟩ : Shape).Idx → EReal) (a8 : (⟨3, ![1, 1024, 1024]⟩ : Shape).Idx → EReal)
  (a9 : (⟨4, ![1, 32, 15, 1024]⟩ : Shape).Idx → EReal)

/-- The residual row of one token of the sample. -/
def xAtS (b : Fin 32) (t : Fin 16) : Fin 1024 → EReal :=
  xRow (fun d => a0 (ix3 b t d)) (fun k => a1 (ix2 (flatS b t) k)) (fun k => a2 (ix2 (flatS b t) k))
    (fun k d => a3 (ix3 0 ⟨k.val, by have := k.isLt; omega⟩ d)) (fun k d => a3 (ix3 0 ⟨512 + k.val, by have := k.isLt; omega⟩ d))

/-- A zero row, the fifteen rows of the state, and then the pooled channels of sequence `b`. -/
def extS (b : Fin 32) (p : ℕ) (c : Fin 1024) : EReal :=
  if p = 0 then 0
  else if h : p - 1 < 15 then a9 (ix4 0 b ⟨p - 1, h⟩ c)
  else if h : p - 16 < 16 then uRow (xAtS a0 a1 a2 a3 b ⟨p - 16, h⟩) (fun d => a4 (ix2 0 d)) (fun k f => a5 (ix3 0 k f)) c else 0

/-- The layer's result; the sample's first token has number 2048. -/
def yAtS (b : Fin 32) (t : Fin 16) (d : Fin 1024) : EReal :=
  outRow (xAtS a0 a1 a2 a3 b t) (fun d => a4 (ix2 0 d)) (fun k f => a5 (ix3 0 k f)) (extS a0 a1 a2 a3 a4 a5 a9 b) (t.val + 16) (2048 + t.val)
    (fun q l k => a6 (ix4 0 q l k)) (fun c => a7 (ix2 0 c)) (fun c d => a8 (ix3 0 c d)) d

theorem extS_row (b : Fin 32) (t : Fin 16) (c : Fin 1024) : extS a0 a1 a2 a3 a4 a5 a9 b (16 + t.val) c
    = uRow (xAtS a0 a1 a2 a3 b t) (fun d => a4 (ix2 0 d)) (fun k f => a5 (ix3 0 k f)) c := by
  have ht := t.isLt
  unfold extS
  rw [if_neg (by omega), dif_neg (by omega), dif_pos (by omega)]
  exact congrArg (fun t => uRow (xAtS a0 a1 a2 a3 b t) _ _ c) (Fin.ext (by show 16 + t.val - 16 = t.val; omega))

theorem extS_state (b : Fin 32) (p : Fin 15) (c : Fin 1024) : extS a0 a1 a2 a3 a4 a5 a9 b (p.val + 1) c = a9 (ix4 0 b p c) := by
  have hp := p.isLt
  unfold extS
  rw [if_neg (by omega), dif_pos (by omega)]
  exact congrArg (fun p => a9 (ix4 0 b p c)) (Fin.ext (by show p.val + 1 - 1 = p.val; omega))

end SampleArrays

end Cert.PoolMath
-- ==== Proof.SamplePoolPay.lean ====
/-
  The kernel body's straight-line pieces, read at an index: the residual with the output projections, the normalised
  row, the input projection, the four pooled groups and the output projection, each down to `Cert.PoolMath`.
-/
module

public import proofs.«01_k».proof.Proof.PoolBody
public import proofs.«01_k».proof.Proof.Gen.Kernel4Ideal.Value

@[expose] public section

set_option maxRecDepth 16384

noncomputable section

namespace Cert.Kernel4Ideal.Pool

open Cert.Kernel4Ideal Cert.Kernel4Ideal.Gen Cert.PoolMath
open Idealize.ShloMosaic Idealize.ShloMosaic.TcCoe Idealize.SL.Sem

section Rows
variable (v6 : Vec Ideal S256x1024 .f32) (v8 v13 : Vec Ideal S256x512 .bf16) (v9 v14 : Vec Ideal S512x1024 .bf16)
  (v28 : Vec Ideal S1x1024 .f32) (v33 : Vec Ideal S1024x2048 .bf16)

/-- Row `r` of the residual the body forms. -/
abbrev xk (r : Fin 256) : Fin 1024 → EReal :=
  xRow (fun d => v6 (ix2 r d)) (fun k => v8 (ix2 r k)) (fun k => v13 (ix2 r k)) (fun k d => v9 (ix2 k d)) (fun k d => v14 (ix2 k d))

theorem pay4_apply (r : Fin 256) (d : Fin 1024) : k0_pay4 (F := Ideal) v6 v8 v9 v13 v14 (ix2 r d) = xk v6 v8 v13 v9 v14 r d := by
  pointwise [k0_pay4]
  rfl

theorem pay5_apply (r : Fin 256) (d : Fin 1024) : k0_pay5 (F := Ideal) v6 v8 v9 v13 v14 v28 (ix2 r d)
    = nRow (xk v6 v8 v13 v9 v14 r) (fun d => v28 (ix2 0 d)) d := by
  have e := pay4_apply v6 v8 v13 v9 v14
  unfold k0_pay5
  generalize k0_pay4 (F := Ideal) v6 v8 v9 v13 v14 = X at e ⊢
  pointwise []
  simp only [e]
  rfl

/-- The normalised row against the input projection. -/
theorem pay6_apply (r : Fin 256) (f : Fin 2048) (v32 : FVec Ideal S256x1024 .bf16) :
    k0_pay6 (F := Ideal) v32 v33 (ix2 r f) = ∑ k, v32 (ix2 r k) * v33 (ix2 k f) := by
  pointwise [k0_pay6]

theorem pay7_apply (r : Fin 256) (c : Fin 1024) (v32 : FVec Ideal S256x1024 .bf16) :
    k0_pay7 (F := Ideal) v32 v33 (ix2 r c) = ∑ k, v32 (ix2 r k) * v33 (ix2 k ⟨c.val, by have := c.isLt; omega⟩) := by
  have e := pay6_apply v33 (v32 := v32)
  unfold k0_pay7
  generalize k0_pay6 (F := Ideal) v32 v33 = X at e ⊢
  pointwise []
  exact e r _

theorem pay8_apply (r : Fin 256) (c : Fin 1024) (v32 : FVec Ideal S256x1024 .bf16) :
    k0_pay8 (F := Ideal) v32 v33 (ix2 r c) = ∑ k, v32 (ix2 r k) * v33 (ix2 k ⟨1024 + c.val, by have := c.isLt; omega⟩) := by
  have e := pay6_apply v33 (v32 := v32)
  unfold k0_pay8
  generalize k0_pay6 (F := Ideal) v32 v33 = X at e ⊢
  pointwise []
  exact e r _

theorem pay9_apply (s : Fin 16) (j : Fin 16) (c : Fin 1024) (v32 : FVec Ideal S256x1024 .bf16) :
    k0_pay9 (F := Ideal) v32 v33 (ix3 s j c) = k0_pay7 (F := Ideal) v32 v33 (ix2 ⟨s.val * 16 + j.val, by have := s.isLt; have := j.isLt; omega⟩ c) := by
  unfold k0_pay9
  generalize k0_pay7 (F := Ideal) v32 v33 = X
  pointwise []

end Rows

/-- No history row is masked off: the sample starts at position 2048. -/
theorem pay2_apply (v : Vec Ideal S16x16x1024 .f32) (s p : Fin 16) (c : Fin 1024) :
    k0_pay2 (F := Ideal) v (ix3 s p c) = v (ix3 s p c) := by
  have h : ∀ p : Fin 16, IntOp.cmpi CmpIPredicate.sge (IntOp.addi (2032#32) (BitVec.ofNat 32 p.val)) 0#32 = 1#1 := by decide
  pointwise [k0_pay2]
  rw [h]
  rfl

/-- Where in its sixteen sequences' scratch a row of the tile stands. -/
def pos (r : Fin 256) : ℕ := 32 * (r.val / 16) + (16 + r.val % 16)

theorem pos_lt (r : Fin 256) : pos r < 512 := by have := r.isLt; unfold pos; omega

theorem le_pos (r : Fin 256) {n : ℕ} (h : n ≤ 16) : n ≤ pos r := by unfold pos; omega

theorem at_pos (r : Fin 256) (l : Fin 256) : (ix2 ⟨r.val / 16 * 32 + (16 + r.val % 16), by have := r.isLt; omega⟩ l : S512x256.Idx)
    = ix2 ⟨pos r, pos_lt r⟩ l := congrArg (fun p => ix2 p l) (Fin.ext (by show r.val / 16 * 32 + (16 + r.val % 16) = pos r; unfold pos; omega))

/-- The token number the body counts with, capped at a window. -/
theorem count_word (r : Fin 256) (q : Fin 4) :
    IntOp.minsi (IntOp.addi (k0_pay10 0#32 (ix2 r 0)) 1#32) (BitVec.ofNat 32 (win q.val))
      = BitVec.ofNat 32 (min (2048 + r.val % 16 + 1) (win q.val)) := by
  have h : ∀ (r : Fin 256) (q : Fin 4), IntOp.minsi
      (IntOp.addi
        (IntOp.addi (Scalar.addi (2048#32) (Scalar.muli (0#32) 16#32))
          (IntOp.andi (BitVec.ofNat 32 r.val) 15#32)) 1#32)
      (BitVec.ofNat 32 (win q.val)) = BitVec.ofNat 32 (min (2048 + r.val % 16 + 1) (win q.val)) := by
    decide +kernel
  pointwise [k0_pay10]
  exact h r q

/-- A mean over its count, minus the row itself, once the three parts are read. -/
theorem pooled_of (r : Fin 256) (q : Fin 4) (E : ℕ → EReal) (V X : EReal) (w : BitVec 32) (hw : w = BitVec.ofNat 32 (win q.val))
    (hV : V = wsum (win q.val) E (pos r)) (hX : X = E (pos r)) :
    Ideal.div V (FloatOps.sitofp (F := Ideal) .f32 (IntOp.minsi (IntOp.addi (k0_pay10 0#32 (ix2 r 0)) 1#32) w)) - X
      = pooled q.val E (pos r) (2048 + r.val % 16) := by
  rw [hV, hX, hw, count_word]
  rfl

section Groups
variable (E : ℕ → Fin 1024 → EReal) (X Z : FVec Ideal S256x1024 .f32)
  (hX : ∀ (r : Fin 256) (c : Fin 1024), X (ix2 r c) = E (pos r) c)
  (v : Vec Ideal S16x32x256 .f32) (wg : Vec Ideal S1x256x256 .bf16) (sc : Vec Ideal S1x256 .f32)

theorem cast_apply (v : Vec Ideal S16x32x256 .f32) (q : Fin 4)
    (hv : ∀ (s : Fin 16) (p : Fin 32) (l : Fin 256), v (ix3 s p l) = E (32 * s.val + p.val) (chan q l)) (p : Fin 512) (l : Fin 256) :
    shapeCast S512x256 v shapeCasts_S16x32x256_S512x256 (ix2 p l) = E p.val (chan q l) := by
  pointwise []
  rw [hv]
  exact congrArg (fun p => E p (chan q l)) (by show 32 * (p.val / 32) + p.val % 32 = p.val; omega)

include hX

theorem pay11_apply (v32 : FVec Ideal S256x1024 .bf16) (v33 : Vec Ideal S1024x2048 .bf16) (e7 : k0_pay7 (F := Ideal) v32 v33 = X)
    (hv : ∀ (s : Fin 16) (p : Fin 32) (l : Fin 256), v (ix3 s p l) = E (32 * s.val + p.val) (chan 0 l)) (r : Fin 256) (l : Fin 256) :
    k0_pay11 (F := Ideal) 0#32 v32 v33 v (ix2 r l)
      = pooled 0 (fun p => E p (chan 0 l)) (pos r) (2048 + r.val % 16) := by
  have hp := pooled_of r 0
  have h0 : ∀ (p : Fin 512) (l : Fin 256), shapeCast S512x256 v shapeCasts_S16x32x256_S512x256 (ix2 p l) = E p.val (chan 0 l) :=
    cast_apply E v _ hv
  have h2 := Cert.KernelIdeal.Pool.sums2 (fun p l => E p (chan 0 l)) _ rotates_S512x256_d0 (by omega) h0
  unfold k0_pay11
  rw [e7]
  dsimp only
  generalize hV : (addf _ _ : FVec Ideal S512x256 .f32) = V
  replace h2 : ∀ (p : Fin 512) (l : Fin 256), 1 ≤ p.val → V (ix2 p l) = _ := fun p l hp => (congrFun hV _).symm.trans (h2 p l hp)
  clear hV h0
  revert hp
  generalize k0_pay10 0#32 = Y
  intro hp
  pointwise []
  exact hp (fun p => E p (chan 0 l)) _ _ _ rfl ((congrArg V (at_pos r l)).trans (h2 ⟨pos r, pos_lt r⟩ l (le_pos r (by omega)))) ((congrArg X (congrArg (ix2 r) (Fin.ext (by simp [chan])))).trans (hX r (chan 0 l)))

theorem pay13_apply
    (hv : ∀ (s : Fin 16) (p : Fin 32) (l : Fin 256), v (ix3 s p l) = E (32 * s.val + p.val) (chan 1 l)) (r : Fin 256) (k : Fin 256) :
    k0_pay13 (F := Ideal) X (k0_pay10 0#32) v wg (ix2 r k)
      = ∑ l, pooled 1 (fun p => E p (chan 1 l)) (pos r) (2048 + r.val % 16) * wg (ix3 0 l k) := by
  have hp := pooled_of r 1
  have h0 : ∀ (p : Fin 512) (l : Fin 256), shapeCast S512x256 v shapeCasts_S16x32x256_S512x256 (ix2 p l) = E p.val (chan 1 l) :=
    cast_apply E v _ hv
  have h2 := Cert.KernelIdeal.Pool.sums4 (fun p l => E p (chan 1 l)) _ rotates_S512x256_d0 (by omega)
    (Cert.KernelIdeal.Pool.sums2 (fun p l => E p (chan 1 l)) _ rotates_S512x256_d0 (by omega) h0)
  unfold k0_pay13
  dsimp only
  generalize hV : (addf _ _ : FVec Ideal S512x256 .f32) = V
  replace h2 : ∀ (p : Fin 512) (l : Fin 256), 3 ≤ p.val → V (ix2 p l) = _ := fun p l hp => (congrFun hV _).symm.trans (h2 p l hp)
  clear hV h0
  revert hp
  generalize k0_pay10 0#32 = Y
  intro hp
  pointwise []
  refine Finset.sum_congr rfl fun l _ => congrArg (· * wg (ix3 0 l k)) ?_
  exact hp (fun p => E p (chan 1 l)) _ _ _ rfl ((congrArg V (at_pos r l)).trans (h2 ⟨pos r, pos_lt r⟩ l (le_pos r (by omega)))) (hX r (chan 1 l))

theorem pay16_apply
    (hv : ∀ (s : Fin 16) (p : Fin 32) (l : Fin 256), v (ix3 s p l) = E (32 * s.val + p.val) (chan 2 l)) (r : Fin 256) (k : Fin 256) :
    k0_pay16 (F := Ideal) X (k0_pay10 0#32) v wg sc (ix2 r k)
      = (∑ l, pooled 2 (fun p => E p (chan 2 l)) (pos r) (2048 + r.val % 16) * wg (ix3 0 l k)) * sc (ix2 0 k) := by
  have hp := pooled_of r 2
  have h0 : ∀ (p : Fin 512) (l : Fin 256), shapeCast S512x256 v shapeCasts_S16x32x256_S512x256 (ix2 p l) = E p.val (chan 2 l) :=
    cast_apply E v _ hv
  have h2 := Cert.KernelIdeal.Pool.sums8 (fun p l => E p (chan 2 l)) _ rotates_S512x256_d0 (by omega)
    (Cert.KernelIdeal.Pool.sums4 (fun p l => E p (chan 2 l)) _ rotates_S512x256_d0 (by omega)
    (Cert.KernelIdeal.Pool.sums2 (fun p l => E p (chan 2 l)) _ rotates_S512x256_d0 (by omega) h0))
  unfold k0_pay16
  dsimp only
  generalize hV : (addf _ _ : FVec Ideal S512x256 .f32) = V
  replace h2 : ∀ (p : Fin 512) (l : Fin 256), 7 ≤ p.val → V (ix2 p l) = _ := fun p l hp => (congrFun hV _).symm.trans (h2 p l hp)
  clear hV h0
  revert hp
  generalize k0_pay10 0#32 = Y
  intro hp
  pointwise []
  refine congrArg (· * sc (ix2 0 k)) (Finset.sum_congr rfl fun l _ => congrArg (· * wg (ix3 0 l k)) ?_)
  exact hp (fun p => E p (chan 2 l)) _ _ _ rfl ((congrArg V (at_pos r l)).trans (h2 ⟨pos r, pos_lt r⟩ l (le_pos r (by omega)))) (hX r (chan 2 l))

theorem pay19_apply
    (hv : ∀ (s : Fin 16) (p : Fin 32) (l : Fin 256), v (ix3 s p l) = E (32 * s.val + p.val) (chan 3 l)) (r : Fin 256) (k : Fin 256) :
    k0_pay19 (F := Ideal) X (k0_pay10 0#32) v wg sc (ix2 r k)
      = (∑ l, pooled 3 (fun p => E p (chan 3 l)) (pos r) (2048 + r.val % 16) * wg (ix3 0 l k)) * sc (ix2 0 k) := by
  have hp := pooled_of r 3
  have h0 : ∀ (p : Fin 512) (l : Fin 256), shapeCast S512x256 v shapeCasts_S16x32x256_S512x256 (ix2 p l) = E p.val (chan 3 l) :=
    cast_apply E v _ hv
  have h2 := Cert.KernelIdeal.Pool.sums16 (fun p l => E p (chan 3 l)) _ rotates_S512x256_d0 (by omega)
    (Cert.KernelIdeal.Pool.sums8 (fun p l => E p (chan 3 l)) _ rotates_S512x256_d0 (by omega)
    (Cert.KernelIdeal.Pool.sums4 (fun p l => E p (chan 3 l)) _ rotates_S512x256_d0 (by omega)
    (Cert.KernelIdeal.Pool.sums2 (fun p l => E p (chan 3 l)) _ rotates_S512x256_d0 (by omega) h0)))
  unfold k0_pay19
  dsimp only
  generalize hV : (addf _ _ : FVec Ideal S512x256 .f32) = V
  replace h2 : ∀ (p : Fin 512) (l : Fin 256), 15 ≤ p.val → V (ix2 p l) = _ := fun p l hp => (congrFun hV _).symm.trans (h2 p l hp)
  clear hV h0
  revert hp
  generalize k0_pay10 0#32 = Y
  intro hp
  pointwise []
  refine congrArg (· * sc (ix2 0 k)) (Finset.sum_congr rfl fun l _ => congrArg (· * wg (ix3 0 l k)) ?_)
  exact hp (fun p => E p (chan 3 l)) _ _ _ rfl ((congrArg V (at_pos r l)).trans (h2 ⟨pos r, pos_lt r⟩ l (le_pos r (by omega)))) (hX r (chan 3 l))

omit hX

theorem pay12_apply (P : FVec Ideal S256x256 .bf16) (r : Fin 256) (k : Fin 256) :
    k0_pay12 (F := Ideal) Z P wg sc (ix2 r k) = (∑ l, P (ix2 r l) * wg (ix3 0 l k)) * sc (ix2 0 k) * sil (Z (ix2 r (chan 0 k))) := by
  have e : (⟨k.val, by have := k.isLt; omega⟩ : Fin 1024) = chan 0 k := Fin.ext (by simp [chan])
  pointwise [k0_pay12]
  rw [← e]
  exact congrArg (HMul.hMul _) (sil_eq _)

theorem pay15_apply (M : FVec Ideal S256x256 .f32) (r : Fin 256) (k : Fin 256) :
    k0_pay15 (F := Ideal) Z M (k0_pay14 sc) (ix2 r k) = M (ix2 r k) * sc (ix2 0 k) * sil (Z (ix2 r (chan 1 k))) := by
  pointwise [k0_pay15, k0_pay14]
  exact congrArg (HMul.hMul _) (sil_eq _)

theorem pay18_apply (M : FVec Ideal S256x256 .f32) (r : Fin 256) (k : Fin 256) :
    k0_pay18 (F := Ideal) M (k0_pay17 Z) (FloatOps.ofBits .f32 0#32) (ix2 r k) = M (ix2 r k) * sil (Z (ix2 r (chan 2 k))) := by
  pointwise [k0_pay18, k0_pay17]
  exact congrArg (HMul.hMul _) (sil_eq _)

theorem pay1_apply (v17 : FVec Ideal S256x1024 .f32) (v85 v122 v161 : FVec Ideal S256x256 .bf16) (v191 : FVec Ideal S256x256 .f32)
    (wo : Vec Ideal S1024x1024 .bf16) (r : Fin 256) (d : Fin 1024) :
    k0_pay1 (F := Ideal) v17 v85 v122 v161 v191 (k0_pay20 Z) k0_pay21 wo (ix2 r d)
      = v17 (ix2 r d) + (∑ k, v85 (ix2 r k) * wo (ix2 (chan 0 k) d) + ∑ k, v122 (ix2 r k) * wo (ix2 (chan 1 k) d)
          + ∑ k, v161 (ix2 r k) * wo (ix2 (chan 2 k) d) + ∑ k, v191 (ix2 r k) * sil (Z (ix2 r (chan 3 k))) * wo (ix2 (chan 3 k) d)) := by
  pointwise [k0_pay1, k0_pay20, k0_pay21, sumSplitAll]
  have e0 : ∀ k : Fin 256, (⟨k.val, by have := k.isLt; omega⟩ : Fin 1024) = chan 0 k := fun k => Fin.ext (by simp [chan])
  have e2 : ∀ k : Fin 256, (⟨256 + (256 + k.val), by have := k.isLt; omega⟩ : Fin 1024) = chan 2 k :=
    fun k => Fin.ext (by show 256 + (256 + k.val) = 2 * 256 + k.val; omega)
  have e3 : ∀ k : Fin 256, (⟨256 + (256 + (256 + k.val)), by have := k.isLt; omega⟩ : Fin 1024) = chan 3 k :=
    fun k => Fin.ext (by show 256 + (256 + (256 + k.val)) = 3 * 256 + k.val; omega)
  simp only [e0, e2, e3, add_assoc, sil_eq]
  rfl

end Groups

/-- The whole straight line: from the loads to one entry of the output tile. `E` is the scratch the window sums read,
    sixteen rows before the tile's own. -/
theorem body_apply (E : ℕ → Fin 1024 → EReal)
    (v6 : Vec Ideal S256x1024 .f32) (v8 v13 : Vec Ideal S256x512 .bf16) (v9 v14 : Vec Ideal S512x1024 .bf16)
    (v28 : Vec Ideal S1x1024 .f32) (v33 : Vec Ideal S1024x2048 .bf16)
    (v51 v86 v123 v162 : Vec Ideal S16x32x256 .f32) (v68 v105 v144 v185 : Vec Ideal S1x256x256 .bf16)
    (v71 v108 v147 v188 : Vec Ideal S1x256 .f32) (v204 : Vec Ideal S1024x1024 .bf16)
    (wg : Fin 4 → Fin 256 → Fin 256 → EReal) (sc : Fin 1024 → EReal)
    (h51 : ∀ (s : Fin 16) (p : Fin 32) (l : Fin 256), v51 (ix3 s p l) = E (32 * s.val + p.val) (chan 0 l))
    (h86 : ∀ (s : Fin 16) (p : Fin 32) (l : Fin 256), v86 (ix3 s p l) = E (32 * s.val + p.val) (chan 1 l))
    (h123 : ∀ (s : Fin 16) (p : Fin 32) (l : Fin 256), v123 (ix3 s p l) = E (32 * s.val + p.val) (chan 2 l))
    (h162 : ∀ (s : Fin 16) (p : Fin 32) (l : Fin 256), v162 (ix3 s p l) = E (32 * s.val + p.val) (chan 3 l))
    (hE : ∀ (r : Fin 256) (c : Fin 1024), k0_pay7 (F := Ideal) (k0_pay5 v6 v8 v9 v13 v14 v28) v33 (ix2 r c) = E (pos r) c)
    (g68 : ∀ l k, v68 (ix3 0 l k) = wg 0 l k) (g105 : ∀ l k, v105 (ix3 0 l k) = wg 1 l k)
    (g144 : ∀ l k, v144 (ix3 0 l k) = wg 2 l k) (g185 : ∀ l k, v185 (ix3 0 l k) = wg 3 l k)
    (s71 : ∀ k, v71 (ix2 0 k) = sc (chan 0 k)) (s108 : ∀ k, v108 (ix2 0 k) = sc (chan 1 k))
    (s147 : ∀ k, v147 (ix2 0 k) = sc (chan 2 k)) (s188 : ∀ k, v188 (ix2 0 k) = sc (chan 3 k)) (r : Fin 256) (d : Fin 1024) :
    k0_pay1 (F := Ideal) (k0_pay4 v6 v8 v9 v13 v14)
      (k0_pay12 (k0_pay8 (k0_pay5 v6 v8 v9 v13 v14 v28) v33) (k0_pay11 0#32 (k0_pay5 v6 v8 v9 v13 v14 v28) v33 v51) v68 v71)
      (k0_pay15 (k0_pay8 (k0_pay5 v6 v8 v9 v13 v14 v28) v33)
        (k0_pay13 (k0_pay7 (k0_pay5 v6 v8 v9 v13 v14 v28) v33) (k0_pay10 0#32) v86 v105) (k0_pay14 v108))
      (k0_pay18 (k0_pay16 (k0_pay7 (k0_pay5 v6 v8 v9 v13 v14 v28) v33) (k0_pay10 0#32) v123 v144 v147)
        (k0_pay17 (k0_pay8 (k0_pay5 v6 v8 v9 v13 v14 v28) v33)) (FloatOps.ofBits .f32 0#32))
      (k0_pay19 (k0_pay7 (k0_pay5 v6 v8 v9 v13 v14 v28) v33) (k0_pay10 0#32) v162 v185 v188)
      (k0_pay20 (k0_pay8 (k0_pay5 v6 v8 v9 v13 v14 v28) v33)) k0_pay21 v204 (ix2 r d)
    = outRow (xk v6 v8 v13 v9 v14 r) (fun d => v28 (ix2 0 d)) (fun k f => v33 (ix2 k f)) E (pos r) (2048 + r.val % 16)
        wg sc (fun c d => v204 (ix2 c d)) d := by
  have hZ : ∀ c : Fin 1024, k0_pay8 (F := Ideal) (k0_pay5 v6 v8 v9 v13 v14 v28) v33 (ix2 r c)
      = gateRow (xk v6 v8 v13 v9 v14 r) (fun d => v28 (ix2 0 d)) (fun k f => v33 (ix2 k f)) c := fun c => by
    rw [pay8_apply]
    simp only [pay5_apply]
    rfl
  have e11 := pay11_apply E _ hE v51 (k0_pay5 v6 v8 v9 v13 v14 v28) v33 rfl h51
  have e13 := pay13_apply E _ hE v86 v105 h86
  have e16 := pay16_apply E _ hE v123 v144 v147 h123
  have e19 := pay19_apply E _ hE v162 v185 v188 h162
  have e4 := pay4_apply v6 v8 v13 v9 v14
  revert hZ e11 e13 e16 e19 e4
  generalize k0_pay11 (F := Ideal) 0#32 (k0_pay5 v6 v8 v9 v13 v14 v28) v33 v51 = P11
  generalize k0_pay13 (F := Ideal) (k0_pay7 (k0_pay5 v6 v8 v9 v13 v14 v28) v33) (k0_pay10 0#32) v86 v105 = P13
  generalize k0_pay16 (F := Ideal) (k0_pay7 (k0_pay5 v6 v8 v9 v13 v14 v28) v33) (k0_pay10 0#32) v123 v144 v147 = P16
  generalize k0_pay19 (F := Ideal) (k0_pay7 (k0_pay5 v6 v8 v9 v13 v14 v28) v33) (k0_pay10 0#32) v162 v185 v188 = P19
  generalize k0_pay8 (F := Ideal) (k0_pay5 v6 v8 v9 v13 v14 v28) v33 = Z
  generalize k0_pay4 (F := Ideal) v6 v8 v9 v13 v14 = X
  intro hZ e11 e13 e16 e19 e4
  rw [pay1_apply]
  simp only [pay12_apply, pay15_apply, pay18_apply, e11, e13, e16, e19, e4, hZ, g68, g105, g144, g185, s71, s108, s147, s188]
  unfold outRow
  rw [Fin.sum_univ_four]
  rfl

end Cert.Kernel4Ideal.Pool
-- ==== Proof.SamplePoolBody.lean ====
/-
  What the kernel body leaves in its two output tiles on the sample, at an index. For each of sixteen sequences the scratch holds
  sixteen rows from before the tile and then the tile's own sixteen projected rows.
-/
module

public import proofs.«01_k».proof.Proof.SamplePoolPay
public import Idealize.ShloMosaic.Lib.Pipeline.ValueKit.Tiles

@[expose] public section

noncomputable section

namespace Cert.Kernel4Ideal.Pool

open Cert.Kernel4Ideal Cert.Kernel4Ideal.Gen Cert.PoolMath
open Cert.KernelIdeal.Pool (ld2 ld3 canon2 canon3)
open Idealize.ShloMosaic Idealize.ShloMosaic.TcCoe Idealize.SL.Sem

/-- The scratch as a function of rows: for each sequence sixteen rows of `H`, then its sixteen rows of the tile. -/
def scr (H : Vec Ideal S16x16x1024 .f32) (X : FVec Ideal S256x1024 .f32) (P : ℕ) (c : Fin 1024) : EReal :=
  if h : P < 512 then
    if h' : P % 32 < 16 then H (ix3 ⟨P / 32, by omega⟩ ⟨P % 32, h'⟩ c) else X (ix2 ⟨P / 32 * 16 + (P % 32 - 16), by omega⟩ c)
  else 0

theorem scr_hist (H : Vec Ideal S16x16x1024 .f32) (X : FVec Ideal S256x1024 .f32) (s p : Fin 16) (c : Fin 1024) (P : ℕ)
    (hP : P = 32 * s.val + p.val) : scr H X P c = H (ix3 s p c) := by
  subst hP
  have hs := s.isLt; have hp := p.isLt
  unfold scr
  rw [dif_pos (by omega), dif_pos (by omega)]
  exact congrArg H (funext fun a => match a with
    | ⟨0, _⟩ => Fin.ext (by show (32 * s.val + p.val) / 32 = s.val; omega)
    | ⟨1, _⟩ => Fin.ext (by show (32 * s.val + p.val) % 32 = p.val; omega)
    | ⟨2, _⟩ => rfl)

theorem scr_tile (H : Vec Ideal S16x16x1024 .f32) (X : FVec Ideal S256x1024 .f32) (s j : Fin 16) (c : Fin 1024) (P : ℕ)
    (hP : P = 32 * s.val + (16 + j.val)) :
    scr H X P c = X (ix2 ⟨s.val * 16 + j.val, by have := s.isLt; have := j.isLt; omega⟩ c) := by
  subst hP
  have hs := s.isLt; have hj := j.isLt
  unfold scr
  rw [dif_pos (by omega), dif_neg (by omega)]
  exact congrArg X (congrArg (ix2 · c) (Fin.ext (by
    show (32 * s.val + (16 + j.val)) / 32 * 16 + ((32 * s.val + (16 + j.val)) % 32 - 16) = s.val * 16 + j.val; omega)))

theorem scr_row (H : Vec Ideal S16x16x1024 .f32) (X : FVec Ideal S256x1024 .f32) (r : Fin 256) (c : Fin 1024) :
    X (ix2 r c) = scr H X (pos r) c := by
  have hr := r.isLt
  rw [scr_tile H X ⟨r.val / 16, by omega⟩ ⟨r.val % 16, by omega⟩ c (pos r) rfl]
  exact congrArg X (congrArg (ix2 · c) (Fin.ext (by show r.val = r.val / 16 * 16 + r.val % 16; omega)))

/-- The scratch after its two stores. -/
theorem scratch_apply (H : Vec Ideal S16x16x1024 .f32) (X : FVec Ideal S256x1024 .f32) (W K : Vec Ideal S16x16x1024 .f32)
    (i1 : ∀ a, (![0, 16, 0] : Fin 3 → ℕ) a + (![16, 16, 1024] : Fin 3 → ℕ) a ≤ S16x32x1024.size a)
    (i2 : ∀ a, (![0, 0, 0] : Fin 3 → ℕ) a + (![16, 16, 1024] : Fin 3 → ℕ) a ≤ S16x32x1024.size a)
    (hW : ∀ (s p : Fin 16) c, W (ix3 s p c) = X (ix2 ⟨s.val * 16 + p.val, by have := s.isLt; have := p.isLt; omega⟩ c))
    (hK : ∀ (s p : Fin 16) c, K (ix3 s p c) = H (ix3 s p c))
    (j : S16x32x1024.Idx) (s : Fin 16) (p : Fin 32) (c : Fin 1024) (h0 : (j 0).val = s.val) (h1 : (j 1).val = p.val) (h2 : (j 2).val = c.val) :
    View.canon (Val := Elt Ideal) (s := S16x32x1024) (e := .f32) [⟨Rect.unit ![0, 16, 0] ![16, 16, 1024] i1, W⟩, ⟨Rect.unit ![0, 0, 0] ![16, 16, 1024] i2, K⟩] j
      = scr H X (32 * s.val + p.val) c := by
  have hp := p.isLt
  by_cases hp16 : p.val < 16
  · rw [View.canon_cons_of_not_mem _ _ (by
      rw [Rect.mem_set_unit]
      intro h
      have := (h 1).1
      change 16 ≤ (j 1).val at this
      omega)]
    have e : j = (Rect.unit (s := S16x32x1024) ![0, 0, 0] ![16, 16, 1024] i2).emb (ix3 s (⟨p.val, hp16⟩ : Fin 16) c) := by
      funext a
      refine Fin.ext ((?_ : _ = _).trans (Rect.idx_unit_val _ _ _ _ a).symm)
      match a with
      | ⟨0, _⟩ => exact h0.trans (Nat.zero_add _).symm
      | ⟨1, _⟩ => exact h1.trans (Nat.zero_add _).symm
      | ⟨2, _⟩ => exact h2.trans (Nat.zero_add _).symm
    rw [e, View.canon_cons_emb]
    exact (hK s _ c).trans (scr_hist H X s ⟨p.val, hp16⟩ c _ rfl).symm
  · have e : j = (Rect.unit (s := S16x32x1024) ![0, 16, 0] ![16, 16, 1024] i1).emb (ix3 s (⟨p.val - 16, by omega⟩ : Fin 16) c) := by
      funext a
      refine Fin.ext ((?_ : _ = _).trans (Rect.idx_unit_val _ _ _ _ a).symm)
      match a with
      | ⟨0, _⟩ => exact h0.trans (Nat.zero_add _).symm
      | ⟨1, _⟩ => exact h1.trans (show p.val = 16 + (p.val - 16) by omega)
      | ⟨2, _⟩ => exact h2.trans (Nat.zero_add _).symm
    rw [e, View.canon_cons_emb]
    exact (hW s _ c).trans (scr_tile H X s ⟨p.val - 16, by omega⟩ c _ (by show 32 * s.val + p.val = 32 * s.val + (16 + (p.val - 16)); omega)).symm

/-- One entry of the output tile, from the input tiles. -/
def tileOut (x5 : Vec Ideal S16x16x1024 .f32) (x0 : Vec Ideal S256x1024 .f32) (x1 : Vec Ideal S256x512 .bf16) (x2 : Vec Ideal S256x512 .bf16) (x3 : Vec Ideal S512x1024 .bf16) (x4 : Vec Ideal S512x1024 .bf16) (x6 : Vec Ideal S1x1024 .f32) (x7 : Vec Ideal S1024x2048 .bf16) (x8 : Vec Ideal S4x256x256 .bf16) (x9 : Vec Ideal S1x1024 .f32) (x10 : Vec Ideal S1024x1024 .bf16) (r : Fin 256) (d : Fin 1024) : EReal :=
  outRow (xk x0 x1 x2 x3 x4 r) (fun d => x6 (ix2 0 d)) (fun k f => x7 (ix2 k f))
    (scr x5 (k0_pay7 (F := Ideal) (k0_pay5 x0 x1 x3 x2 x4 x6) x7)) (pos r) (2048 + r.val % 16)
    (fun q l k => x8 (ix3 q l k)) (fun c => x9 (ix2 0 c)) (fun c d => x10 (ix2 c d)) d

section Outs
variable (c : Dev nD) (i : grid0.Coords) (arg2 : Memref sig .tc .vmem S256x1024 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S16x16x1024 .f32) (harg7 : arg7.IsWhole) (arg8 : Memref sig .tc .vmem S1x1024 .f32) (harg8 : arg8.IsWhole) (arg9 : Memref sig .tc .vmem S1024x2048 .bf16) (harg9 : arg9.IsWhole) (arg10 : Memref sig .tc .vmem S4x256x256 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S256x1024 .f32) (harg13 : arg13.IsWhole) (arg14 : Memref sig .tc .vmem S16x16x1024 .f32) (harg14 : arg14.IsWhole) (arg15 : Memref sig .tc .vmem S16x32x1024 .f32) (harg15 : arg15.IsWhole)
  (x0 : Vec Ideal S256x1024 .f32) (x1 : Vec Ideal S256x512 .bf16) (x2 : Vec Ideal S256x512 .bf16) (x3 : Vec Ideal S512x1024 .bf16) (x4 : Vec Ideal S512x1024 .bf16) (x5 : Vec Ideal S16x16x1024 .f32) (x6 : Vec Ideal S1x1024 .f32) (x7 : Vec Ideal S1024x2048 .bf16) (x8 : Vec Ideal S4x256x256 .bf16) (x9 : Vec Ideal S1x1024 .f32) (x10 : Vec Ideal S1024x1024 .bf16)

theorem outA_11 (hc0 : cond0_0 i) (hc1 : ¬cond0_1 i) (r : Fin 256) (d : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 (ix2 r d)
      = tileOut x5 x0 x1 x2 x3 x4 x6 x7 x8 x9 x10 r d := by
  have hsc := scratch_apply x5 (k0_pay7 (F := Ideal) (k0_pay5 x0 x1 x3 x2 x4 x6) x7)
    (k0_pay9 (F := Ideal) (k0_pay5 x0 x1 x3 x2 x4 x6) x7) (k0_pay2 (F := Ideal) x5)
    inb_S16x32x1024_S16x16x1024_0_16_0 inb_S16x32x1024_S16x16x1024_0_0_0 (fun s r c => pay9_apply x7 s r c _) (fun s p c => pay2_apply x5 s p c)
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  simp only [View.readAt_eq_ld, Memref.IsWhole.read_unread, View.readCov_eq_canon', ld2, ld3, canon2]
  rw [show (BitVec.ofNat 32 (i 1).val) = 0#32 from congrArg (BitVec.ofNat 32) (Nat.lt_one_iff.mp (i 1).isLt)]
  unfold tileOut
  generalize View.canon (Val := Elt Ideal) (s := S16x32x1024) (e := .f32) _ = K at hsc ⊢
  have hE := scr_row x5 (k0_pay7 (F := Ideal) (k0_pay5 x0 x1 x3 x2 x4 x6) x7)
  refine body_apply (scr x5 (k0_pay7 (F := Ideal) (k0_pay5 x0 x1 x3 x2 x4 x6) x7)) x0 x1 x2 x3 x4 x6 x7
    _ _ _ _ _ _ _ _ _ _ _ _ x10 (fun q l k => x8 (ix3 q l k)) (fun c => x9 (ix2 0 c))
    (fun s p l => ?_) (fun s p l => ?_) (fun s p l => ?_) (fun s p l => ?_) hE (fun l k => ?_) (fun l k => ?_) (fun l k => ?_) (fun l k => ?_)
    (fun k => ?_) (fun k => ?_) (fun k => ?_) (fun k => ?_) r d
  iterate 4 exact hsc _ s p _ ((Rect.idx_unit_val _ _ _ _ _).trans (Nat.zero_add _)) ((Rect.idx_unit_val _ _ _ _ _).trans (Nat.zero_add _)) ((Rect.idx_unit_val _ _ _ _ _).trans (by simp [chan]))
  iterate 4 exact View.ld_unit_apply_of _ _ _ _ _ _ (fun a => match a with | ⟨0, _⟩ => rfl | ⟨1, _⟩ => (Nat.zero_add _).symm | ⟨2, _⟩ => (Nat.zero_add _).symm)
  iterate 4 exact View.ld_unit_apply_of _ _ _ _ _ _ (fun a => match a with | ⟨0, _⟩ => rfl | ⟨1, _⟩ => by simp [chan])

theorem outA_12 (hc0 : cond0_0 i) (hc1 : ¬cond0_1 i) (s p : Fin 16) (d : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 (ix3 s p d)
      = scr x5 (k0_pay7 (F := Ideal) (k0_pay5 x0 x1 x3 x2 x4 x6) x7) (32 * s.val + (16 + p.val)) d := by
  have hsc := scratch_apply x5 (k0_pay7 (F := Ideal) (k0_pay5 x0 x1 x3 x2 x4 x6) x7)
    (k0_pay9 (F := Ideal) (k0_pay5 x0 x1 x3 x2 x4 x6) x7) (k0_pay2 (F := Ideal) x5)
    inb_S16x32x1024_S16x16x1024_0_16_0 inb_S16x32x1024_S16x16x1024_0_0_0 (fun s r c => pay9_apply x7 s r c _) (fun s p c => pay2_apply x5 s p c)
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  simp only [View.readAt_eq_ld, Memref.IsWhole.read_unread, View.readCov_eq_canon', ld2, ld3, canon3]
  exact hsc _ s ⟨16 + p.val, by have := p.isLt; omega⟩ d ((Rect.idx_unit_val _ _ _ _ _).trans (Nat.zero_add _)) (Rect.idx_unit_val _ _ _ _ _) ((Rect.idx_unit_val _ _ _ _ _).trans (Nat.zero_add _))

end Outs

end Cert.Kernel4Ideal.Pool
-- ==== Proof.SamplePoolKernel.lean ====
/-
  The pooling kernel's two result arrays on the sample, at an index, over its argument arrays.
-/
module

public import proofs.«01_k».proof.Proof.SamplePoolMath
public import proofs.«01_k».proof.Proof.SamplePoolBody
public import proofs.«01_k».proof.Proof.Gen.Kernel4Ideal.Value
public import Idealize.ShloMosaic.Lib.Pipeline.ValueKit.Point
public import Idealize.ShloMosaic.Lib.Claim

@[expose] public section

set_option maxRecDepth 16384

noncomputable section

namespace Cert.Kernel4Ideal.Pool

open Cert.Kernel4Ideal Cert.Kernel4Ideal.Gen Cert.PoolMath
open Idealize.ShloMosaic Idealize.ShloMosaic.TcCoe Idealize.SL.Sem

/-- Every input window's block number at every grid point. -/
theorem idx : ∀ t : Fin cfg0.N,
    win0_0.index t = ![t.val, 0] ∧ win0_1.index t = ![t.val, 0] ∧ win0_2.index t = ![t.val, 0] ∧ win0_3.index t = ![0, 0] ∧
    win0_4.index t = ![0, 0] ∧ win0_5.index t = ![t.val, 0, 0] ∧ win0_6.index t = ![0, 0] ∧ win0_7.index t = ![0, 0] ∧
    win0_8.index t = ![0, 0, 0] ∧ win0_9.index t = ![0, 0] ∧ win0_10.index t = ![0, 0] := by decide +kernel

theorem odx : ∀ t : Fin cfg0.N, win0_11.index t = ![t.val, 0] ∧ win0_12.index t = ![t.val, 0, 0] := by decide +kernel

variable (m : (ℓ : Loc nD τ sig) → Buf (Elt Ideal) ℓ) (c : Dev nD)

abbrev A0 : S32x16x1024.Idx → EReal := m ((c : Thread nD τ).loc main_arg0)
abbrev A1 : S512x512.Idx → EReal := m ((c : Thread nD τ).loc main_arg1)
abbrev A2 : S512x512.Idx → EReal := m ((c : Thread nD τ).loc main_arg2)
abbrev A3 : S1x1024x1024.Idx → EReal := m ((c : Thread nD τ).loc main_arg3)
abbrev A4 : S1x1024.Idx → EReal := m ((c : Thread nD τ).loc main_arg4)
abbrev A5 : S1x1024x2048.Idx → EReal := m ((c : Thread nD τ).loc main_arg5)
abbrev A6 : S1x4x256x256.Idx → EReal := m ((c : Thread nD τ).loc main_arg6)
abbrev A7 : S1x1024.Idx → EReal := m ((c : Thread nD τ).loc main_arg7)
abbrev A8 : S1x1024x1024.Idx → EReal := m ((c : Thread nD τ).loc main_arg8)
abbrev A9 : S1x32x15x1024.Idx → EReal := m ((c : Thread nD τ).loc main_arg9)

/-- The tile's projected rows at a grid point. -/
abbrev uTile (t : Fin cfg0.N) : FVec Ideal S256x1024 .f32 :=
  k0_pay7 (F := Ideal) (k0_pay5 (iblk m c 0 t) (iblk m c 1 t) (iblk m c 3 t) (iblk m c 2 t) (iblk m c 4 t) (iblk m c 6 t)) (iblk m c 7 t)

/-- The input rows as the region finds them. -/
theorem V0 : (V m c main_v0 : S512x1024.Idx → EReal) = shapeCast S512x1024 (m ((c : Thread nD τ).loc main_arg0)) shapeCasts_S32x16x1024_S512x1024 := by
  unfold V
  simp only [List.flatten_cons, List.flatten_nil, List.cons_append, List.nil_append, List.append_nil]
  entry_read
  rfl

theorem cut0 (A : S32x16x1024.Idx → EReal) (R : Fin 512) (d : Fin 1024) : shapeCast S512x1024 A shapeCasts_S32x16x1024_S512x1024 (ix2 R d) = A (ix3 ⟨R.val / 16, by have := R.isLt; omega⟩ ⟨R.val % 16, by have := R.isLt; omega⟩ d) := by
  pointwise []

/-- The upper half of the first weight. -/
theorem V3 : (V m c main_v3 : S512x1024.Idx → EReal) = truncf (F := Ideal) .bf16 (extractStridedSlice S512x1024 ![0, 0] (shapeCast S1024x1024 (m ((c : Thread nD τ).loc main_arg3)) shapeCasts_S1x1024x1024_S1024x1024) slices_S1024x1024_S512x1024_0_0) bitsLt_bf16_f32 := by
  unfold V
  simp only [List.flatten_cons, List.flatten_nil, List.cons_append, List.nil_append, List.append_nil]
  entry_read
  rfl

theorem cut3 (A : S1x1024x1024.Idx → EReal) (k : Fin 512) (d : Fin 1024) : truncf (F := Ideal) .bf16 (extractStridedSlice S512x1024 ![0, 0] (shapeCast S1024x1024 A shapeCasts_S1x1024x1024_S1024x1024) slices_S1024x1024_S512x1024_0_0) bitsLt_bf16_f32 (ix2 k d) = A (ix3 0 ⟨k.val, by have := k.isLt; omega⟩ d) := by
  pointwise []

/-- The lower half of the first weight. -/
theorem V6 : (V m c main_v6 : S512x1024.Idx → EReal) = truncf (F := Ideal) .bf16 (extractStridedSlice S512x1024 ![512, 0] (shapeCast S1024x1024 (m ((c : Thread nD τ).loc main_arg3)) shapeCasts_S1x1024x1024_S1024x1024) slices_S1024x1024_S512x1024_512_0) bitsLt_bf16_f32 := by
  unfold V
  simp only [List.flatten_cons, List.flatten_nil, List.cons_append, List.nil_append, List.append_nil]
  entry_read
  rfl

theorem cut6 (A : S1x1024x1024.Idx → EReal) (k : Fin 512) (d : Fin 1024) : truncf (F := Ideal) .bf16 (extractStridedSlice S512x1024 ![512, 0] (shapeCast S1024x1024 A shapeCasts_S1x1024x1024_S1024x1024) slices_S1024x1024_S512x1024_512_0) bitsLt_bf16_f32 (ix2 k d) = A (ix3 0 ⟨512 + k.val, by have := k.isLt; omega⟩ d) := by
  pointwise []

/-- The norm weight. -/
theorem V8 : (V m c main_v8 : S1x1024.Idx → EReal) = shapeCast S1x1024 (shapeCast S1024 (m ((c : Thread nD τ).loc main_arg4)) shapeCasts_S1x1024_S1024) shapeCasts_S1024_S1x1024 := by
  unfold V
  simp only [List.flatten_cons, List.flatten_nil, List.cons_append, List.nil_append, List.append_nil]
  entry_read
  rfl

theorem cut8 (A : S1x1024.Idx → EReal) (d : Fin 1024) : shapeCast S1x1024 (shapeCast S1024 A shapeCasts_S1x1024_S1024) shapeCasts_S1024_S1x1024 (ix2 0 d) = A (ix2 0 d) := by
  pointwise []

/-- The scale. -/
theorem V14 : (V m c main_v14 : S1x1024.Idx → EReal) = shapeCast S1x1024 (shapeCast S1024 (m ((c : Thread nD τ).loc main_arg7)) shapeCasts_S1x1024_S1024) shapeCasts_S1024_S1x1024 := by
  unfold V
  simp only [List.flatten_cons, List.flatten_nil, List.cons_append, List.nil_append, List.append_nil]
  entry_read
  rfl

theorem cut14 (A : S1x1024.Idx → EReal) (d : Fin 1024) : shapeCast S1x1024 (shapeCast S1024 A shapeCasts_S1x1024_S1024) shapeCasts_S1024_S1x1024 (ix2 0 d) = A (ix2 0 d) := by
  pointwise []

/-- The input weight. -/
theorem V10 : (V m c main_v10 : S1024x2048.Idx → EReal) = truncf (F := Ideal) .bf16 (shapeCast S1024x2048 (m ((c : Thread nD τ).loc main_arg5)) shapeCasts_S1x1024x2048_S1024x2048) bitsLt_bf16_f32 := by
  unfold V
  simp only [List.flatten_cons, List.flatten_nil, List.cons_append, List.nil_append, List.append_nil]
  entry_read
  rfl

theorem cut10 (A : S1x1024x2048.Idx → EReal) (k : Fin 1024) (f : Fin 2048) : truncf (F := Ideal) .bf16 (shapeCast S1024x2048 A shapeCasts_S1x1024x2048_S1024x2048) bitsLt_bf16_f32 (ix2 k f) = A (ix3 0 k f) := by
  pointwise []

/-- The grouped weight. -/
theorem V12 : (V m c main_v12 : S4x256x256.Idx → EReal) = truncf (F := Ideal) .bf16 (shapeCast S4x256x256 (m ((c : Thread nD τ).loc main_arg6)) shapeCasts_S1x4x256x256_S4x256x256) bitsLt_bf16_f32 := by
  unfold V
  simp only [List.flatten_cons, List.flatten_nil, List.cons_append, List.nil_append, List.append_nil]
  entry_read
  rfl

theorem cut12 (A : S1x4x256x256.Idx → EReal) (q : Fin 4) (l k : Fin 256) : truncf (F := Ideal) .bf16 (shapeCast S4x256x256 A shapeCasts_S1x4x256x256_S4x256x256) bitsLt_bf16_f32 (ix3 q l k) = A (ix4 0 q l k) := by
  pointwise []

/-- The output weight. -/
theorem V16 : (V m c main_v16 : S1024x1024.Idx → EReal) = truncf (F := Ideal) .bf16 (shapeCast S1024x1024 (m ((c : Thread nD τ).loc main_arg8)) shapeCasts_S1x1024x1024_S1024x1024) bitsLt_bf16_f32 := by
  unfold V
  simp only [List.flatten_cons, List.flatten_nil, List.cons_append, List.nil_append, List.append_nil]
  entry_read
  rfl

theorem cut16 (A : S1x1024x1024.Idx → EReal) (k d : Fin 1024) : truncf (F := Ideal) .bf16 (shapeCast S1024x1024 A shapeCasts_S1x1024x1024_S1024x1024) bitsLt_bf16_f32 (ix2 k d) = A (ix3 0 k d) := by
  pointwise []

theorem blk0 (t : Fin cfg0.N) (b : Fin 32) (p : Fin 16) (r : Fin 256) (d : Fin 1024) (h : 16 * b.val + p.val = 256 * t.val + r.val) :
    iblk m c 0 t (ix2 r d) = m ((c : Thread nD τ).loc main_arg0) (ix3 b p d) := by
  have hp := p.isLt
  refine Eq.trans ?_ ((congrFun (V0 m c) (ix2 (flatS b p) d)).trans ((cut0 _ (flatS b p) d).trans (congrArg (A0 m c) (funext fun a => match a with
    | ⟨0, _⟩ => Fin.ext (by show (16 * b.val + p.val) / 16 = b.val; omega)
    | ⟨1, _⟩ => Fin.ext (by show (16 * b.val + p.val) % 16 = p.val; omega)
    | ⟨2, _⟩ => rfl))))
  have hR : (flatS b p).val = 256 * t.val + r.val := h
  generalize flatS b p = R at hR
  blk_ext [iblk, idx t]

theorem blk1 (t : Fin cfg0.N) (R : Fin 512) (r : Fin 256) (k : Fin 512) (h : R.val = 256 * t.val + r.val) :
    iblk m c 1 t (ix2 r k) = m ((c : Thread nD τ).loc main_arg1) (ix2 R k) := by
  blk_ext! [iblk, V, List.flatten_cons, List.flatten_nil, List.cons_append, List.nil_append, List.append_nil, idx t]

theorem blk2 (t : Fin cfg0.N) (R : Fin 512) (r : Fin 256) (k : Fin 512) (h : R.val = 256 * t.val + r.val) :
    iblk m c 2 t (ix2 r k) = m ((c : Thread nD τ).loc main_arg2) (ix2 R k) := by
  blk_ext! [iblk, V, List.flatten_cons, List.flatten_nil, List.cons_append, List.nil_append, List.append_nil, idx t]

theorem blk3 (t : Fin cfg0.N) (k : Fin 512) (d : Fin 1024) :
    iblk m c 3 t (ix2 k d) = m ((c : Thread nD τ).loc main_arg3) (ix3 0 ⟨k.val, by have := k.isLt; omega⟩ d) := by
  refine Eq.trans ?_ ((congrFun (V3 m c) (ix2 k d)).trans (cut3 _ k d))
  blk_ext [iblk, idx t]

theorem blk4 (t : Fin cfg0.N) (k : Fin 512) (d : Fin 1024) :
    iblk m c 4 t (ix2 k d) = m ((c : Thread nD τ).loc main_arg3) (ix3 0 ⟨512 + k.val, by have := k.isLt; omega⟩ d) := by
  refine Eq.trans ?_ ((congrFun (V6 m c) (ix2 k d)).trans (cut6 _ k d))
  blk_ext [iblk, idx t]

/-- The state with one zero row in front. -/
theorem V18 : (V m c main_v18 : S32x16x1024.Idx → EReal)
    = pad S32x16x1024 ![0, 1, 0] ![0, 0, 0] ![0, 0, 0] (shapeCast S32x15x1024 (m ((c : Thread nD τ).loc main_arg9)) shapeCasts_S1x32x15x1024_S32x15x1024)
      (sitofp (F := Ideal) .f32 (constantI S_ 32 0#32)) pads_S32x15x1024_S32x16x1024_000_100_000 h_S_ := by
  unfold V
  simp only [List.flatten_cons, List.flatten_nil, List.cons_append, List.nil_append, List.append_nil]
  entry_read
  rfl

theorem cast18 (A : S1x32x15x1024.Idx → EReal) (b : Fin 32) (p : Fin 15) (d : Fin 1024) :
    shapeCast S32x15x1024 A shapeCasts_S1x32x15x1024_S32x15x1024 (ix3 b p d) = A (ix4 0 b p d) := by
  pointwise []

theorem cut18 (A : S1x32x15x1024.Idx → EReal) (b : Fin 32) (p : Fin 16) (d : Fin 1024) :
    pad S32x16x1024 ![0, 1, 0] ![0, 0, 0] ![0, 0, 0] (shapeCast S32x15x1024 A shapeCasts_S1x32x15x1024_S32x15x1024)
      (sitofp (F := Ideal) .f32 (constantI S_ 32 0#32)) pads_S32x15x1024_S32x16x1024_000_100_000 h_S_ (ix3 b p d)
      = if h : p.val = 0 then (0 : EReal) else A (ix4 0 b ⟨p.val - 1, by have := p.isLt; omega⟩ d) := by
  by_cases h : p.val = 0
  · rw [dif_pos h, pad_apply_of_not_inside _ _ _ _ _ _ _ _ (1 : Fin 3) (by
      intro hh
      have := hh.1
      change 1 ≤ p.val at this
      omega)]
    show FloatOps.sitofp (F := Ideal) .f32 0#32 = 0
    simp [FloatOps.sitofp]
  · have hp := p.isLt
    rw [dif_neg h]
    refine Eq.trans ?_ (cast18 A b ⟨p.val - 1, by omega⟩ d)
    refine pad_apply_of_inside _ _ _ _ _ _ _ _ _ (fun a => ?_)
    match a with
    | ⟨0, _⟩ => show b.val = 0 + b.val * 1; omega
    | ⟨1, _⟩ => show p.val = 1 + (p.val - 1) * 1; omega
    | ⟨2, _⟩ => show d.val = 0 + d.val * 1; omega

theorem blk5 (t : Fin cfg0.N) (b : Fin 32) (s p : Fin 16) (d : Fin 1024) (h : b.val = 16 * t.val + s.val) :
    iblk m c 5 t (ix3 s p d) = if h : p.val = 0 then (0 : EReal) else A9 m c (ix4 0 b ⟨p.val - 1, by have := p.isLt; omega⟩ d) := by
  refine Eq.trans ?_ ((congrFun (V18 m c) (ix3 b p d)).trans (cut18 _ b p d))
  blk_ext [iblk, idx t]

theorem blk6 (t : Fin cfg0.N) (d : Fin 1024) :
    iblk m c 6 t (ix2 0 d) = m ((c : Thread nD τ).loc main_arg4) (ix2 0 d) := by
  refine Eq.trans ?_ ((congrFun (V8 m c) (ix2 0 d)).trans (cut8 _ d))
  blk_ext [iblk, idx t]

theorem blk7 (t : Fin cfg0.N) (k : Fin 1024) (f : Fin 2048) :
    iblk m c 7 t (ix2 k f) = m ((c : Thread nD τ).loc main_arg5) (ix3 0 k f) := by
  refine Eq.trans ?_ ((congrFun (V10 m c) (ix2 k f)).trans (cut10 _ k f))
  blk_ext [iblk, idx t]

theorem blk8 (t : Fin cfg0.N) (q : Fin 4) (l k : Fin 256) :
    iblk m c 8 t (ix3 q l k) = m ((c : Thread nD τ).loc main_arg6) (ix4 0 q l k) := by
  refine Eq.trans ?_ ((congrFun (V12 m c) (ix3 q l k)).trans (cut12 _ q l k))
  blk_ext [iblk, idx t]

theorem blk9 (t : Fin cfg0.N) (d : Fin 1024) :
    iblk m c 9 t (ix2 0 d) = m ((c : Thread nD τ).loc main_arg7) (ix2 0 d) := by
  refine Eq.trans ?_ ((congrFun (V14 m c) (ix2 0 d)).trans (cut14 _ d))
  blk_ext [iblk, idx t]

theorem blk10 (t : Fin cfg0.N) (k d : Fin 1024) :
    iblk m c 10 t (ix2 k d) = m ((c : Thread nD τ).loc main_arg8) (ix3 0 k d) := by
  refine Eq.trans ?_ ((congrFun (V16 m c) (ix2 k d)).trans (cut16 _ k d))
  blk_ext [iblk, idx t]

theorem xk_eq (t : Fin cfg0.N) (b : Fin 32) (p : Fin 16) (r : Fin 256) (h : 16 * b.val + p.val = 256 * t.val + r.val) :
    xk (iblk m c 0 t) (iblk m c 1 t) (iblk m c 2 t) (iblk m c 3 t) (iblk m c 4 t) r = xAtS (A0 m c) (A1 m c) (A2 m c) (A3 m c) b p := by
  unfold xk xAtS
  rw [show (fun d => iblk m c 0 t (ix2 r d)) = fun d => A0 m c (ix3 b p d) from funext fun d => blk0 m c t b p r d h,
    show (fun k => iblk m c 1 t (ix2 r k)) = fun k => A1 m c (ix2 (flatS b p) k) from funext fun k => blk1 m c t (flatS b p) r k h,
    show (fun k => iblk m c 2 t (ix2 r k)) = fun k => A2 m c (ix2 (flatS b p) k) from funext fun k => blk2 m c t (flatS b p) r k h,
    show (fun k d => iblk m c 3 t (ix2 k d)) = fun k d => A3 m c (ix3 0 _ d) from funext fun k => funext fun d => blk3 m c t k d,
    show (fun k d => iblk m c 4 t (ix2 k d)) = fun k d => A3 m c (ix3 0 _ d) from funext fun k => funext fun d => blk4 m c t k d]

theorem g_eq (t : Fin cfg0.N) : (fun d => iblk m c 6 t (ix2 0 d)) = fun d => A4 m c (ix2 0 d) := funext fun d => blk6 m c t d
theorem w_eq (t : Fin cfg0.N) : (fun k f => iblk m c 7 t (ix2 k f)) = fun k f => A5 m c (ix3 0 k f) :=
  funext fun k => funext fun f => blk7 m c t k f

theorem uTile_apply (t : Fin cfg0.N) (b : Fin 32) (p : Fin 16) (r : Fin 256) (e : Fin 1024) (h : 16 * b.val + p.val = 256 * t.val + r.val) :
    uTile m c t (ix2 r e) = extS (A0 m c) (A1 m c) (A2 m c) (A3 m c) (A4 m c) (A5 m c) (A9 m c) b (16 + p.val) e := by
  rw [extS_row, ← xk_eq m c t b p r h, ← g_eq m c t, ← w_eq m c t]
  refine (pay7_apply _ _ _ _).trans ?_
  simp only [pay5_apply]
  rfl

/-- The scratch at a grid point is the extended sequences. -/
theorem scr_eq (t : Fin cfg0.N) (b : Fin 32) (s : Fin 16) (h : b.val = 16 * t.val + s.val) (p : ℕ) (hp : p < 32) :
    scr (iblk m c 5 t) (uTile m c t) (32 * s.val + p) = extS (A0 m c) (A1 m c) (A2 m c) (A3 m c) (A4 m c) (A5 m c) (A9 m c) b p := by
  have hs := s.isLt
  funext e
  by_cases h16 : p < 16
  · rw [scr_hist _ _ s ⟨p, h16⟩ e _ rfl, blk5 m c t b s ⟨p, h16⟩ e h]
    unfold extS
    by_cases h0 : p = 0
    · rw [if_pos h0]
      exact dif_pos h0
    · have h15 : p - 1 < 15 := by omega
      rw [if_neg h0, dif_pos h15]
      exact dif_neg h0
  · rw [scr_tile _ _ s ⟨p - 16, by omega⟩ e _ (by show 32 * s.val + p = 32 * s.val + (16 + (p - 16)); omega),
      uTile_apply m c t b ⟨p - 16, by omega⟩ _ e (by show 16 * b.val + (p - 16) = 256 * t.val + (s.val * 16 + (p - 16)); omega)]
    exact congrArg (fun q => extS (A0 m c) (A1 m c) (A2 m c) (A3 m c) (A4 m c) (A5 m c) (A9 m c) b q e) (by show 16 + (p - 16) = p; omega)

/-- One entry of the tile the kernel writes at a grid point. -/
theorem tile_eq (t : Fin cfg0.N) (b : Fin 32) (p : Fin 16) (r : Fin 256) (d : Fin 1024) (h : 16 * b.val + p.val = 256 * t.val + r.val) :
    tileOut (iblk m c 5 t) (iblk m c 0 t) (iblk m c 1 t) (iblk m c 2 t) (iblk m c 3 t) (iblk m c 4 t) (iblk m c 6 t) (iblk m c 7 t)
      (iblk m c 8 t) (iblk m c 9 t) (iblk m c 10 t) r d
      = yAtS (A0 m c) (A1 m c) (A2 m c) (A3 m c) (A4 m c) (A5 m c) (A6 m c) (A7 m c) (A8 m c) (A9 m c) b p d := by
  have hr := r.isLt
  have hp := p.isLt
  unfold tileOut yAtS
  rw [xk_eq m c t b p r h, g_eq m c t, w_eq m c t, show r.val % 16 = p.val by omega,
    show (fun q l k => iblk m c 8 t (ix3 q l k)) = fun q l k => A6 m c (ix4 0 q l k) from funext fun q => funext fun l => funext fun k => blk8 m c t q l k,
    show (fun d => iblk m c 9 t (ix2 0 d)) = fun d => A7 m c (ix2 0 d) from funext fun d => blk9 m c t d,
    show (fun k d => iblk m c 10 t (ix2 k d)) = fun k d => A8 m c (ix3 0 k d) from funext fun k => funext fun d => blk10 m c t k d]
  refine outRow_congr _ _ _ _ _ _ _ _ _ _ _ _ fun j hj => ?_
  refine Eq.trans ?_ ((scr_eq m c t b ⟨r.val / 16, by omega⟩ (by show b.val = 16 * t.val + r.val / 16; omega) (16 + p.val - j) (by omega)).trans ?_)
  · exact congrArg _ (by unfold pos; show _ = 32 * (r.val / 16) + (16 + p.val - j); omega)
  · exact congrArg _ (by omega)

theorem oblk11 (t : Fin cfg0.N) (X : S512x1024.Idx → EReal) (R : Fin 512) (r : Fin 256) (d : Fin 1024) (h : R.val = 256 * t.val + r.val) :
    ((cfg0.win 11).blk t).view.read (Elt Ideal) X (ix2 r d) = X (ix2 R d) := by
  blk_ext! [odx t]

theorem oblk12 (t : Fin cfg0.N) (X : S32x16x1024.Idx → EReal) (b : Fin 32) (s p : Fin 16) (d : Fin 1024) (h : b.val = 16 * t.val + s.val) :
    ((cfg0.win 12).blk t).view.read (Elt Ideal) X (ix3 s p d) = X (ix3 b p d) := by
  blk_ext! [odx t]

/-- The kernel's first result. -/
theorem result11_apply (b : Fin 32) (p : Fin 16) (d : Fin 1024) : (dats m 0 c).arrAt 11 cfg0.N (ix2 (flatS b p) d)
    = yAtS (A0 m c) (A1 m c) (A2 m c) (A3 m c) (A4 m c) (A5 m c) (A6 m c) (A7 m c) (A8 m c) (A9 m c) b p d := by
  have hb := b.isLt; have hp := p.isLt
  have hN : cfg0.N = 2 := N_0
  let t : Fin cfg0.N := ⟨b.val / 16, by omega⟩
  let r : Fin 256 := ⟨16 * (b.val % 16) + p.val, by omega⟩
  have h : 16 * b.val + p.val = 256 * t.val + r.val := by show _ = 256 * (b.val / 16) + (16 * (b.val % 16) + p.val); omega
  refine (oblk11 t ((dats m 0 c).arrAt 11 cfg0.N) (flatS b p) r d h).symm.trans ?_
  rw [Value.blocks11 m c t (flush0_11 t), Value.flushed11_A]
  refine (outA_11 ..).trans ?_
  exact tile_eq m c t b p r d h

/-- The kernel's second result. -/
theorem result12_apply (b : Fin 32) (p : Fin 16) (d : Fin 1024) : (dats m 0 c).arrAt 12 cfg0.N (ix3 b p d)
    = extS (A0 m c) (A1 m c) (A2 m c) (A3 m c) (A4 m c) (A5 m c) (A9 m c) b (16 + p.val) d := by
  have hb := b.isLt; have hp := p.isLt
  have hN : cfg0.N = 2 := N_0
  let t : Fin cfg0.N := ⟨b.val / 16, by omega⟩
  let s : Fin 16 := ⟨b.val % 16, by omega⟩
  have h : b.val = 16 * t.val + s.val := by show _ = 16 * (b.val / 16) + b.val % 16; omega
  refine (oblk12 t ((dats m 0 c).arrAt 12 cfg0.N) b s p d h).symm.trans ?_
  rw [Value.blocks12 m c t (flush0_12 t), Value.flushed12_A]
  refine (outA_12 ..).trans ?_
  exact congrFun (scr_eq m c t b s h (16 + p.val) (by omega)) d

end Cert.Kernel4Ideal.Pool
-- ==== Proof.SamplePoolRef.lean ====
/-
  The host reference's two results on the sample, at an index, over its argument arrays: the same `Cert.PoolMath` entries the kernel's
  results are.
-/
module

public import proofs.«01_k».proof.Proof.SamplePoolMath
public import proofs.«01_k».proof.Proof.PoolRef
public import proofs.«01_k».proof.Proof.Gen.Reference4Ideal.Read

@[expose] public section

set_option maxRecDepth 16384

noncomputable section

namespace Cert.Reference4Ideal.Pool

open Cert.Reference4Ideal Cert.Reference4Ideal.Read Cert.PoolMath
open Cert.ReferenceIdeal.Pool (sum_chan ladder)
open Idealize.ShloMosaic Idealize.ShloMosaic.TcCoe Idealize.SL.Sem

section Stages
variable (a0 : (⟨S32x16x1024, .f32⟩ : BufTy).Contents (Elt Ideal)) (a1 a2 : (⟨S512x512, .bf16⟩ : BufTy).Contents (Elt Ideal))
  (a3 : (⟨S1x1024x1024, .f32⟩ : BufTy).Contents (Elt Ideal)) (a4 : (⟨S1x1024, .f32⟩ : BufTy).Contents (Elt Ideal))
  (a5 : (⟨S1x1024x2048, .f32⟩ : BufTy).Contents (Elt Ideal)) (a6 : (⟨S1x4x256x256, .f32⟩ : BufTy).Contents (Elt Ideal))
  (a7 : (⟨S1x1024, .f32⟩ : BufTy).Contents (Elt Ideal)) (a8 : (⟨S1x1024x1024, .f32⟩ : BufTy).Contents (Elt Ideal))
  (a9 : (⟨S1x32x15x1024, .f32⟩ : BufTy).Contents (Elt Ideal))

theorem v7_apply (b : Fin 32) (t : Fin 16) (d : Fin 1024) : val_main_v7 (F := Ideal) a0 a1 a2 a3 (ix3 b t d) = xAtS a0 a1 a2 a3 b t d := by
  pointwise [val_main_v7, val_main_v6, val_main_v5, val_main_v4, val_main_v3, val_main_v2, val_main_v1, val_main_v0, sumSplitAll]
  have e : (⟨b.val * 16 + t.val, by have := b.isLt; have := t.isLt; omega⟩ : Fin 512) = flatS b t := Fin.ext (by show b.val * 16 + t.val = 16 * b.val + t.val; omega)
  unfold xAtS xRow
  rw [← e, add_assoc]

theorem v22_apply (b : Fin 32) (t : Fin 16) (d : Fin 1024) : val_main_v22 (F := Ideal) a0 a1 a2 a3 a4 (ix3 b t d)
    = nRow (xAtS a0 a1 a2 a3 b t) (fun d => a4 (ix2 0 d)) d := by
  have e := v7_apply a0 a1 a2 a3
  unfold val_main_v22 val_main_v19 val_main_v18 val_main_v17 val_main_v16 val_main_v14 val_main_v12 val_main_v11 val_main_v10
  generalize val_main_v7 (F := Ideal) a0 a1 a2 a3 = X at e ⊢
  pointwise [val_main_v21, val_main_v20, val_main_v9, val_main_v15, val_main_v13, val_main_cst, val_main_cst_0, val_main_cst_1]
  simp only [e]
  rfl

theorem v24_apply (b : Fin 32) (t : Fin 16) (f : Fin 2048) : val_main_v24 (F := Ideal) a0 a1 a2 a3 a4 a5 (ix3 b t f)
    = zRow (xAtS a0 a1 a2 a3 b t) (fun d => a4 (ix2 0 d)) (fun k f => a5 (ix3 0 k f)) f := by
  have e := v22_apply a0 a1 a2 a3 a4
  unfold val_main_v24
  generalize val_main_v22 (F := Ideal) a0 a1 a2 a3 a4 = X at e ⊢
  pointwise [val_main_v23]
  simp only [e]
  rfl

/-- The input with its history in front: the extended sequence, one row further on. -/
theorem v27_apply (b : Fin 32) (p : Fin 31) (d : Fin 1024) : val_main_v27 (F := Ideal) a0 a1 a2 a3 a4 a5 a9 (ix3 b p d)
    = extS a0 a1 a2 a3 a4 a5 a9 b (p.val + 1) d := by
  have e := v24_apply a0 a1 a2 a3 a4 a5
  have hp := p.isLt
  unfold val_main_v27 val_main_v25
  generalize val_main_v24 (F := Ideal) a0 a1 a2 a3 a4 a5 = X at e ⊢
  pointwise [val_main_v8]
  by_cases h : p.val < 15
  · exact (dif_pos h).trans (extS_state a0 a1 a2 a3 a4 a5 a9 b ⟨p.val, h⟩ d).symm
  · have ht : p.val - 15 < 16 := by omega
    refine (dif_neg h).trans (((e b ⟨p.val - 15, ht⟩ _).trans ?_).trans (congrArg (fun p => extS a0 a1 a2 a3 a4 a5 a9 b p d) (show 16 + (p.val - 15) = p.val + 1 by omega)))
    exact (extS_row a0 a1 a2 a3 a4 a5 a9 b ⟨p.val - 15, ht⟩ d).symm

/-- The mask of the history is one everywhere: the sample starts at position 2048. -/
theorem v36_apply (b : Fin 32) (p : Fin 31) (d : Fin 1024) : val_main_v36 (F := Ideal) a0 a1 a2 a3 a4 a5 a9 (ix3 b p d)
    = extS a0 a1 a2 a3 a4 a5 a9 b (p.val + 1) d := by
  have e := v27_apply a0 a1 a2 a3 a4 a5 a9
  have h : ∀ p : Fin 31, IntOp.cmpi CmpIPredicate.sge (IntOp.addi (2033#32) (BitVec.ofNat 32 p.val)) 0#32 = 1#1 := by
    decide +kernel
  unfold val_main_v36
  generalize val_main_v27 (F := Ideal) a0 a1 a2 a3 a4 a5 a9 = X at e ⊢
  pointwise [val_main_v35, val_main_v34, val_main_v33, val_main_v32, val_main_v31, val_main_v30, val_main_v29, val_main_v28, val_main_c, val_main_c_2]
  rw [e]
  rw [h p, show (FloatOps.uitofp (F := Ideal) FTy.f32 (1#1) : EReal) = 1 by
    simp [FloatOps.uitofp], mul_one]

/-- The token number the reference counts with, capped at a window. -/
theorem count_word : ∀ (t : Fin 16) (q : Fin 4),
    IntOp.minsi (IntOp.addi (IntOp.addi (2033#32) (BitVec.ofNat 32 (15 + t.val))) 1#32) (BitVec.ofNat 32 (win q.val))
      = BitVec.ofNat 32 (min (2048 + t.val + 1) (win q.val)) := by
  decide +kernel

section Means
variable (b : Fin 32) (t : Fin 16) (l : Fin 256)

theorem chan0 : (⟨l.val, by have := l.isLt; omega⟩ : Fin 1024) = chan 0 l := Fin.ext (by simp [chan])

theorem v48_apply : val_main_v48 (F := Ideal) a0 a1 a2 a3 a4 a5 a9 (ix3 b t l)
    = Ideal.div (wsum (win 0) (fun p => extS a0 a1 a2 a3 a4 a5 a9 b p (chan 0 l)) (t.val + 16)) (cnt (win 0) (2048 + t.val)) := by
  have e := v36_apply a0 a1 a2 a3 a4 a5 a9
  have hc := count_word t 0
  unfold val_main_v48 val_main_v39 val_main_v38 val_main_v37
  generalize val_main_v36 (F := Ideal) a0 a1 a2 a3 a4 a5 a9 = X at e ⊢
  pointwise [val_main_v40, val_main_c_3, val_main_v41, val_main_v42, val_main_c_4, val_main_v43, val_main_v44, val_main_v45, val_main_v46, val_main_v47, val_main_v30, val_main_v29, val_main_v28, val_main_c]
  refine congrArg₂ Ideal.div ?_ (congrArg (FloatOps.sitofp (F := Ideal) .f32) hc)
  simp only [e, chan0]
  show _ = ∑ j ∈ Finset.range 2, extS a0 a1 a2 a3 a4 a5 a9 b (t.val + 16 - j) (chan 0 l)
  simp only [Finset.sum_range_succ, Finset.sum_range_zero, zero_add]
  repeat' refine congrArg₂ (HAdd.hAdd (α := EReal) (β := EReal)) ?_ ?_
  all_goals exact congrArg (fun p => extS a0 a1 a2 a3 a4 a5 a9 b p (chan 0 l)) (by omega)

theorem v64_apply : val_main_v64 (F := Ideal) a0 a1 a2 a3 a4 a5 a9 (ix3 b t l)
    = Ideal.div (wsum (win 1) (fun p => extS a0 a1 a2 a3 a4 a5 a9 b p (chan 1 l)) (t.val + 16)) (cnt (win 1) (2048 + t.val)) := by
  have e := v36_apply a0 a1 a2 a3 a4 a5 a9
  have hc := count_word t 1
  unfold val_main_v64 val_main_v55 val_main_v54 val_main_v53 val_main_v52 val_main_v51 val_main_v50 val_main_v49
  generalize val_main_v36 (F := Ideal) a0 a1 a2 a3 a4 a5 a9 = X at e ⊢
  pointwise [val_main_v56, val_main_c_5, val_main_v57, val_main_v58, val_main_c_6, val_main_v59, val_main_v60, val_main_v61, val_main_v62, val_main_v63, val_main_v30, val_main_v29, val_main_v28, val_main_c]
  refine congrArg₂ Ideal.div ?_ (congrArg (FloatOps.sitofp (F := Ideal) .f32) hc)
  simp only [e]
  show _ = ∑ j ∈ Finset.range 4, extS a0 a1 a2 a3 a4 a5 a9 b (t.val + 16 - j) (chan 1 l)
  simp only [Finset.sum_range_succ, Finset.sum_range_zero, zero_add]
  repeat' refine congrArg₂ (HAdd.hAdd (α := EReal) (β := EReal)) ?_ ?_
  all_goals exact congrArg (fun p => extS a0 a1 a2 a3 a4 a5 a9 b p (chan 1 l)) (by omega)

theorem v88_apply : val_main_v88 (F := Ideal) a0 a1 a2 a3 a4 a5 a9 (ix3 b t l)
    = Ideal.div (wsum (win 2) (fun p => extS a0 a1 a2 a3 a4 a5 a9 b p (chan 2 l)) (t.val + 16)) (cnt (win 2) (2048 + t.val)) := by
  have e := v36_apply a0 a1 a2 a3 a4 a5 a9
  have hc := count_word t 2
  unfold val_main_v88 val_main_v79 val_main_v78 val_main_v77 val_main_v76 val_main_v75 val_main_v74 val_main_v73 val_main_v72 val_main_v71 val_main_v70 val_main_v69 val_main_v68 val_main_v67 val_main_v66 val_main_v65
  generalize val_main_v36 (F := Ideal) a0 a1 a2 a3 a4 a5 a9 = X at e ⊢
  pointwise [val_main_v80, val_main_c_7, val_main_v81, val_main_v82, val_main_c_8, val_main_v83, val_main_v84, val_main_v85, val_main_v86, val_main_v87, val_main_v30, val_main_v29, val_main_v28, val_main_c]
  refine congrArg₂ Ideal.div ?_ (congrArg (FloatOps.sitofp (F := Ideal) .f32) hc)
  simp only [e]
  show _ = ∑ j ∈ Finset.range 8, extS a0 a1 a2 a3 a4 a5 a9 b (t.val + 16 - j) (chan 2 l)
  simp only [Finset.sum_range_succ, Finset.sum_range_zero, zero_add]
  repeat' refine congrArg₂ (HAdd.hAdd (α := EReal) (β := EReal)) ?_ ?_
  all_goals exact congrArg (fun p => extS a0 a1 a2 a3 a4 a5 a9 b p (chan 2 l)) (by omega)

theorem v128_apply : val_main_v128 (F := Ideal) a0 a1 a2 a3 a4 a5 a9 (ix3 b t l)
    = Ideal.div (wsum (win 3) (fun p => extS a0 a1 a2 a3 a4 a5 a9 b p (chan 3 l)) (t.val + 16)) (cnt (win 3) (2048 + t.val)) := by
  have e := v36_apply a0 a1 a2 a3 a4 a5 a9
  have hc := count_word t 3
  unfold val_main_v128 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89
  generalize val_main_v36 (F := Ideal) a0 a1 a2 a3 a4 a5 a9 = X at e ⊢
  pointwise [val_main_v120, val_main_c_9, val_main_v121, val_main_v122, val_main_c_10, val_main_v123, val_main_v124, val_main_v125, val_main_v126, val_main_v127, val_main_v30, val_main_v29, val_main_v28, val_main_c]
  refine congrArg₂ Ideal.div ?_ (congrArg (FloatOps.sitofp (F := Ideal) .f32) hc)
  simp only [e]
  show _ = ∑ j ∈ Finset.range 16, extS a0 a1 a2 a3 a4 a5 a9 b (t.val + 16 - j) (chan 3 l)
  simp only [Finset.sum_range_succ, Finset.sum_range_zero, zero_add]
  repeat' refine congrArg₂ (HAdd.hAdd (α := EReal) (β := EReal)) ?_ ?_
  all_goals exact congrArg (fun p => extS a0 a1 a2 a3 a4 a5 a9 b p (chan 3 l)) (by omega)

end Means

theorem v130_apply (b : Fin 32) (t : Fin 16) (q : Fin 4) (l : Fin 256) : val_main_v130 (F := Ideal) a0 a1 a2 a3 a4 a5 a9 (ix3 b t (chan q l))
    = pooled q.val (fun p => extS a0 a1 a2 a3 a4 a5 a9 b p (chan q l)) (t.val + 16) (2048 + t.val) := by
  have e0 := v48_apply a0 a1 a2 a3 a4 a5 a9 b t
  have e1 := v64_apply a0 a1 a2 a3 a4 a5 a9 b t
  have e2 := v88_apply a0 a1 a2 a3 a4 a5 a9 b t
  have e3 := v128_apply a0 a1 a2 a3 a4 a5 a9 b t
  have e24 := v24_apply a0 a1 a2 a3 a4 a5 b t
  have er := extS_row a0 a1 a2 a3 a4 a5 a9 b t (chan q l)
  unfold val_main_v130 val_main_v129 val_main_v25
  generalize val_main_v48 (F := Ideal) a0 a1 a2 a3 a4 a5 a9 = X0 at e0 ⊢
  generalize val_main_v64 (F := Ideal) a0 a1 a2 a3 a4 a5 a9 = X1 at e1 ⊢
  generalize val_main_v88 (F := Ideal) a0 a1 a2 a3 a4 a5 a9 = X2 at e2 ⊢
  generalize val_main_v128 (F := Ideal) a0 a1 a2 a3 a4 a5 a9 = X3 at e3 ⊢
  generalize val_main_v24 (F := Ideal) a0 a1 a2 a3 a4 a5 = Z at e24 ⊢
  have e : pooled q.val (fun p => extS a0 a1 a2 a3 a4 a5 a9 b p (chan q l)) (t.val + 16) (2048 + t.val)
      = Ideal.div (wsum (win q.val) (fun p => extS a0 a1 a2 a3 a4 a5 a9 b p (chan q l)) (t.val + 16)) (cnt (win q.val) (2048 + t.val))
        - uRow (xAtS a0 a1 a2 a3 b t) (fun d => a4 (ix2 0 d)) (fun k f => a5 (ix3 0 k f)) (chan q l) := by
    rw [← er, Nat.add_comm 16]
    rfl
  rw [e]
  pointwise []
  refine congrArg₂ (fun x y : EReal => x - y) ?_ (e24 _)
  refine ladder q l (fun l => X0 (ix3 b t l)) (fun l => X1 (ix3 b t l)) (fun l => X2 (ix3 b t l)) (fun l => X3 (ix3 b t l)) _ ?_ ?_ ?_ ?_
  · rintro rfl; exact e0 l
  · rintro rfl; exact e1 l
  · rintro rfl; exact e2 l
  · rintro rfl; exact e3 l

theorem v139_apply (b : Fin 32) (t : Fin 16) (q : Fin 4) (k : Fin 256) : val_main_v139 (F := Ideal) a0 a1 a2 a3 a4 a5 a6 a7 a9 (ix3 b t (chan q k))
    = (∑ l, pooled q.val (fun p => extS a0 a1 a2 a3 a4 a5 a9 b p (chan q l)) (t.val + 16) (2048 + t.val) * a6 (ix4 0 q l k)) * a7 (ix2 0 (chan q k)) := by
  have e := v130_apply a0 a1 a2 a3 a4 a5 a9 b t
  unfold val_main_v139 val_main_v135 val_main_v134 val_main_v133 val_main_v131
  generalize val_main_v130 (F := Ideal) a0 a1 a2 a3 a4 a5 a9 = X at e ⊢
  pointwise [val_main_v132, val_main_v136, val_main_v137, val_main_v138]
  have hv : (chan q k).val = q.val * 256 + k.val := rfl
  have hk := k.isLt
  have hq : (⟨(chan q k).val / 256, by omega⟩ : Fin 4) = q := Fin.ext (by show (chan q k).val / 256 = q.val; omega)
  have hr : (⟨(chan q k).val % 256, by omega⟩ : Fin 256) = k := Fin.ext (by show (chan q k).val % 256 = k.val; omega)
  refine congrArg (fun x : EReal => x * a7 (ix2 0 (chan q k))) (Finset.sum_congr rfl fun l _ => ?_)
  have hl := l.isLt
  rw [← e q l, mul_comm (X _)]
  refine congrArg₂ (fun x y : EReal => x * y) (congrArg₂ (fun q k => a6 (ix4 0 q l k)) hq hr) (congrArg (fun c => X (ix3 b t c)) (Fin.ext ?_))
  show (chan q k).val / 256 * 256 + l.val = q.val * 256 + l.val
  omega

theorem v140_apply (b : Fin 32) (t : Fin 16) (c : Fin 1024) : val_main_v140 (F := Ideal) a0 a1 a2 a3 a4 a5 (ix3 b t c)
    = sil (gateRow (xAtS a0 a1 a2 a3 b t) (fun d => a4 (ix2 0 d)) (fun k f => a5 (ix3 0 k f)) c) := by
  have e := v24_apply a0 a1 a2 a3 a4 a5
  unfold val_main_v140 val_main_call0_v5 val_main_call0_v3 val_main_call0_v1 val_main_call0_v0 val_main_v26
  generalize val_main_v24 (F := Ideal) a0 a1 a2 a3 a4 a5 = X at e ⊢
  pointwise [val_main_call0_v4, val_main_call0_v2, val_main_call0_cst, val_main_call0_cst_0]
  rw [e]
  rfl

theorem v145_apply (b : Fin 32) (t : Fin 16) (d : Fin 1024) : val_main_v145 (F := Ideal) a0 a1 a2 a3 a4 a5 a6 a7 a8 a9 (ix2 (flatS b t) d)
    = yAtS a0 a1 a2 a3 a4 a5 a6 a7 a8 a9 b t d := by
  have e7 := v7_apply a0 a1 a2 a3 b t
  have e139 := v139_apply a0 a1 a2 a3 a4 a5 a6 a7 a9 b t
  have e140 := v140_apply a0 a1 a2 a3 a4 a5 b t
  unfold val_main_v145 val_main_v144 val_main_v143 val_main_v141
  generalize val_main_v7 (F := Ideal) a0 a1 a2 a3 = X at e7 ⊢
  generalize val_main_v139 (F := Ideal) a0 a1 a2 a3 a4 a5 a6 a7 a9 = Y at e139 ⊢
  generalize val_main_v140 (F := Ideal) a0 a1 a2 a3 a4 a5 = Z at e140 ⊢
  pointwise [val_main_v142]
  have hb := b.isLt
  have ht := t.isLt
  have hq : (⟨(flatS b t).val / 16, by show (16 * b.val + t.val) / 16 < 32; omega⟩ : Fin 32) = b := Fin.ext (by show (16 * b.val + t.val) / 16 = b.val; omega)
  have hr : (⟨(flatS b t).val % 16, by show (16 * b.val + t.val) % 16 < 16; omega⟩ : Fin 16) = t := Fin.ext (by show (16 * b.val + t.val) % 16 = t.val; omega)
  rw [hq, hr, e7]
  refine congrArg (fun x : EReal => xAtS a0 a1 a2 a3 b t d + x) ?_
  rw [sum_chan]
  refine Finset.sum_congr rfl fun q _ => Finset.sum_congr rfl fun k _ => ?_
  rw [e139, e140]
  rfl

theorem v146_apply (b : Fin 32) (p : Fin 16) (d : Fin 1024) : val_main_v146 (F := Ideal) a0 a1 a2 a3 a4 a5 a9 (ix3 b p d)
    = extS a0 a1 a2 a3 a4 a5 a9 b (16 + p.val) d := by
  have e := v27_apply a0 a1 a2 a3 a4 a5 a9
  unfold val_main_v146
  generalize val_main_v27 (F := Ideal) a0 a1 a2 a3 a4 a5 a9 = X at e ⊢
  pointwise []
  rw [e]
  exact congrArg (fun p => extS a0 a1 a2 a3 a4 a5 a9 b p d) (by show 15 + p.val + 1 = 16 + p.val; omega)

end Stages

end Cert.Reference4Ideal.Pool
-- ==== Proof.SamplePoolClaim.lean ====
/- The pooling call on the sample: its frames, and its two results against the reference's. -/
module

public import proofs.«01_k».proof.Defs
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.SamplePoolKernel
public import proofs.«01_k».proof.Proof.SamplePoolRef
public import Idealize.ShloMosaic.Adequacy

@[expose] public section

noncomputable section

namespace Cert.Proof

open Idealize.ShloMosaic Idealize.ShloMosaic.StableHlo Idealize.SL.Sem Cert.PoolMath

theorem frame_Kernel4 : Cert.quiescent_Kernel4 := fun m ρ _ => Cert.Kernel4.Gen.frame m ρ

theorem frame_Kernel4Ideal : Cert.quiescent_Kernel4Ideal := fun m ρ _ => Cert.Kernel4Ideal.Gen.frame m ρ

theorem frame_Reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

/-- A row of the sample's flat result, by batch and token. -/
theorem flatS_split (i : Fin 512) : ∃ b t, i = flatS b t :=
  ⟨⟨i.val / 16, by omega⟩, ⟨i.val % 16, by omega⟩, Fin.ext (by show i.val = 16 * (i.val / 16) + i.val % 16; omega)⟩

theorem algebraic_Kernel4 : Cert.algebraic_Kernel4Ideal_Reference4Ideal := by
  intro m g m' g' _ hargs
  refine ⟨fun c => (Cert.Kernel4Ideal.Gen.dats m 0 c).arrAt 11 Cert.Kernel4Ideal.cfg0.N, fun c => (Cert.Kernel4Ideal.Gen.dats m 0 c).arrAt 12 Cert.Kernel4Ideal.cfg0.N,
    Cert.Kernel4Ideal.Value.run_blocks m g, ?_⟩
  refine (θ_run Cert.Reference4Ideal.defs _ _).mono (fun r h c => ?_) (Cert.Reference4Ideal.Value.run m' g')
  obtain ⟨h0, h1, hk⟩ := h c
  obtain ⟨e0, e1, e2, e3, e4, e5, e6, e7, e8, e9⟩ := hargs c
  refine ⟨(h0.trans (Cert.Reference4Ideal.Read.val_main_v145_eq (launchContents m' c))).trans ?_,
    (h1.trans (Cert.Reference4Ideal.Read.val_main_v146_eq (launchContents m' c))).trans ?_, hk⟩
  · simp only [launchContents_devRef, e0, e1, e2, e3, e4, e5, e6, e7, e8, e9]
    funext i
    obtain ⟨b, t, hi⟩ := flatS_split (i 0)
    have hi : i = ix2 (flatS b t) (i 1) := by
      funext a
      match a with
      | ⟨0, _⟩ => exact hi
      | ⟨1, _⟩ => rfl
    rw [hi]
    exact (Cert.Reference4Ideal.Pool.v145_apply _ _ _ _ _ _ _ _ _ _ b t (i 1)).trans (Cert.Kernel4Ideal.Pool.result11_apply m c b t (i 1)).symm
  · simp only [launchContents_devRef, e0, e1, e2, e3, e4, e5, e9]
    funext i
    have hi : i = ix3 (i 0) (i 1) (i 2) := by
      funext a
      match a with
      | ⟨0, _⟩ => rfl
      | ⟨1, _⟩ => rfl
      | ⟨2, _⟩ => rfl
    rw [hi]
    exact (Cert.Reference4Ideal.Pool.v146_apply _ _ _ _ _ _ _ (i 0) (i 1) (i 2)).trans (Cert.Kernel4Ideal.Pool.result12_apply m c (i 0) (i 1) (i 2)).symm

end Cert.Proof

end
-- ==== Proof.AttnTile.lean ====
/-
  What the attention body computes for one sequence of the sample, as vectors: the eight heads' queries stacked, their scores
  against the 144 keys, the weights, and the output row by row. The body does the same for each of its 32 sequences.
-/
module

public import proofs.«01_k».proof.Proof.Gen.Kernel5Ideal
public import Idealize.ShloMosaic.Lib.Pipeline.ValueKit.Tiles

@[expose] public section

noncomputable section

namespace Cert.Kernel5Ideal.Attn

open Cert.Kernel5Ideal Cert.Kernel5Ideal.Gen
open Idealize.ShloMosaic Idealize.ShloMosaic.TcCoe Idealize.SL.Sem

variable {F : FTy → Type} [FloatOps F]

/-- The head that a column of the score tile belongs to. -/
def colHead : IVec S1x128 32 := shrsi (iota .tc S1x128 32 [1] iota_S1x128_d1_w32) (broadcast S1x128 4#32)

def isHead (n : BitVec 32) : IVec S1x128 1 := cmpi .eq colHead (broadcast S1x128 n)

/-- A row with eight values, one for each head. -/
def headRow (x0 x1 x2 x3 x4 x5 x6 x7 : F .f32) : FVec F S1x128 .f32 :=
  select (isHead 7#32) (broadcast S1x128 x7) (select (isHead 6#32) (broadcast S1x128 x6)
    (select (isHead 5#32) (broadcast S1x128 x5) (select (isHead 4#32) (broadcast S1x128 x4)
      (select (isHead 3#32) (broadcast S1x128 x3) (select (isHead 2#32) (broadcast S1x128 x2)
        (select (isHead 1#32) (broadcast S1x128 x1) (select (isHead 0#32) (broadcast S1x128 x0)
          (broadcast S1x128 (Scalar.ofBits .f32 0x00000000#32)))))))))

/-- The heads' slopes. -/
def slopeRow : FVec F S1x128 .f32 :=
  headRow (Scalar.ofBits .f32 0x3F000000#32) (Scalar.ofBits .f32 0x3E800000#32) (Scalar.ofBits .f32 0x3E000000#32)
    (Scalar.ofBits .f32 0x3D800000#32) (Scalar.ofBits .f32 0x3D000000#32) (Scalar.ofBits .f32 0x3C800000#32)
    (Scalar.ofBits .f32 0x3C000000#32) (Scalar.ofBits .f32 0x3B800000#32)

/-- The heads' sinks, in the scores' unit. -/
def sinkRow (x0 x1 x2 x3 x4 x5 x6 x7 : F .f32) : FVec F S1x128 .f32 :=
  mulf (headRow x0 x1 x2 x3 x4 x5 x6 x7) (broadcast S1x128 (Scalar.ofBits .f32 0x3FB8AA3B#32))

/-- The distances times the slopes. -/
def biasTile : FVec F S144x128 .f32 :=
  mulf
    (sitofp .f32 (absi (subi
      (broadcastTo S144x128 (addi (andi (iota .tc S1x128 32 [1] iota_S1x128_d1_w32) (broadcast S1x128 15#32)) (broadcast S1x128 128#32))
        broadcasts_S1x128_S144x128)
      (iota .tc S144x128 32 [0] iota_S144x128_d0_w32))))
    (broadcastTo S144x128 (mulf (broadcast S1x128 (Scalar.ofBits .f32 0xBFB8AA3B#32)) slopeRow) broadcasts_S1x128_S144x128)

/-- Whether a lane lies in the lower half of its block. -/
def low : IVec S16x128 1 := cmpi .slt (iota .tc S16x128 32 [1] iota_S16x128_d1_w32) (broadcast S16x128 64#32)

def high : IVec S16x128 1 := xori low (constantI S16x128 1 1#1)

def zero : FVec F S16x128 .f32 := broadcast S16x128 (Scalar.ofBits .f32 0x00000000#32)

def turn (x : FVec F S16x128 .f32) : FVec F S16x128 .f32 := dynamicRotate 1 64#32 none x rotates_S16x128_d1

/-- The eight heads' queries, one head's sixteen rows below the other's, each in the half where its keys lie. -/
def queries (q : FVec F S16x512 .f32) : FVec F S128x128 .f32 :=
  have q0 : FVec F S16x128 .f32 := extractStridedSlice S16x128 ![0, 0] q slices_S16x512_o0_0_S16x128
  have q1 : FVec F S16x128 .f32 := extractStridedSlice S16x128 ![0, 128] q slices_S16x512_o0_128_S16x128
  have q2 : FVec F S16x128 .f32 := extractStridedSlice S16x128 ![0, 256] q slices_S16x512_o0_256_S16x128
  have q3 : FVec F S16x128 .f32 := extractStridedSlice S16x128 ![0, 384] q slices_S16x512_o0_384_S16x128
  concatenate S128x128 0
    [⟨S16x128, select low q0 zero⟩, ⟨S16x128, select low (turn q0) zero⟩, ⟨S16x128, select low q1 zero⟩, ⟨S16x128, select low (turn q1) zero⟩,
      ⟨S16x128, select high (turn q2) zero⟩, ⟨S16x128, select high q2 zero⟩, ⟨S16x128, select high (turn q3) zero⟩, ⟨S16x128, select high q3 zero⟩]
    concatenates_S16x128_S16x128_S16x128_S16x128_S16x128_S16x128_S16x128_S16x128_S128x128_d0

/-- The scores of the 144 keys against the 128 queries. -/
def scores (q : FVec F S16x512 .f32) (k : FVec F S144x128 .f32) (b : FVec F S144x128 .f32) : FVec F S144x128 .f32 :=
  addf (matmul dot_S144x128_S128x128_S144x128_1_1_0_0_n_n none
    (truncf .bf16 (shapeCast S144x128 k shapeCasts_S144x128_S144x128) bitsLt_bf16_f32) (truncf .bf16 (queries q) bitsLt_bf16_f32)
    (constant S144x128 .f32 0x00000000#32)) b

/-- The largest score of a query, its sink among them. -/
def top (s : FVec F S144x128 .f32) (sink : FVec F S1x128 .f32) : FVec F S1x128 .f32 :=
  maximumf (shapeCast S1x128 (multiReduction .maximumf [0] S128 s 0xFF800000#32 reduces_S144x128_S128 (.inl rfl) rfl) shapeCasts_S128_S1x128) sink

/-- The weights before they are divided. -/
def powers (s : FVec F S144x128 .f32) (sink : FVec F S1x128 .f32) : FVec F S144x128 .f32 :=
  exp2 (subf s (broadcastTo S144x128 (top s sink) broadcasts_S1x128_S144x128))

/-- The weights. -/
def weights (s : FVec F S144x128 .f32) (sink : FVec F S1x128 .f32) : FVec F S144x128 .f32 :=
  mulf (powers s sink) (broadcastTo S144x128
    (divf (broadcast S1x128 (Scalar.ofBits .f32 0x3F800000#32))
      (addf (shapeCast S1x128 (multiReduction .add [0] S128 (powers s sink) 0x00000000#32 reduces_S144x128_S128 (.inl rfl) rfl) shapeCasts_S128_S1x128)
        (exp2 (subf sink (top s sink)))))
    broadcasts_S1x128_S144x128)

/-- The weighted sums of the values, for each query over both halves. -/
def mixed (w : FVec F S144x128 .f32) (v : FVec F S144x128 .f32) : FVec F S128x128 .f32 :=
  matmul dot_S144x128_S144x128_S128x128_0_0_1_1_n_n none (truncf .bf16 w bitsLt_bf16_f32)
    (truncf .bf16 (shapeCast S144x128 v shapeCasts_S144x128_S144x128) bitsLt_bf16_f32) (constant S128x128 .f32 0x00000000#32)

/-- The heads side by side again. -/
def joined (o : FVec F S128x128 .f32) : FVec F S16x512 .f32 :=
  concatenate S16x512 1
    [⟨S16x128, select low (extractStridedSlice S16x128 ![0, 0] o slices_S128x128_o0_0_S16x128) (turn (extractStridedSlice S16x128 ![16, 0] o slices_S128x128_o16_0_S16x128))⟩,
      ⟨S16x128, select low (extractStridedSlice S16x128 ![32, 0] o slices_S128x128_o32_0_S16x128) (turn (extractStridedSlice S16x128 ![48, 0] o slices_S128x128_o48_0_S16x128))⟩,
      ⟨S16x128, select low (turn (extractStridedSlice S16x128 ![64, 0] o slices_S128x128_o64_0_S16x128)) (extractStridedSlice S16x128 ![80, 0] o slices_S128x128_o80_0_S16x128)⟩,
      ⟨S16x128, select low (turn (extractStridedSlice S16x128 ![96, 0] o slices_S128x128_o96_0_S16x128)) (extractStridedSlice S16x128 ![112, 0] o slices_S128x128_o112_0_S16x128)⟩]
    concatenates_S16x128_S16x128_S16x128_S16x128_S16x512_d1

/-- A tile's gate. -/
def gated (o g : FVec F S16x512 .f32) : FVec F S16x512 .bf16 :=
  truncf .bf16 (mulf o (mulf g (divf (broadcast S16x512 (Scalar.ofBits .f32 0x3F800000#32))
    (addf (broadcast S16x512 (Scalar.ofBits .f32 0x3F800000#32)) (exp (subf (broadcast S16x512 (Scalar.ofBits .f32 0x00000000#32)) g)))))) bitsLt_bf16_f32

/-- One sequence's output. -/
def tile (q : FVec F S16x512 .f32) (k v : FVec F S144x128 .f32) (g : FVec F S16x512 .f32) (b : FVec F S144x128 .f32) (sink : FVec F S1x128 .f32) :
    FVec F S16x512 .bf16 :=
  gated (joined (mixed (weights (scores q k b) sink) v)) g

end Cert.Kernel5Ideal.Attn

end
-- ==== Proof.AttnMath.lean ====
/-
  The attention's mathematics for one sequence of the sample, one head and one query: scores in the unit of base-2 exponents, a
  penalty that grows with the distance, weights that share with the head's sink, and the gated mean of the values.
-/
module

public import Idealize.ShloMosaic.Lib.ValueIdx
public import Idealize.ShloMosaic.Lib.Pointwise
public import Idealize.ShloMosaic.PureOps.Ideal.Laws

@[expose] public section

noncomputable section

namespace Cert.AttnMath

open Idealize.ShloMosaic

/-- The float that stands for log₂ e, as a real. -/
def unit2 : ℝ := 12102203 / 8388608

/-- What key `j` loses against query `t` under head `h`, as a term to add. -/
def penalty (h : Fin 8) (t : Fin 16) (j : Fin 144) : ℝ :=
  |(t.val : ℝ) + 128 - j.val| * -(unit2 * (1 / 2) ^ (h.val + 1))

/-- The score of key `j`. -/
def score (q : Fin 64 → EReal) (K : Fin 144 → Fin 64 → EReal) (h : Fin 8) (t : Fin 16) (j : Fin 144) : EReal :=
  (∑ d, K j d * q d) + (penalty h t j : EReal)

/-- The largest score, the sink among them. -/
def peak (s : Fin 144 → EReal) (sk : EReal) : EReal :=
  max (Finset.fold max (Ideal.ofBits .f32 0xFF800000#32) s Finset.univ) sk

/-- The sum that the weights are divided by. -/
def mass (s : Fin 144 → EReal) (sk : EReal) : EReal :=
  (∑ j, Ideal.exp2 (s j - peak s sk)) + Ideal.exp2 (sk - peak s sk)

/-- The gate. -/
def silu (g : EReal) : EReal := g * Ideal.div 1 (1 + Ideal.exp (0 - g))

/-- One element of the output. -/
def attend (s : Fin 144 → EReal) (sk : EReal) (V : Fin 144 → EReal) (g : EReal) : EReal :=
  (∑ j, Ideal.exp2 (s j - peak s sk) * Ideal.div 1 (mass s sk) * V j) * silu g

theorem word_unit2 : Ideal.ofBits .f32 0x3FB8AA3B#32 = (unit2 : EReal) := by
  simp [Ideal.ofBits, Ideal.ieee, unit2]
  norm_num [zpow_neg]
  rw [← EReal.coe_mul]
  norm_num

theorem word_neg_unit2 : Ideal.ofBits .f32 0xBFB8AA3B#32 = ((-unit2 : ℝ) : EReal) := by
  simp [Ideal.ofBits, Ideal.ieee, unit2]
  norm_num [zpow_neg]
  rw [← EReal.coe_mul]
  norm_num

/-- A sum over 128 lanes of which only one half counts. -/
theorem sum_half (f : ℕ → EReal) (a : ℕ) (ha : a < 2) :
    (∑ l : Fin 128, if l.val / 64 = a then f l.val else 0) = ∑ d : Fin 64, f (64 * a + d.val) := by
  rw [Fin.sum_univ_add (a := 64) (b := 64) (fun l : Fin (64 + 64) => if l.val / 64 = a then f l.val else 0)]
  have h1 : ∀ d : Fin 64, (d.val / 64 = a) ↔ a = 0 := fun d => by omega
  have h2 : ∀ d : Fin 64, ((64 + d.val) / 64 = a) ↔ a = 1 := fun d => by omega
  simp only [Fin.val_castAdd, Fin.val_natAdd, h1, h2]
  obtain rfl | rfl : a = 0 ∨ a = 1 := by omega
  · simp
  · simp

/-- A power of two, by either operation. -/
theorem pow_two (x : EReal) : Ideal.pow ((2 : ℝ) : EReal) x = Ideal.exp2 x := by
  induction x with
  | bot => simp [Ideal.pow_coe_bot]
  | top => simp [Ideal.pow_coe_top]
  | coe r => simp

/-- Dividing is multiplying by the reciprocal, off zero. -/
theorem div_eq_mul (x y : EReal) (h : y ≠ 0) : Ideal.div x y = x * Ideal.div 1 y := by
  unfold Ideal.div
  rw [if_neg h, if_neg h, one_mul]

/-! ## Where the divisor is not zero -/

/-- A real among the extended reals. -/
def IsReal (x : EReal) : Prop := ∃ r : ℝ, x = r

theorem IsReal.mul {x y : EReal} : IsReal x → IsReal y → IsReal (x * y) := by
  rintro ⟨a, rfl⟩ ⟨b, rfl⟩
  exact ⟨a * b, (EReal.coe_mul a b).symm⟩

theorem IsReal.add {x y : EReal} : IsReal x → IsReal y → IsReal (x + y) := by
  rintro ⟨a, rfl⟩ ⟨b, rfl⟩
  exact ⟨a + b, (EReal.coe_add a b).symm⟩

theorem IsReal.coe (a : ℝ) : IsReal (a : EReal) := ⟨a, rfl⟩

theorem IsReal.sum {n : ℕ} (f : Fin n → EReal) (h : ∀ i, IsReal (f i)) : IsReal (∑ i, f i) :=
  Finset.sum_induction f IsReal (fun _ _ => IsReal.add) ⟨0, EReal.coe_zero.symm⟩ fun i _ => h i

theorem exp2_nonneg (x : EReal) : 0 ≤ Ideal.exp2 x := by
  induction x with
  | bot => simp
  | top => simp
  | coe r =>
    rw [Ideal.exp2_coe]
    exact EReal.coe_nonneg.2 (Real.rpow_nonneg (by norm_num) r)

/-- With real scores and a real sink the weights have a positive sum. -/
theorem mass_ne_zero (s : Fin 144 → EReal) (sk : EReal) (hs : ∀ j, IsReal (s j)) (hk : IsReal sk) : mass s sk ≠ 0 := by
  have hbot : Ideal.ofBits .f32 0xFF800000#32 < ⊤ := by simp [Ideal.ofBits, Ideal.ieee]
  have htop : peak s sk < ⊤ := by
    unfold peak
    refine max_lt (Finset.fold_max_lt _ |>.2 ⟨hbot, fun j _ => ?_⟩) ?_
    · obtain ⟨r, hr⟩ := hs j
      rw [hr]
      exact EReal.coe_lt_top r
    · obtain ⟨r, hr⟩ := hk
      rw [hr]
      exact EReal.coe_lt_top r
  have hle : sk ≤ peak s sk := le_max_right _ _
  have hpos : 0 < Ideal.exp2 (sk - peak s sk) := by
    obtain ⟨r, rfl⟩ := hk
    revert htop hle
    generalize peak s (r : EReal) = p
    induction p with
    | bot => exact fun _ h => absurd (le_bot_iff.1 h) (EReal.coe_ne_bot r)
    | top => exact fun h => absurd h (lt_irrefl _)
    | coe q =>
      intro _ _
      rw [← EReal.coe_sub, Ideal.exp2_coe]
      exact EReal.coe_pos.2 (Real.rpow_pos_of_pos (by norm_num) _)
  have hsum : 0 ≤ ∑ j, Ideal.exp2 (s j - peak s sk) := Finset.sum_nonneg fun j _ => exp2_nonneg _
  unfold mass
  exact (hpos.trans_le (le_add_of_nonneg_left hsum)).ne'

theorem score_real (q : Fin 64 → EReal) (K : Fin 144 → Fin 64 → EReal) (h : Fin 8) (t : Fin 16) (j : Fin 144)
    (hq : ∀ d, IsReal (q d)) (hK : ∀ d, IsReal (K j d)) : IsReal (score q K h t j) :=
  (IsReal.sum _ fun d => (hK d).mul (hq d)).add (IsReal.coe _)

/-! ## Over the argument arrays -/

/-- A sequence's keys (or values): 128 from the cache, then the 16 new ones, which start at column `o` of the projection. -/
def past (z : (⟨2, ![512, 3456]⟩ : Shape).Idx → EReal) (a : (⟨5, ![1, 32, 128, 2, 64]⟩ : Shape).Idx → EReal) (o : ℕ) (ho : o ≤ 640)
    (b : Fin 32) (j : Fin 144) (g : Fin 2) (d : Fin 64) : EReal :=
  if h : j.val < 128 then a (ix5 0 b ⟨j.val, h⟩ g d)
  else z (ix2 ⟨16 * b.val + (j.val - 128), by omega⟩ ⟨o + (64 * g.val + d.val), by omega⟩)

/-- The group that head `h` belongs to. -/
abbrev grp (h : Fin 8) : Fin 2 := ⟨h.val / 4, by omega⟩

/-- The scores of token `t` of sequence `b` under head `h`. -/
def scoreAt (z : (⟨2, ![512, 3456]⟩ : Shape).Idx → EReal) (ck : (⟨5, ![1, 32, 128, 2, 64]⟩ : Shape).Idx → EReal)
    (b : Fin 32) (h : Fin 8) (t : Fin 16) : Fin 144 → EReal :=
  score (fun d => z (ix2 ⟨16 * b.val + t.val, by omega⟩ ⟨64 * h.val + d.val, by omega⟩)) (fun j d => past z ck 512 (by norm_num) b j (grp h) d) h t

/-- One element of the attention's output. -/
def yAt (z : (⟨2, ![512, 3456]⟩ : Shape).Idx → EReal) (ck cv : (⟨5, ![1, 32, 128, 2, 64]⟩ : Shape).Idx → EReal)
    (sk : (⟨2, ![1, 8]⟩ : Shape).Idx → EReal) (b : Fin 32) (t : Fin 16) (h : Fin 8) (d : Fin 64) : EReal :=
  attend (scoreAt z ck b h t) (sk (ix2 0 h) * (unit2 : EReal)) (fun j => past z cv 640 (by norm_num) b j (grp h) d)
    (z (ix2 ⟨16 * b.val + t.val, by omega⟩ ⟨768 + (64 * h.val + d.val), by omega⟩))

theorem past_real (z : (⟨2, ![512, 3456]⟩ : Shape).Idx → EReal) (a : (⟨5, ![1, 32, 128, 2, 64]⟩ : Shape).Idx → EReal) (o : ℕ) (ho : o ≤ 640)
    (ho' : o ≤ 512) (b : Fin 32) (j : Fin 144) (g : Fin 2) (d : Fin 64) (hz : ∀ i f, f.val < 640 → IsReal (z (ix2 i f))) (ha : ∀ i, IsReal (a i)) :
    IsReal (past z a o ho b j g d) := by
  unfold past
  split_ifs
  · exact ha _
  · exact hz _ _ (by dsimp only; omega)

/-- Finite arrays have real scores. -/
theorem scoreAt_real (z : (⟨2, ![512, 3456]⟩ : Shape).Idx → EReal) (ck : (⟨5, ![1, 32, 128, 2, 64]⟩ : Shape).Idx → EReal)
    (hz : ∀ i f, f.val < 640 → IsReal (z (ix2 i f))) (hk : ∀ i, IsReal (ck i)) (b : Fin 32) (h : Fin 8) (t : Fin 16) (j : Fin 144) : IsReal (scoreAt z ck b h t j) :=
  score_real _ _ h t j (fun _ => hz _ _ (by dsimp only; omega)) fun d => past_real z ck _ _ (le_refl _) b j _ d hz hk

end Cert.AttnMath

end
-- ==== Proof.AttnRead.lean ====
/-
  The attention body's vectors read at an index.
-/
module

public import proofs.«01_k».proof.Proof.AttnTile
public import proofs.«01_k».proof.Proof.AttnMath
public import Idealize.ShloMosaic.Lib.Pointwise

@[expose] public section

set_option maxRecDepth 16384

noncomputable section

namespace Cert.Kernel5Ideal.Attn

open Cert.Kernel5Ideal Cert.Kernel5Ideal.Gen Cert.AttnMath
open Idealize.ShloMosaic Idealize.ShloMosaic.TcCoe Idealize.SL.Sem

/-- The column of head `h` and query `t`. -/
abbrev col (h : Fin 8) (t : Fin 16) : Fin 128 := ⟨16 * h.val + t.val, by omega⟩

/-- The feature of head `h` at its place `d`. -/
abbrev feat (h : Fin 8) (d : Fin 64) : Fin 512 := ⟨64 * h.val + d.val, by omega⟩

/-- The lane of head `h`'s keys at place `d`. -/
abbrev lane (h : Fin 8) (d : Fin 64) : Fin 128 := ⟨64 * (h.val / 4) + d.val, by omega⟩

theorem at2 {n k : ℕ} (x : FVec Ideal ⟨2, ![n, k]⟩ .f32) (a a' : Fin n) (b b' : Fin k) (h : a.val = a'.val) (h' : b.val = b'.val) :
    x (ix2 a b) = x (ix2 a' b') := by
  rw [Fin.ext h, Fin.ext h']

theorem turn_apply (x : FVec Ideal S16x128 .f32) (t : Fin 16) (l : Fin 128) :
    turn x (ix2 t l) = x (ix2 t ⟨(l.val + 64) % 128, Nat.mod_lt _ (by decide)⟩) := by
  pointwise [turn]
  exact at2 x _ _ _ _ rfl (by show (l.val + 128 - 64) % 128 = (l.val + 64) % 128; omega)

theorem low_apply (t : Fin 16) (l : Fin 128) : low (ix2 t l) = if l.val < 64 then 1#1 else 0#1 := by
  pointwise [low]
  revert l
  decide

theorem high_apply (t : Fin 16) (l : Fin 128) : high (ix2 t l) = if l.val < 64 then 0#1 else 1#1 := by
  pointwise [high, low]
  revert l
  decide

theorem zero_apply (t : Fin 16) (l : Fin 128) : zero (F := Ideal) (ix2 t l) = 0 := by
  pointwise [zero]

theorem select_low (t : Fin 16) (l : Fin 128) (x y : EReal) : Scalar.select (low (ix2 t l)) x y = if l.val < 64 then x else y := by
  rw [low_apply]
  split_ifs <;> rfl

theorem select_high (t : Fin 16) (l : Fin 128) (x y : EReal) : Scalar.select (high (ix2 t l)) x y = if l.val < 64 then y else x := by
  rw [high_apply]
  split_ifs <;> rfl

theorem scores_apply (q : FVec Ideal S16x512 .f32) (k b : FVec Ideal S144x128 .f32) (j : Fin 144) (r : Fin 128) :
    scores q k b (ix2 j r) = (∑ l : Fin 128, k (ix2 j l) * queries q (ix2 r l)) + b (ix2 j r) := by
  pointwise [scores]

theorem top_apply (s : FVec Ideal S144x128 .f32) (sink : FVec Ideal S1x128 .f32) (r : Fin 128) :
    top s sink (ix2 0 r) = peak (fun j => s (ix2 j r)) (sink (ix2 0 r)) := by
  pointwise [top]
  rfl

theorem powers_apply (s : FVec Ideal S144x128 .f32) (sink : FVec Ideal S1x128 .f32) (j : Fin 144) (r : Fin 128) :
    powers s sink (ix2 j r) = Ideal.exp2 (s (ix2 j r) - peak (fun j => s (ix2 j r)) (sink (ix2 0 r))) := by
  rw [← top_apply]
  pointwise [powers]
  rfl

theorem weights_apply (s : FVec Ideal S144x128 .f32) (sink : FVec Ideal S1x128 .f32) (j : Fin 144) (r : Fin 128) :
    weights s sink (ix2 j r) = Ideal.exp2 (s (ix2 j r) - peak (fun j => s (ix2 j r)) (sink (ix2 0 r)))
      * Ideal.div 1 (mass (fun j => s (ix2 j r)) (sink (ix2 0 r))) := by
  pointwise [weights]
  simp only [powers_apply, top_apply]
  rfl

theorem mixed_apply (w v : FVec Ideal S144x128 .f32) (r l : Fin 128) :
    mixed w v (ix2 r l) = ∑ j : Fin 144, w (ix2 j r) * v (ix2 j l) := by
  pointwise [mixed]

theorem gated_apply (o g : FVec Ideal S16x512 .f32) (t : Fin 16) (f : Fin 512) :
    gated o g (ix2 t f) = o (ix2 t f) * silu (g (ix2 t f)) := by
  pointwise [gated]
  rfl

theorem colHead_apply (h : Fin 8) (t : Fin 16) : colHead (ix2 0 (col h t)) = BitVec.ofNat 32 h.val := by
  pointwise [colHead]
  revert h t
  decide

theorem headRow_apply (x : Fin 8 → EReal) (h : Fin 8) (t : Fin 16) :
    headRow (F := Ideal) (x 0) (x 1) (x 2) (x 3) (x 4) (x 5) (x 6) (x 7) (ix2 0 (col h t)) = x h := by
  pointwise [headRow, isHead]
  rw [colHead_apply]
  fin_cases h <;> rfl

theorem sinkRow_apply (x : Fin 8 → EReal) (h : Fin 8) (t : Fin 16) :
    sinkRow (F := Ideal) (x 0) (x 1) (x 2) (x 3) (x 4) (x 5) (x 6) (x 7) (ix2 0 (col h t)) = x h * (unit2 : EReal) := by
  rw [← word_unit2, ← headRow_apply x h t]
  pointwise [sinkRow]

theorem slopeRow_apply (h : Fin 8) (t : Fin 16) :
    slopeRow (F := Ideal) (ix2 0 (col h t)) = (((1 / 2 : ℝ) ^ (h.val + 1) : ℝ) : EReal) := by
  refine Eq.trans ?_ (headRow_apply (fun h => (((1 / 2 : ℝ) ^ (h.val + 1) : ℝ) : EReal)) h t)
  unfold slopeRow
  congr 1
  all_goals
    simp [Ideal.ofBits, Ideal.ieee]
    rw [← EReal.coe_mul]
    norm_num [zpow_neg]

theorem dist_apply (r : Fin 128) (j : Fin 144) :
    (IntOp.absi (IntOp.subi (IntOp.addi (IntOp.andi (BitVec.ofNat 32 r.val) 15#32) 128#32) (BitVec.ofNat 32 j.val))).toInt
      = |((r.val % 16 : ℕ) : ℤ) + 128 - j.val| := by
  revert r j
  decide +kernel

theorem biasTile_apply (h : Fin 8) (t : Fin 16) (j : Fin 144) :
    biasTile (F := Ideal) (ix2 j (col h t)) = (penalty h t j : EReal) := by
  pointwise [biasTile]
  rw [slopeRow_apply, word_neg_unit2, ← EReal.coe_mul]
  refine (congrArg (fun n : ℤ => ((n : ℝ) : EReal) * _) (dist_apply (col h t) j)).trans ?_
  rw [← EReal.coe_mul]
  have e : (col h t).val % 16 = t.val := by show (16 * h.val + t.val) % 16 = t.val; omega
  rw [e]
  unfold penalty
  refine congrArg (fun x : ℝ => (x : EReal)) ?_
  push_cast
  ring

theorem cut_cols (q : FVec Ideal S16x512 .f32) (o : ℕ) (hs) (t : Fin 16) (l : Fin 128) (ho : o + 128 ≤ 512) :
    extractStridedSlice S16x128 ![0, o] q hs (ix2 t l) = q (ix2 t ⟨o + l.val, by omega⟩) := by
  pointwise []

theorem cut_rows (q : FVec Ideal S128x128 .f32) (o : ℕ) (hs) (t : Fin 16) (l : Fin 128) (ho : o + 16 ≤ 128) :
    extractStridedSlice S16x128 ![o, 0] q hs (ix2 t l) = q (ix2 ⟨o + t.val, by omega⟩ l) := by
  pointwise []

set_option maxHeartbeats 1000000 in
theorem queries_apply (q : FVec Ideal S16x512 .f32) (r : Fin 128) (l : Fin 128) :
    queries q (ix2 r l) = if l.val / 64 = r.val / 64 then q (ix2 ⟨r.val % 16, Nat.mod_lt _ (by decide)⟩ ⟨64 * (r.val / 16) + l.val % 64, by omega⟩) else 0 := by
  have hr := r.isLt
  have hl := l.isLt
  pointwise [queries]
  simp only [select_low, select_high, zero_apply, turn_apply]
  split_ifs
  all_goals first
    | (exfalso; omega)
    | exact (rfl : (0 : EReal) = 0)
    | exact (if_neg (by omega)).symm
    | (refine Eq.trans ?_ (if_pos (by omega)).symm
       exact at2 q _ _ _ _ (by dsimp only; omega) (by dsimp only; omega))
    | (refine Eq.trans ?_ (if_pos (by omega)).symm
       exact (cut_cols q _ _ _ _ (by decide)).trans (at2 q _ _ _ _ (by dsimp only; omega) (by dsimp only; omega)))
    | exact at2 q _ _ _ _ (by dsimp only; omega) (by dsimp only; omega)
    | exact (cut_cols q _ _ _ _ (by decide)).trans (at2 q _ _ _ _ (by dsimp only; omega) (by dsimp only; omega))

theorem joined_apply (o : FVec Ideal S128x128 .f32) (t : Fin 16) (f : Fin 512) :
    joined o (ix2 t f) = o (ix2 ⟨16 * (f.val / 64) + t.val, by omega⟩ ⟨64 * (f.val / 256) + f.val % 64, by omega⟩) := by
  have hr := t.isLt
  have hl := f.isLt
  pointwise [joined]
  simp only [select_low, select_high, turn_apply]
  split_ifs
  all_goals first
    | (exfalso; omega)
    | exact at2 o _ _ _ _ (by dsimp only; omega) (by dsimp only; omega)
    | exact (cut_rows o _ _ _ _ (by decide)).trans (at2 o _ _ _ _ (by dsimp only; omega) (by dsimp only; omega))

/-- One sequence's output at a token and a feature. -/
theorem tile_apply (q : FVec Ideal S16x512 .f32) (k v : FVec Ideal S144x128 .f32) (g : FVec Ideal S16x512 .f32) (x : Fin 8 → EReal)
    (b : FVec Ideal S144x128 .f32) (hb : ∀ j r, b (ix2 j r) = biasTile (F := Ideal) (ix2 j r)) (h : Fin 8) (t : Fin 16) (d : Fin 64) :
    tile q k v g b (sinkRow (x 0) (x 1) (x 2) (x 3) (x 4) (x 5) (x 6) (x 7)) (ix2 t (feat h d))
      = attend (score (fun d => q (ix2 t (feat h d))) (fun j d => k (ix2 j (lane h d))) h t) (x h * (unit2 : EReal))
          (fun j => v (ix2 j (lane h d))) (g (ix2 t (feat h d))) := by
  have hs : ∀ j, scores q k b (ix2 j (col h t)) = score (fun d => q (ix2 t (feat h d))) (fun j d => k (ix2 j (lane h d))) h t j := by
    intro j
    rw [scores_apply, hb, biasTile_apply]
    refine congrArg (· + _) ?_
    have e1 : (col h t).val / 64 = h.val / 4 := by show (16 * h.val + t.val) / 64 = _; omega
    have e2 : (col h t).val / 16 = h.val := by show (16 * h.val + t.val) / 16 = _; omega
    have e3 : (col h t).val % 16 = t.val := by show (16 * h.val + t.val) % 16 = _; omega
    refine Eq.trans ?_ ((sum_half (fun n => if hn : n < 128 then k (ix2 j ⟨n, hn⟩) * q (ix2 t ⟨64 * h.val + n % 64, by omega⟩) else 0)
      (h.val / 4) (by omega)).trans (Finset.sum_congr rfl fun d _ => ?_))
    · refine Finset.sum_congr rfl fun l _ => ?_
      rw [queries_apply, e1, dif_pos l.isLt]
      split_ifs
      · exact congrArg (k (ix2 j l) * ·) (at2 q _ _ _ _ e3 (by dsimp only; rw [e2]))
      · exact mul_zero _
    · rw [dif_pos (by omega)]
      exact congrArg (k (ix2 j (lane h d)) * ·) (at2 q _ _ _ _ rfl (by dsimp only; omega))
  have ef : (feat h d).val / 64 = h.val := by show (64 * h.val + d.val) / 64 = _; omega
  unfold tile attend
  rw [gated_apply, joined_apply]
  refine congrArg (· * _) ?_
  refine (at2 _ _ (col h t) _ (lane h d) (by dsimp only; omega) (by dsimp only; omega)).trans ?_
  rw [mixed_apply]
  refine Finset.sum_congr rfl fun j _ => ?_
  rw [weights_apply, sinkRow_apply]
  simp only [hs]

end Cert.Kernel5Ideal.Attn

end
-- ==== Proof.AttnPieces.lean ====
/- The attention call's output block on the sample, at an index: 32 bands of rows, one per sequence. -/
module

public import proofs.«01_k».proof.Proof.AttnRead
public import proofs.«01_k».proof.Proof.PoolBody
public import proofs.«01_k».proof.Proof.Gen.Kernel5Ideal.Value

@[expose] public section

set_option maxRecDepth 65536

noncomputable section

namespace Cert.Kernel5Ideal.Attn

open Cert.Kernel5Ideal Cert.Kernel5Ideal.Gen Cert.AttnMath
open Idealize.ShloMosaic Idealize.ShloMosaic.TcCoe Idealize.SL.Sem

section Stores

variable {F : FTy → Type} [FloatOps F]
variable (c : Dev nD) (i : grid0.Coords) (arg1 : Memref sig .tc .smem S8 .f32) (harg1 : arg1.IsWhole) (arg2 : Memref sig .tc .vmem S512x512 .f32) (harg2 : arg2.IsWhole) (arg3 : Memref sig .tc .vmem S4608x128 .f32) (harg3 : arg3.IsWhole) (arg4 : Memref sig .tc .vmem S4608x128 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S144x128 .f32) (harg7 : arg7.IsWhole)
    (x0 : Vec F S8 .f32) (x1 : Vec F S512x512 .f32) (x2 : Vec F S4608x128 .f32) (x3 : Vec F S4608x128 .f32) (x4 : Vec F S512x512 .f32)

theorem inRows (b : Fin 32) : ∀ a, (![16 * b.val, 0] : Fin 2 → ℕ) a + S16x512.size a ≤ S512x512.size a := by
  intro a
  have := b.isLt
  match a with
  | ⟨0, _⟩ => show 16 * b.val + 16 ≤ 512; omega
  | ⟨1, _⟩ => show 0 + 512 ≤ 512; omega

theorem inKeys (b : Fin 32) : ∀ a, (![144 * b.val, 0] : Fin 2 → ℕ) a + S144x128.size a ≤ S4608x128.size a := by
  intro a
  have := b.isLt
  match a with
  | ⟨0, _⟩ => show 144 * b.val + 144 ≤ 4608; omega
  | ⟨1, _⟩ => show 0 + 128 ≤ 128; omega

theorem inSink (h : Fin 8) : ∀ a, (![h.val] : Fin 1 → ℕ) a + S1.size a ≤ S8.size a := by
  intro a
  have := h.isLt
  match a with
  | ⟨0, _⟩ => show h.val + 1 ≤ 8; omega

/-- The sink of a head, as the body loads it. -/
def sinkOf (h : Fin 8) : F .f32 :=
  View.readAt (Elt F) arg1.view (Rect.unit (s := S8) ![h.val] S1.size (inSink h)).toLoadRect (harg1.unread x0) (Shape.Idx.first (by show 0 < S1.numel; decide))

/-- What the body stores for sequence `b`. -/
def piece (b : Fin 32) : View.Piece (Elt F) S512x512 .bf16 :=
  ⟨Rect.unit (s := S512x512) ![16 * b.val, 0] S16x512.size (inRows b),
    tile (View.readAt (Elt F) arg2.view (Rect.unit (s := S512x512) ![16 * b.val, 0] S16x512.size (inRows b)).toLoadRect (harg2.unread x1))
      (View.readAt (Elt F) arg3.view (Rect.unit (s := S4608x128) ![144 * b.val, 0] S144x128.size (inKeys b)).toLoadRect (harg3.unread x2))
      (View.readAt (Elt F) arg4.view (Rect.unit (s := S4608x128) ![144 * b.val, 0] S144x128.size (inKeys b)).toLoadRect (harg4.unread x3))
      (View.readAt (Elt F) arg5.view (Rect.unit (s := S512x512) ![16 * b.val, 0] S16x512.size (inRows b)).toLoadRect (harg5.unread x4))
      (View.readCov (Val := Elt F) arg7.view [⟨Rect.unit ![0, 0] S144x128.size inb_S144x128_S144x128_0_0, shapeCast S144x128 biasTile shapeCasts_S144x128_S144x128⟩]
        (Rect.unit ![0, 0] S144x128.size inb_S144x128_S144x128_0_0).toLoadRect)
      (sinkRow (sinkOf arg1 harg1 x0 0) (sinkOf arg1 harg1 x0 1) (sinkOf arg1 harg1 x0 2) (sinkOf arg1 harg1 x0 3)
        (sinkOf arg1 harg1 x0 4) (sinkOf arg1 harg1 x0 5) (sinkOf arg1 harg1 x0 6) (sinkOf arg1 harg1 x0 7))⟩

/-- The body's stores, last first: one band of rows per sequence. -/
theorem pieces : (kernelRun0_A c i arg1 harg1 arg2 harg2 arg3 harg3 arg4 harg4 arg5 harg5 arg6 harg6 arg7 harg7 x0 x1 x2 x3 x4).1
   = [31, 30, 29, 28, 27, 26, 25, 24, 23, 22, 21, 20, 19, 18, 17, 16, 15, 14, 13, 12, 11, 10, 9, 8, 7, 6, 5, 4, 3, 2, 1, 0].map
     (piece arg1 harg1 arg2 harg2 arg3 harg3 arg4 harg4 arg5 harg5 arg7 x0 x1 x2 x3 x4) := by
  sl_kernel_rfl

end Stores

/-- Row bands of sixteen rows, one per sequence: at a band's place, what that band holds. -/
theorem canon_bands (P : Fin 32 → Vec Ideal S16x512 .bf16) (b : Fin 32) (t : Fin 16) (f : Fin 512) (j : S512x512.Idx)
    (h0 : (j 0).val = 16 * b.val + t.val) (h1 : (j 1).val = f.val) : ∀ L : List (Fin 32), b ∈ L →
    View.canon (Val := Elt Ideal) (s := S512x512) (e := .bf16) (L.map fun b => ⟨Rect.unit (s := S512x512) ![16 * b.val, 0] S16x512.size (inRows b), P b⟩) j = P b (ix2 t f)
  | [], h => absurd h List.not_mem_nil
  | a :: L, h => by
    by_cases e : b = a
    · subst e
      have ej : j = (Rect.unit (s := S512x512) ![16 * b.val, 0] S16x512.size (inRows b)).emb (ix2 t f) := by
        funext a
        refine Fin.ext ((?_ : _ = _).trans (Rect.idx_unit_val _ _ _ _ a).symm)
        match a with
        | ⟨0, _⟩ => exact h0
        | ⟨1, _⟩ => exact h1.trans (Nat.zero_add _).symm
      rw [ej, List.map_cons, View.canon_cons_emb]
    · have hne : b.val ≠ a.val := fun h => e (Fin.ext h)
      have ht := t.isLt
      rw [List.map_cons, View.canon_cons_of_not_mem _ _ (by
        rw [Rect.mem_set_unit]
        intro hm
        have := hm 0
        change 16 * a.val ≤ (j 0).val ∧ (j 0).val < 16 * a.val + 16 at this
        omega)]
      exact canon_bands P b t f j h0 h1 L ((List.mem_cons.1 h).resolve_left e)

/-- The scratch that holds the bias, read back. -/
theorem bias_back (arg7 : Memref sig .tc .vmem S144x128 .f32) :
    View.readCov (Val := Elt Ideal) arg7.view [⟨Rect.unit ![0, 0] S144x128.size inb_S144x128_S144x128_0_0, shapeCast S144x128 (biasTile (F := Ideal)) shapeCasts_S144x128_S144x128⟩]
        (Rect.unit ![0, 0] S144x128.size inb_S144x128_S144x128_0_0).toLoadRect = shapeCast S144x128 (biasTile (F := Ideal)) shapeCasts_S144x128_S144x128 := by
  rw [View.readCov_eq_canon', View.canon_cons_unit_zero Cert.KernelIdeal.Pool.zero2]
  exact Cert.KernelIdeal.Pool.ld2 _ _

theorem cast_self (A : S144x128.Idx → EReal) (j : Fin 144) (r : Fin 128) : shapeCast S144x128 A shapeCasts_S144x128_S144x128 (ix2 j r) = A (ix2 j r) := by
  pointwise []

theorem rows_apply (arg : Memref sig .tc .vmem S512x512 .f32) (harg : arg.IsWhole) (x : Vec Ideal S512x512 .f32) (b : Fin 32) (t : Fin 16) (f : Fin 512) :
    View.readAt (Elt Ideal) arg.view (Rect.unit (s := S512x512) ![16 * b.val, 0] S16x512.size (inRows b)).toLoadRect (harg.unread x) (ix2 t f) = x (ix2 ⟨16 * b.val + t.val, by omega⟩ f) := by
  rw [View.readAt_eq_ld, Memref.IsWhole.read_unread]
  exact View.ld_unit_apply_of x _ _ _ _ _ fun a => match a with
    | ⟨0, _⟩ => rfl
    | ⟨1, _⟩ => (Nat.zero_add _).symm

theorem keys_apply (arg : Memref sig .tc .vmem S4608x128 .f32) (harg : arg.IsWhole) (x : Vec Ideal S4608x128 .f32) (b : Fin 32) (j : Fin 144) (l : Fin 128) :
    View.readAt (Elt Ideal) arg.view (Rect.unit (s := S4608x128) ![144 * b.val, 0] S144x128.size (inKeys b)).toLoadRect (harg.unread x) (ix2 j l) = x (ix2 ⟨144 * b.val + j.val, by omega⟩ l) := by
  rw [View.readAt_eq_ld, Memref.IsWhole.read_unread]
  exact View.ld_unit_apply_of x _ _ _ _ _ fun a => match a with
    | ⟨0, _⟩ => rfl
    | ⟨1, _⟩ => (Nat.zero_add _).symm

theorem sinkOf_apply (arg1 : Memref sig .tc .smem S8 .f32) (harg1 : arg1.IsWhole) (x0 : Vec Ideal S8 .f32) (h : Fin 8) :
    sinkOf arg1 harg1 x0 h = x0 (ix1 h) := by
  unfold sinkOf
  rw [View.readAt_eq_ld, Memref.IsWhole.read_unread]
  exact View.ld_unit_apply_of x0 _ _ _ _ _ fun a => match a with
    | ⟨0, _⟩ => by show h.val = h.val + _; rfl

/-- A sequence's tile over what its operands hold. -/
theorem tile_of (q : FVec Ideal S16x512 .f32) (k v : FVec Ideal S144x128 .f32) (g : FVec Ideal S16x512 .f32) (x : Fin 8 → EReal)
    (b : FVec Ideal S144x128 .f32) (hb : ∀ j r, b (ix2 j r) = biasTile (F := Ideal) (ix2 j r)) (h : Fin 8) (t : Fin 16) (d : Fin 64)
    (q' : Fin 64 → EReal) (k' : Fin 144 → Fin 64 → EReal) (v' : Fin 144 → EReal) (g' x' : EReal)
    (hq : ∀ d, q (ix2 t (feat h d)) = q' d) (hk : ∀ j d, k (ix2 j (lane h d)) = k' j d) (hv : ∀ j, v (ix2 j (lane h d)) = v' j)
    (hg : g (ix2 t (feat h d)) = g') (hx : x h = x') :
    tile q k v g b (sinkRow (x 0) (x 1) (x 2) (x 3) (x 4) (x 5) (x 6) (x 7)) (ix2 t (feat h d)) = attend (score q' k' h t) (x' * (unit2 : EReal)) v' g' := by
  rw [tile_apply q k v g x b hb, hg, hx, funext hq, funext hv, show (fun j d => k (ix2 j (lane h d))) = k' from funext fun j => funext fun d => hk j d]

variable (c : Dev nD) (i : grid0.Coords) (arg1 : Memref sig .tc .smem S8 .f32) (harg1 : arg1.IsWhole) (arg2 : Memref sig .tc .vmem S512x512 .f32) (harg2 : arg2.IsWhole) (arg3 : Memref sig .tc .vmem S4608x128 .f32) (harg3 : arg3.IsWhole) (arg4 : Memref sig .tc .vmem S4608x128 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S144x128 .f32) (harg7 : arg7.IsWhole)
    (x0 : Vec Ideal S8 .f32) (x1 : Vec Ideal S512x512 .f32) (x2 : Vec Ideal S4608x128 .f32) (x3 : Vec Ideal S4608x128 .f32) (x4 : Vec Ideal S512x512 .f32)

/-- What the body leaves in the output block. -/
theorem out_apply (b : Fin 32) (t : Fin 16) (h : Fin 8) (d : Fin 64) :
    out0_A_5 c i arg1 harg1 arg2 harg2 arg3 harg3 arg4 harg4 arg5 harg5 arg6 harg6 arg7 harg7 x0 x1 x2 x3 x4 (ix2 ⟨16 * b.val + t.val, by omega⟩ (feat h d))
      = attend (score (fun d => x1 (ix2 ⟨16 * b.val + t.val, by omega⟩ (feat h d))) (fun j d => x2 (ix2 ⟨144 * b.val + j.val, by omega⟩ (lane h d))) h t)
          (x0 (ix1 h) * (unit2 : EReal)) (fun j => x3 (ix2 ⟨144 * b.val + j.val, by omega⟩ (lane h d))) (x4 (ix2 ⟨16 * b.val + t.val, by omega⟩ (feat h d))) := by
  unfold out0_A_5
  rw [View.read_writes_eq_canon _ _ _ (cover0_A_5 c i arg1 harg1 arg2 harg2 arg3 harg3 arg4 harg4 arg5 harg5 arg6 harg6 arg7 harg7 x0 x1 x2 x3 x4), pieces]
  refine (canon_bands (fun b => (piece arg1 harg1 arg2 harg2 arg3 harg3 arg4 harg4 arg5 harg5 arg7 x0 x1 x2 x3 x4 b).2) b t (feat h d) _ rfl rfl _ (by
    revert b; decide)).trans ?_
  exact tile_of _ _ _ _ (sinkOf arg1 harg1 x0) _ (fun j r => (congrFun (bias_back arg7) (ix2 j r)).trans (cast_self _ j r)) h t d _ _ _ _ _
    (fun d => rows_apply arg2 harg2 x1 b t (feat h d)) (fun j d => keys_apply arg3 harg3 x2 b j (lane h d)) (fun j => keys_apply arg4 harg4 x3 b j (lane h d))
    (rows_apply arg5 harg5 x4 b t (feat h d)) (sinkOf_apply arg1 harg1 x0 h)

end Cert.Kernel5Ideal.Attn

end
-- ==== Proof.AttnKernel.lean ====
/-
  The attention kernel's result on the sample, at an index, over its argument arrays.
-/
module

public import proofs.«01_k».proof.Proof.AttnPieces
public import Idealize.ShloMosaic.Lib.Pipeline.ValueKit.Point
public import Idealize.ShloMosaic.Lib.Claim

@[expose] public section

set_option maxRecDepth 16384

noncomputable section

namespace Cert.Kernel5Ideal.Attn

open Cert.Kernel5Ideal Cert.Kernel5Ideal.Gen Cert.AttnMath
open Idealize.ShloMosaic Idealize.ShloMosaic.TcCoe Idealize.SL.Sem

/-- Every window's place at the one grid point. -/
theorem idx : ∀ t : Fin cfg0.N,
    win0_0.index t = ![0] ∧ win0_1.index t = ![0, 0] ∧ win0_2.index t = ![0, 0] ∧ win0_3.index t = ![0, 0] ∧
    win0_4.index t = ![0, 768] ∧ win0_5.index t = ![0, 0] := by decide +kernel

variable (m : (ℓ : Loc nD τ sig) → Buf (Elt Ideal) ℓ) (c : Dev nD)

abbrev A0 : S512x3456.Idx → EReal := m ((c : Thread nD τ).loc main_arg0)
abbrev A1 : S1x32x128x2x64.Idx → EReal := m ((c : Thread nD τ).loc main_arg1)
abbrev A2 : S1x32x128x2x64.Idx → EReal := m ((c : Thread nD τ).loc main_arg2)
abbrev A3 : S1x8.Idx → EReal := m ((c : Thread nD τ).loc main_arg3)

/-- The keys as the region finds them: per sequence the cache's, then the projection's. -/
theorem V10 : (V m c main_v10 : S4608x128.Idx → EReal) = shapeCast S4608x128 (concatenate S32x144x128 1
    [⟨S32x128x128, shapeCast S32x128x128 (shapeCast S32x128x2x64 (A1 m c) shapeCasts_S1x32x128x2x64_S32x128x2x64) shapeCasts_S32x128x2x64_S32x128x128⟩,
     ⟨S32x16x128, shapeCast S32x16x128 (extractStridedSlice S512x128 ![0, 512] (A0 m c) slices_S512x3456_S512x128_0_512) shapeCasts_S512x128_S32x16x128⟩]
    concatenates_S32x128x128_S32x16x128_S32x144x128_d1) shapeCasts_S32x144x128_S4608x128 := by
  unfold V
  entry_read
  rfl

/-- The values likewise. -/
theorem V11 : (V m c main_v11 : S4608x128.Idx → EReal) = shapeCast S4608x128 (concatenate S32x144x128 1
    [⟨S32x128x128, shapeCast S32x128x128 (shapeCast S32x128x2x64 (A2 m c) shapeCasts_S1x32x128x2x64_S32x128x2x64) shapeCasts_S32x128x2x64_S32x128x128⟩,
     ⟨S32x16x128, shapeCast S32x16x128 (extractStridedSlice S512x128 ![0, 640] (A0 m c) slices_S512x3456_S512x128_0_640) shapeCasts_S512x128_S32x16x128⟩]
    concatenates_S32x128x128_S32x16x128_S32x144x128_d1) shapeCasts_S32x144x128_S4608x128 := by
  unfold V
  entry_read
  rfl

theorem V12 : (V m c main_v12 : S8.Idx → EReal) = shapeCast S8 (A3 m c) shapeCasts_S1x8_S8 := by
  unfold V
  entry_read
  rfl

theorem V0 : (V m c main_arg0 : S512x3456.Idx → EReal) = A0 m c := by
  unfold V
  entry_read
  rfl

/-- Where a row of the joined array comes from. -/
theorem join_apply (z : S512x3456.Idx → EReal) (a : S1x32x128x2x64.Idx → EReal) (o : ℕ) (ho : o ≤ 640) (hs : S512x3456.Slices ![0, o] S512x128)
    (b : Fin 32) (j : Fin 144) (R : Fin 4608) (l : Fin 128) (g : Fin 2) (d : Fin 64) (hR : R.val = 144 * b.val + j.val) (hl : l.val = 64 * g.val + d.val) :
    shapeCast S4608x128 (concatenate S32x144x128 1
      [⟨S32x128x128, shapeCast S32x128x128 (shapeCast S32x128x2x64 a shapeCasts_S1x32x128x2x64_S32x128x2x64) shapeCasts_S32x128x2x64_S32x128x128⟩,
       ⟨S32x16x128, shapeCast S32x16x128 (extractStridedSlice S512x128 ![0, o] z hs) shapeCasts_S512x128_S32x16x128⟩]
      concatenates_S32x128x128_S32x16x128_S32x144x128_d1) shapeCasts_S32x144x128_S4608x128 (ix2 R l) = past z a o ho b j g d := by
  pointwise []
  have hj := j.isLt
  have hd := d.isLt
  have e1 : R.val / 144 = b.val := by omega
  have e2 : R.val % 144 = j.val := by omega
  have e3 : l.val / 64 = g.val := by omega
  have e4 : l.val % 64 = d.val := by omega
  unfold past
  by_cases h : j.val < 128
  · refine (dif_pos (by omega)).trans (Eq.trans ?_ (dif_pos h).symm)
    congr 1
    funext x
    match x with
    | ⟨0, _⟩ => rfl
    | ⟨1, _⟩ => exact Fin.ext e1
    | ⟨2, _⟩ => exact Fin.ext e2
    | ⟨3, _⟩ => exact Fin.ext e3
    | ⟨4, _⟩ => exact Fin.ext e4
  · refine (dif_neg (by omega)).trans (Eq.trans ?_ (dif_neg h).symm)
    exact at2 z _ _ _ _ (by dsimp only; omega) (by dsimp only; omega)

theorem cut12 (a : S1x8.Idx → EReal) (h : Fin 8) : shapeCast S8 a shapeCasts_S1x8_S8 (ix1 h) = a (ix2 0 h) := by
  pointwise []

theorem blk0 (t : Fin cfg0.N) (h : Fin 8) : iblk m c 0 t (ix1 h) = A3 m c (ix2 0 h) := by
  refine Eq.trans ?_ ((congrFun (V12 m c) (ix1 h)).trans (cut12 _ h))
  blk_ext [iblk, idx t]

theorem blk1 (t : Fin cfg0.N) (i f : Fin 512) (f' : Fin 3456) (hf : f'.val = f.val) : iblk m c 1 t (ix2 i f) = A0 m c (ix2 i f') := by
  refine Eq.trans ?_ (congrFun (V0 m c) (ix2 i f'))
  blk_ext [iblk, idx t]
  · show win0_1.index t 0 + 1 * i.val = i.val
    rw [(idx t).2.1]
    show 0 + 1 * i.val = i.val
    omega
  · show win0_1.index t 1 + 1 * f.val = f'.val
    rw [(idx t).2.1]
    show 0 + 1 * f.val = f'.val
    omega

theorem blk4 (t : Fin cfg0.N) (i f : Fin 512) (f' : Fin 3456) (hf : f'.val = 768 + f.val) : iblk m c 4 t (ix2 i f) = A0 m c (ix2 i f') := by
  refine Eq.trans ?_ (congrFun (V0 m c) (ix2 i f'))
  blk_ext [iblk, idx t]
  · show win0_4.index t 0 + 1 * i.val = i.val
    rw [(idx t).2.2.2.2.1]
    show 0 + 1 * i.val = i.val
    omega
  · show win0_4.index t 1 + 1 * f.val = f'.val
    rw [(idx t).2.2.2.2.1]
    show 768 + 1 * f.val = f'.val
    omega

theorem blk2 (t : Fin cfg0.N) (b : Fin 32) (j : Fin 144) (R : Fin 4608) (l : Fin 128) (g : Fin 2) (d : Fin 64) (hR : R.val = 144 * b.val + j.val) (hl : l.val = 64 * g.val + d.val) :
    iblk m c 2 t (ix2 R l) = past (A0 m c) (A1 m c) 512 (by norm_num) b j g d := by
  refine Eq.trans ?_ ((congrFun (V10 m c) (ix2 R l)).trans (join_apply _ _ 512 _ _ b j R l g d hR hl))
  blk_ext [iblk, idx t]

theorem blk3 (t : Fin cfg0.N) (b : Fin 32) (j : Fin 144) (R : Fin 4608) (l : Fin 128) (g : Fin 2) (d : Fin 64) (hR : R.val = 144 * b.val + j.val) (hl : l.val = 64 * g.val + d.val) :
    iblk m c 3 t (ix2 R l) = past (A0 m c) (A2 m c) 640 (by norm_num) b j g d := by
  refine Eq.trans ?_ ((congrFun (V11 m c) (ix2 R l)).trans (join_apply _ _ 640 _ _ b j R l g d hR hl))
  blk_ext [iblk, idx t]

theorem oblk5 (t : Fin cfg0.N) (X : S512x512.Idx → EReal) (i f : Fin 512) :
    ((cfg0.win 5).blk t).view.read (Elt Ideal) X (ix2 i f) = X (ix2 i f) := by
  blk_ext! [idx t]

/-- The kernel's result. -/
theorem result5_apply (b : Fin 32) (t : Fin 16) (h : Fin 8) (d : Fin 64) :
    (dats m 0 c).arrAt 5 cfg0.N (ix2 ⟨16 * b.val + t.val, by omega⟩ (feat h d)) = yAt (A0 m c) (A1 m c) (A2 m c) (A3 m c) b t h d := by
  let p : Fin cfg0.N := ⟨0, by decide⟩
  refine (oblk5 p ((dats m 0 c).arrAt 5 cfg0.N) _ _).symm.trans ?_
  rw [Value.blocks5 m c p (flush0_5 p), Value.flushed5_A]
  refine (out_apply ..).trans ?_
  unfold yAt scoreAt
  rw [blk0 m c p h, blk4 m c p _ _ ⟨768 + (64 * h.val + d.val), by omega⟩ rfl,
    show (fun d => iblk m c 1 p (ix2 ⟨16 * b.val + t.val, by omega⟩ (feat h d))) = fun d => A0 m c (ix2 ⟨16 * b.val + t.val, by omega⟩ ⟨64 * h.val + d.val, by omega⟩) from
      funext fun d => blk1 m c p _ _ _ rfl,
    show (fun j d => iblk m c 2 p (ix2 ⟨144 * b.val + j.val, by omega⟩ (lane h d))) = fun j d => past (A0 m c) (A1 m c) 512 (by norm_num) b j (grp h) d from
      funext fun j => funext fun d => blk2 m c p b j _ _ (grp h) d rfl rfl,
    show (fun j => iblk m c 3 p (ix2 ⟨144 * b.val + j.val, by omega⟩ (lane h d))) = fun j => past (A0 m c) (A2 m c) 640 (by norm_num) b j (grp h) d from
      funext fun j => blk3 m c p b j _ _ (grp h) d rfl rfl]

end Cert.Kernel5Ideal.Attn

end
-- ==== Proof.AttnRef.lean ====
/-
  The attention reference's result on the sample, at an index, over its argument arrays: the same `Cert.AttnMath` entry the kernel's
  result is, where the arrays are finite.
-/
module

public import proofs.«01_k».proof.Proof.AttnMath
public import proofs.«01_k».proof.Proof.Gen.Reference5Ideal.Read

@[expose] public section

set_option maxRecDepth 16384

noncomputable section

namespace Cert.Reference5Ideal.Attn

open Cert.Reference5Ideal Cert.Reference5Ideal.Read Cert.AttnMath
open Idealize.ShloMosaic Idealize.ShloMosaic.TcCoe Idealize.SL.Sem

/-- The head within its group. -/
abbrev sub4 (h : Fin 8) : Fin 4 := ⟨h.val % 4, by omega⟩

theorem word_two : Ideal.ofBits .f32 0x40000000#32 = ((2 : ℝ) : EReal) := by
  simp [Ideal.ofBits, Ideal.ieee]
  rw [← EReal.coe_mul]
  norm_num [zpow_neg]

theorem word_neg_eight : Ideal.ofBits .f32 0xC1000000#32 = ((-8 : ℝ) : EReal) := by
  simp [Ideal.ofBits, Ideal.ieee]
  rw [← EReal.coe_mul]
  norm_num [zpow_neg]

theorem word_eight : Ideal.ofBits .f32 0x41000000#32 = ((8 : ℝ) : EReal) := by
  simp [Ideal.ofBits, Ideal.ieee]
  rw [← EReal.coe_mul]
  norm_num [zpow_neg]

theorem dist_word (t : Fin 16) (j : Fin 144) :
    (IntOp.absi (IntOp.subi (IntOp.addi (2048#32) (BitVec.ofNat 32 t.val)) (IntOp.addi (1920#32) (BitVec.ofNat 32 j.val)))).toInt
      = |(t.val : ℤ) + 128 - j.val| := by
  revert t j
  decide +kernel

theorem head_word (h : Fin 8) : (BitVec.ofNat 32 (h.val)).toInt = (h.val : ℤ) := by
  revert h
  decide

/-- A head's slope. -/
theorem slope (h : Fin 8) : Ideal.pow ((2 : ℝ) : EReal) (Ideal.div (((-8 : ℝ) : EReal) * (1 + (((h.val : ℤ) : ℝ) : EReal))) ((8 : ℝ) : EReal))
    = (((1 / 2 : ℝ) ^ (h.val + 1) : ℝ) : EReal) := by
  have e : Ideal.div (((-8 : ℝ) : EReal) * (1 + (((h.val : ℤ) : ℝ) : EReal))) ((8 : ℝ) : EReal) = ((-((h.val + 1 : ℕ) : ℝ) : ℝ) : EReal) := by
    unfold Ideal.div
    rw [if_neg (by norm_num), ← EReal.coe_one, ← EReal.coe_add, ← EReal.coe_mul, ← EReal.coe_inv, ← EReal.coe_mul]
    refine congrArg (fun x : ℝ => (x : EReal)) ?_
    push_cast
    ring
  rw [e, pow_two, Ideal.exp2_coe]
  refine congrArg (fun x : ℝ => (x : EReal)) ?_
  show (2 : ℝ) ^ (-((h.val + 1 : ℕ) : ℝ)) = _
  rw [Real.rpow_neg (by norm_num), Real.rpow_natCast, one_div, inv_pow]

variable (z : (⟨S512x3456, .f32⟩ : BufTy).Contents (Elt Ideal)) (ck cv : (⟨S1x32x128x2x64, .f32⟩ : BufTy).Contents (Elt Ideal))
  (sk : (⟨S1x8, .f32⟩ : BufTy).Contents (Elt Ideal))

theorem at2 {n m : ℕ} (x : (⟨2, ![n, m]⟩ : Shape).Idx → EReal) (a a' : Fin n) (b b' : Fin m) (ha : a.val = a'.val) (hb : b.val = b'.val) :
    x (ix2 a b) = x (ix2 a' b') := by
  rw [Fin.ext ha, Fin.ext hb]

theorem at4 {n m k l : ℕ} (x : (⟨4, ![n, m, k, l]⟩ : Shape).Idx → EReal) (a : Fin n) (b : Fin m) (c c' : Fin k) (d d' : Fin l)
    (hc : c.val = c'.val) (hd : d.val = d'.val) : x (ix4 a b c d) = x (ix4 a b c' d') := by
  rw [Fin.ext hc, Fin.ext hd]

theorem at5 {n m k l o : ℕ} (x : (⟨5, ![n, m, k, l, o]⟩ : Shape).Idx → EReal) (a : Fin n) (b b' : Fin m) (c c' : Fin k) (d : Fin l) (e : Fin o)
    (hb : b.val = b'.val) (hc : c.val = c'.val) : x (ix5 a b c d e) = x (ix5 a b' c' d e) := by
  rw [Fin.ext hb, Fin.ext hc]

theorem v2_apply (b : Fin 32) (t : Fin 16) (h : Fin 8) (d : Fin 64) : val_main_v2 (F := Ideal) z (ix5 b t (grp h) (sub4 h) d)
    = z (ix2 ⟨16 * b.val + t.val, by omega⟩ ⟨64 * h.val + d.val, by omega⟩) := by
  pointwise [val_main_v2, val_main_v1, val_main_v0]
  exact at2 z _ _ _ _ (by dsimp only; omega) (by dsimp only; omega)

theorem v6_apply (b : Fin 32) (j : Fin 144) (g : Fin 2) (d : Fin 64) : val_main_v6 (F := Ideal) z ck (ix4 b j g d) = past z ck 512 (by norm_num) b j g d := by
  pointwise [val_main_v6, val_main_v3, val_main_v5, val_main_v4, val_main_v0]
  unfold past
  by_cases hj : j.val < 128
  · refine (dif_pos hj).trans (Eq.trans ?_ (dif_pos hj).symm)
    rfl
  · refine (dif_neg hj).trans (Eq.trans ?_ (dif_neg hj).symm)
    exact at2 z _ _ _ _ (by dsimp only; omega) (by dsimp only; omega)

theorem v10_apply (b : Fin 32) (j : Fin 144) (g : Fin 2) (d : Fin 64) : val_main_v10 (F := Ideal) z cv (ix4 b j g d) = past z cv 640 (by norm_num) b j g d := by
  pointwise [val_main_v10, val_main_v7, val_main_v9, val_main_v8, val_main_v0]
  unfold past
  by_cases hj : j.val < 128
  · refine (dif_pos hj).trans (Eq.trans ?_ (dif_pos hj).symm)
    rfl
  · refine (dif_neg hj).trans (Eq.trans ?_ (dif_neg hj).symm)
    exact at2 z _ _ _ _ (by dsimp only; omega) (by dsimp only; omega)

theorem v48_apply (h : Fin 8) (t : Fin 16) (j : Fin 144) : val_main_v48 (F := Ideal) (ix4 (grp h) (sub4 h) t j) = ((-penalty h t j : ℝ) : EReal) := by
  pointwise [val_main_v48, val_main_v47, val_main_v46, val_main_v45, val_main_v44, val_main_v43, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_c, val_main_c_0, val_main_cst, val_main_cst_1, val_main_cst_2, val_main_cst_3, val_main_cst_4]
  have e1 : (FloatOps.sitofp (F := Ideal) FTy.f32 (BitVec.ofNat 32 (h.val)) : EReal) = (((h.val : ℤ) : ℝ) : EReal) :=
    congrArg (fun n : ℤ => ((n : ℝ) : EReal)) (head_word h)
  have e2 : (FloatOps.sitofp (F := Ideal) FTy.f32 (IntOp.absi (IntOp.subi (IntOp.addi (2048#32) (BitVec.ofNat 32 t.val)) (IntOp.addi (1920#32) (BitVec.ofNat 32 j.val)))) : EReal)
      = (((|(t.val : ℤ) + 128 - j.val| : ℤ) : ℝ) : EReal) := congrArg (fun n : ℤ => ((n : ℝ) : EReal)) (dist_word t j)
  rw [e1, e2, word_two, word_neg_eight, word_eight, slope, word_unit2, ← EReal.coe_mul, ← EReal.coe_mul]
  unfold penalty
  refine congrArg (fun x : ℝ => (x : EReal)) ?_
  push_cast
  ring

theorem v40_apply (h : Fin 8) : val_main_v40 (F := Ideal) sk (ix4 (grp h) (sub4 h) 0 0) = sk (ix2 0 h) * (unit2 : EReal) := by
  pointwise [val_main_v40, val_main_v39, val_main_v38, val_main_v37, val_main_v36, val_main_cst_5]
  rw [word_unit2]

theorem v51_apply (b : Fin 32) (h : Fin 8) (t : Fin 16) (j : Fin 144) : val_main_v51 (F := Ideal) z ck (ix5 b (grp h) (sub4 h) t j) = scoreAt z ck b h t j := by
  have eK := v6_apply z ck
  have eQ := v2_apply z
  have eD := v48_apply
  unfold val_main_v51 val_main_v42 val_main_v41 val_main_v50 val_main_v49
  generalize val_main_v6 (F := Ideal) z ck = K at eK ⊢
  generalize val_main_v2 (F := Ideal) z = Q at eQ ⊢
  generalize val_main_v48 (F := Ideal) = D at eD ⊢
  pointwise []
  simp only [eK, eQ, eD]
  rw [sub_eq_add_neg, ← EReal.coe_neg, neg_neg]
  rfl

theorem v56_apply (b : Fin 32) (h : Fin 8) (t : Fin 16) : val_main_v56 (F := Ideal) z ck sk (ix5 b (grp h) (sub4 h) t 0)
    = peak (scoreAt z ck b h t) (sk (ix2 0 h) * (unit2 : EReal)) := by
  have eS := v51_apply z ck b h t
  have eT := v40_apply sk h
  unfold val_main_v56 val_main_v53 val_main_v52 val_main_v55 val_main_v54
  generalize val_main_v51 (F := Ideal) z ck = S at eS ⊢
  generalize val_main_v40 (F := Ideal) sk = T at eT ⊢
  pointwise [val_main_cst_6]
  simp only [eS, eT]
  rfl

theorem v60_apply (b : Fin 32) (h : Fin 8) (t : Fin 16) (j : Fin 144) : val_main_v60 (F := Ideal) z ck sk (ix5 b (grp h) (sub4 h) t j)
    = Ideal.exp2 (scoreAt z ck b h t j - peak (scoreAt z ck b h t) (sk (ix2 0 h) * (unit2 : EReal))) := by
  have eM := v56_apply z ck sk b h t
  have eS := v51_apply z ck b h t
  unfold val_main_v60 val_main_v58 val_main_v57
  generalize val_main_v56 (F := Ideal) z ck sk = M at eM ⊢
  generalize val_main_v51 (F := Ideal) z ck = S at eS ⊢
  pointwise [val_main_v59, val_main_cst_7]
  rw [word_two, pow_two, eS, eM]

theorem v68_apply (b : Fin 32) (h : Fin 8) (t : Fin 16) : val_main_v68 (F := Ideal) z ck sk (ix5 b (grp h) (sub4 h) t 0)
    = mass (scoreAt z ck b h t) (sk (ix2 0 h) * (unit2 : EReal)) := by
  have eP := v60_apply z ck sk b h t
  have eM := v56_apply z ck sk b h t
  have eT := v40_apply sk h
  unfold val_main_v68 val_main_v67 val_main_v65 val_main_v64 val_main_v63 val_main_v62 val_main_v61
  generalize val_main_v60 (F := Ideal) z ck sk = P at eP ⊢
  generalize val_main_v56 (F := Ideal) z ck sk = M at eM ⊢
  generalize val_main_v40 (F := Ideal) sk = T at eT ⊢
  pointwise [val_main_v66, val_main_cst_8, val_main_cst_9]
  rw [word_two, pow_two, eT, eM]
  simp only [eP]
  rfl

theorem v73_apply (hz : ∀ i f, f.val < 640 → IsReal (z (ix2 i f))) (hk : ∀ i, IsReal (ck i)) (hs : ∀ i, IsReal (sk i)) (b : Fin 32) (t : Fin 16) (h : Fin 8) (d : Fin 64) (f : Fin 512)
    (hf : f.val = 64 * h.val + d.val) : val_main_v73 (F := Ideal) z ck cv sk (ix3 b t f)
    = ∑ j, Ideal.exp2 (scoreAt z ck b h t j - peak (scoreAt z ck b h t) (sk (ix2 0 h) * (unit2 : EReal)))
        * Ideal.div 1 (mass (scoreAt z ck b h t) (sk (ix2 0 h) * (unit2 : EReal))) * past z cv 640 (by norm_num) b j (grp h) d := by
  have eP := v60_apply z ck sk b h t
  have eM := v68_apply z ck sk b h t
  have eV := v10_apply z cv b
  have h0 : mass (scoreAt z ck b h t) (sk (ix2 0 h) * (unit2 : EReal)) ≠ 0 :=
    mass_ne_zero _ _ (scoreAt_real z ck hz hk b h t) ((hs _).mul (IsReal.coe _))
  unfold val_main_v73 val_main_v72 val_main_v71 val_main_v70 val_main_v69
  generalize val_main_v60 (F := Ideal) z ck sk = P at eP ⊢
  generalize val_main_v68 (F := Ideal) z ck sk = M at eM ⊢
  generalize val_main_v10 (F := Ideal) z cv = V at eV ⊢
  pointwise []
  have e1 : f.val / 256 = h.val / 4 := by omega
  have e2 : f.val / 64 % 4 = h.val % 4 := by omega
  have e3 : f.val % 64 = d.val := by omega
  refine Finset.sum_congr rfl fun j _ => ?_
  refine (congrArg₂ (fun a b : EReal => a * b) ((at4 V _ _ _ _ _ _ e1 e3).trans (eV j (grp h) d))
    (congrArg₂ Ideal.div ((at5 P _ _ _ _ _ _ _ e1 e2).trans (eP j)) ((at5 M _ _ _ _ _ _ _ e1 e2).trans eM))).trans ?_
  show past z cv 640 _ b j (grp h) d * Ideal.div _ _ = _
  rw [mul_comm, div_eq_mul _ _ h0]

theorem v74_apply (b : Fin 32) (t : Fin 16) (h : Fin 8) (d : Fin 64) (f : Fin 512) (hf : f.val = 64 * h.val + d.val) : val_main_v74 (F := Ideal) z (ix3 b t f)
    = silu (z (ix2 ⟨16 * b.val + t.val, by omega⟩ ⟨768 + (64 * h.val + d.val), by omega⟩)) := by
  pointwise [val_main_v74, val_main_call0_v5, val_main_call0_v4, val_main_call0_v3, val_main_call0_v2, val_main_call0_v1, val_main_call0_v0, val_main_call0_cst, val_main_call0_cst_0, val_main_v11, val_main_v0]
  rw [at2 z ⟨b.val * 16 + t.val, by omega⟩ ⟨16 * b.val + t.val, by omega⟩ ⟨768 + f.val, by omega⟩ ⟨768 + (64 * h.val + d.val), by omega⟩
    (by dsimp only; omega) (by dsimp only; omega)]
  unfold silu
  rw [zero_sub]

/-- The reference's result. -/
theorem v77_apply (hz : ∀ i f, f.val < 640 → IsReal (z (ix2 i f))) (hk : ∀ i, IsReal (ck i)) (hs : ∀ i, IsReal (sk i)) (b : Fin 32) (t : Fin 16) (h : Fin 8) (d : Fin 64)
    (i f : Fin 512) (hi : i.val = 16 * b.val + t.val) (hf : f.val = 64 * h.val + d.val) :
    val_main_v77 (F := Ideal) z ck cv sk (ix2 i f) = yAt z ck cv sk b t h d := by
  have eO := v73_apply z ck cv sk hz hk hs b t h d f hf
  have eG := v74_apply z b t h d f hf
  unfold val_main_v77 val_main_v76 val_main_v75
  generalize val_main_v73 (F := Ideal) z ck cv sk = O at eO ⊢
  generalize val_main_v74 (F := Ideal) z = G at eG ⊢
  pointwise []
  have e1 : (⟨i.val / 16, by omega⟩ : Fin 32) = b := Fin.ext (by dsimp only; omega)
  have e2 : (⟨i.val % 16, by omega⟩ : Fin 16) = t := Fin.ext (by dsimp only; omega)
  rw [e1, e2, eO, eG]
  rfl

end Cert.Reference5Ideal.Attn

end
-- ==== Proof.AttnClaim.lean ====
/- The attention call on the sample: its frames, and its result against the reference's where the arrays are finite. -/
module

public import proofs.«01_k».proof.Defs
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.AttnKernel
public import proofs.«01_k».proof.Proof.AttnRef
public import Idealize.ShloMosaic.Lib.ReduceAll
public import Idealize.ShloMosaic.Adequacy

@[expose] public section

noncomputable section

namespace Cert.Proof

open Idealize.ShloMosaic Idealize.ShloMosaic.StableHlo Idealize.SL.Sem Cert.AttnMath

/-- The side conditions of the precondition's operations. -/
theorem facts_finite5 : Cert.Pre_finite5.Facts where
  slices_S512x3456_S512x640_0_0 := by decide
  bcast_S_S512x640 := by decide
  reducesTo_S512x640_S_d0_1 := by decide
  h_S_ := by decide
  bcast_S_S1x32x128x2x64 := by decide
  reducesTo_S1x32x128x2x64_S_d0_1_2_3_4 := by decide
  bcast_S_S1x8 := by decide
  reducesTo_S1x8_S_d0_1 := by decide

theorem frame_Kernel5 : Cert.quiescent_Kernel5 := fun m ρ _ => Cert.Kernel5.Gen.frame m ρ

theorem frame_Kernel5Ideal : Cert.quiescent_Kernel5Ideal := fun m ρ _ => Cert.Kernel5Ideal.Gen.frame m ρ

theorem frame_Kernel5Ideal_finite5 [Cert.Pre_finite5.Facts] : Cert.quiescent_Kernel5Ideal_pre_finite5 := fun m ρ _ => Cert.Kernel5Ideal.Gen.frame m ρ

theorem frame_Reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem frame_Reference5Ideal_finite5 [Cert.Pre_finite5.Facts] : Cert.quiescent_Reference5Ideal_pre_finite5 := fun m ρ _ => frame_Reference5Ideal m ρ trivial

/-- Below infinity in absolute value is a real. -/
theorem real_of_abs (x : EReal) (h : FloatOps.cmpf (F := Ideal) .olt (FloatOps.hostAbsf (F := Ideal) (φ := .f32) x) (Ideal.ofBits .f32 0x7F800000#32) = 1#1) : IsReal x := by
  have hinf : Ideal.ofBits .f32 0x7F800000#32 = ⊤ := by simp [Ideal.ofBits, Ideal.ieee]
  change Ideal.cmp .olt (max x (-x)) (Ideal.ofBits .f32 0x7F800000#32) = 1#1 at h
  rw [hinf] at h
  induction x with
  | bot => simp [Ideal.cmp] at h
  | top => simp [Ideal.cmp] at h
  | coe r => exact ⟨r, rfl⟩

instance : Subsingleton Cert.Pre_finite5.S_.Idx := ⟨fun a b => funext fun i => i.elim0⟩

/-- What the precondition says. -/
theorem finite5_reads [Cert.Pre_finite5.Facts] (z : FVec Ideal Cert.Pre_finite5.S512x3456 .f32) (ck cv : FVec Ideal Cert.Pre_finite5.S1x32x128x2x64 .f32)
    (sk : FVec Ideal Cert.Pre_finite5.S1x8 .f32) (h : Cert.Pre_finite5.fn (F := Ideal) z ck cv sk = fun _ => 1#1) :
    (∀ i f, f.val < 640 → IsReal (z (ix2 i f))) ∧ (∀ i, IsReal (ck i)) ∧ ∀ i, IsReal (sk i) := by
  have e := congrFun h (Shape.Idx.first Cert.Pre_finite5.Facts.h_S_)
  unfold Cert.Pre_finite5.fn at e
  dsimp only at e
  obtain ⟨e12, e3⟩ := IntOp.andi_eq_one.1 e
  obtain ⟨e1, e2⟩ := IntOp.andi_eq_one.1 e12
  refine ⟨fun i f hf => ?_, fun i => real_of_abs _ (Host.reduce_andi_all _ _ _ _ _ e2 i),
    fun i => real_of_abs _ (Host.reduce_andi_all _ _ _ _ _ e3 i)⟩
  have e := real_of_abs _ (Host.reduce_andi_all _ _ _ _ _ e1 (ix2 i ⟨f.val, hf⟩))
  refine (congrArg (fun k => IsReal (z k)) (funext fun a => ?_)).mp e
  match a with
  | ⟨0, _⟩ => exact Fin.ext (Nat.zero_add _)
  | ⟨1, _⟩ => exact Fin.ext (Nat.zero_add _)

/-- A row of the flat result, by sequence and token, and a column, by head and lane. -/
theorem rowSplit (i : Fin 512) : ∃ (b : Fin 32) (t : Fin 16), i = ⟨16 * b.val + t.val, by omega⟩ :=
  ⟨⟨i.val / 16, by omega⟩, ⟨i.val % 16, by omega⟩, Fin.ext (by show i.val = 16 * (i.val / 16) + i.val % 16; omega)⟩

theorem colSplit (f : Fin 512) : ∃ (h : Fin 8) (d : Fin 64), f = Cert.Kernel5Ideal.Attn.feat h d :=
  ⟨⟨f.val / 64, by omega⟩, ⟨f.val % 64, by omega⟩, Fin.ext (by show f.val = 64 * (f.val / 64) + f.val % 64; omega)⟩

theorem algebraic_Kernel5 [Cert.Pre_finite5.Facts] : Cert.algebraic_Kernel5Ideal_Reference5Ideal_pre_finite5 := by
  intro m g m' g' hpre hargs
  refine ⟨fun c => (Cert.Kernel5Ideal.Gen.dats m 0 c).arrAt 5 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨h0, hk⟩ := h c
  obtain ⟨e0, e1, e2, e3⟩ := hargs c
  obtain ⟨rz, rk, rs⟩ := finite5_reads _ _ _ _ (hpre c)
  refine ⟨(h0.trans (Cert.Reference5Ideal.Read.val_main_v77_eq m' c)).trans ?_, hk⟩
  rw [e0, e1, e2, e3]
  funext i
  obtain ⟨b, t, hi⟩ := rowSplit (i 0)
  obtain ⟨n, d, hf⟩ := colSplit (i 1)
  have hi : i = ix2 ⟨16 * b.val + t.val, by omega⟩ (Cert.Kernel5Ideal.Attn.feat n d) := by
    funext a
    match a with
    | ⟨0, _⟩ => exact hi
    | ⟨1, _⟩ => exact hf
  rw [hi]
  exact (Cert.Reference5Ideal.Attn.v77_apply _ _ _ _ rz rk rs b t n d _ _ rfl rfl).trans (Cert.Kernel5Ideal.Attn.result5_apply m c b t n d).symm

end Cert.Proof

end
-- ==== Proof.lean ====
module

public import proofs.«01_k».proof.Proof.PoolClaim
public import proofs.«01_k».proof.Proof.ProjClaim
public import proofs.«01_k».proof.Proof.SampleClaim
public import proofs.«01_k».proof.Proof.SamplePoolClaim
public import proofs.«01_k».proof.Proof.AttnClaim
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference2Ideal.Run
public import proofs.«01_k».proof.Proof.Gen.Reference2Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference3Ideal.Run
public import proofs.«01_k».proof.Proof.Gen.Reference3Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference4Ideal.Run
public import proofs.«01_k».proof.Proof.Gen.Reference4Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, facts_finite5,
  frame_Kernel, frame_KernelIdeal, frame_ReferenceIdeal,
  frame_Kernel2, frame_Kernel2Ideal, frame_Reference2Ideal,
  frame_Kernel3, frame_Kernel3Ideal, frame_Reference3Ideal,
  frame_Kernel4, frame_Kernel4Ideal, frame_Reference4Ideal,
  frame_Kernel5, frame_Kernel5Ideal, @frame_Kernel5Ideal_finite5 facts_finite5,
  frame_Reference5Ideal, @frame_Reference5Ideal_finite5 facts_finite5,
  trivial, algebraic_Kernel, trivial, algebraic_Kernel2, trivial, algebraic_Kernel3, trivial, algebraic_Kernel4,
  trivial, @algebraic_Kernel5 facts_finite5⟩

end Cert.Proof

end
